-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v336_0)) (v1 : (c : Dev Cert.KernelIdeal.nD) → Buf (Elt Ideal) ((c.tc : Thread Cert.KernelIdeal.nD Cert.KernelIdeal.τ).loc Cert.KernelIdeal.main_v336_1)) (v2 : (c : Dev Cert.KernelIdeal.nD) → Buf (Elt Ideal) ((c.tc : Thread Cert.KernelIdeal.nD Cert.KernelIdeal.τ).loc Cert.KernelIdeal.main_v336_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v336_0) = v0 c
          ∧ r.2.mem ((c.tc : Thread Cert.KernelIdeal.nD Cert.KernelIdeal.τ).loc Cert.KernelIdeal.main_v336_1) = v1 c
          ∧ r.2.mem ((c.tc : Thread Cert.KernelIdeal.nD Cert.KernelIdeal.τ).loc Cert.KernelIdeal.main_v336_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_v90) = v1 c
          ∧ r.2.mem ((c.tc : Thread Cert.Reference2Ideal.nD Cert.Reference2Ideal.τ).loc Cert.Reference2Ideal.main_v92) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S4x4096x7440 : Shape := ⟨3, ![4, 4096, 7440]⟩
abbrev S128x4x7440 : Shape := ⟨3, ![128, 4, 7440]⟩
abbrev S16384x1024 : Shape := ⟨2, ![16384, 1024]⟩
abbrev S16 : Shape := ⟨1, ![16]⟩
abbrev S32x16 : Shape := ⟨2, ![32, 16]⟩
abbrev S4x4096x1152 : Shape := ⟨3, ![4, 4096, 1152]⟩
abbrev S_ : Shape := ⟨0, ![]⟩

class Facts : Prop where
  slices_S4x4096x7440_S4x4096x1152_0_0_4112 : S4x4096x7440.Slices ![0, 0, 4112] S4x4096x1152
  bcast_S_S4x4096x1152 : S_.BroadcastsInDim S4x4096x1152 (![] : Fin 0 → Fin S4x4096x1152.rank)
  reducesTo_S4x4096x1152_S_d0_1_2 : S4x4096x1152.ReducesTo [0, 1, 2] S_
  h_S_ : 0 < S_.numel
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S4x4096x7440 .f32) (main_arg1 : FVec F S128x4x7440 .f32) (main_arg2 : FVec F S16384x1024 .f32) (main_arg3 : FVec F S16 .f32) (main_arg4 : FVec F S32x16 .f32) : IVec S_ 1 :=
  let main_v0 : FVec F S4x4096x1152 .f32 := (extractStridedSlice S4x4096x1152 ![0, 0, 4112] · slices_S4x4096x7440_S4x4096x1152_0_0_4112) main_arg0
  let main_v1 : FVec F S4x4096x1152 .f32 := Host.absf main_v0
  let main_cst : FVec F S_ .f32 := constant S_ .f32 0x7F800000#32
  let main_v2 : FVec F S4x4096x1152 .f32 := broadcastInDim S4x4096x1152 ![] bcast_S_S4x4096x1152 main_cst
  let main_v3 : IVec S4x4096x1152 1 := cmpf .olt main_v1 main_v2
  let main_c : IVec S_ 1 := constantI S_ 1 1#1
  let main_v4 : IVec S_ 1 := (fun x v => Host.reduce IntOp.andi x v reducesTo_S4x4096x1152_S_d0_1_2 h_S_) main_v3 main_c
  let main_v5 : FVec F S16 .f32 := Host.absf main_arg3
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  let main_v10 : FVec F S32x16 .f32 := Host.absf main_arg4
  let main_cst_2 : FVec F S_ .f32 := constant S_ .f32 0x7F800000#32
  let main_v11 : FVec F S32x16 .f32 := broadcastInDim S32x16 ![] bcast_S_S32x16 main_cst_2
  let main_v12 : IVec S32x16 1 := cmpf .olt main_v10 main_v11
  let main_c_3 : IVec S_ 1 := constantI S_ 1 1#1
  let main_v13 : IVec S_ 1 := (fun x v => Host.reduce IntOp.andi x v reducesTo_S32x16_S_d0_1 h_S_) main_v12 main_c_3
  let main_v14 : IVec S_ 1 := andi main_v9 main_v13
  main_v14
-- ==== Kernel.lean ====
abbrev S4x4096x7440 : Shape := ⟨3, ![4, 4096, 7440]⟩
abbrev S128x4x7440 : Shape := ⟨3, ![128, 4, 7440]⟩
abbrev S16384x1024 : Shape := ⟨2, ![16384, 1024]⟩
abbrev S16 : Shape := ⟨1, ![16]⟩
abbrev S32x16 : Shape := ⟨2, ![32, 16]⟩
abbrev S16384x7440 : Shape := ⟨2, ![16384, 7440]⟩
abbrev S512x7440 : Shape := ⟨2, ![512, 7440]⟩
abbrev S16896x7440 : Shape := ⟨2, ![16896, 7440]⟩
abbrev S16896x4096 : Shape := ⟨2, ![16896, 4096]⟩
abbrev S16896x1024 : Shape := ⟨2, ![16896, 1024]⟩
abbrev S16896x2048 : Shape := ⟨2, ![16896, 2048]⟩
abbrev S16896x256 : Shape := ⟨2, ![16896, 256]⟩
abbrev S16896x7424 : Shape := ⟨2, ![16896, 7424]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8 : Shape := ⟨1, ![8]⟩
abbrev S8x1 : Shape := ⟨2, ![8, 1]⟩
abbrev S8x256 : Shape := ⟨2, ![8, 256]⟩
abbrev S264x256 : Shape := ⟨2, ![264, 256]⟩
abbrev S16x264x256 : Shape := ⟨3, ![16, 264, 256]⟩
abbrev S1x264x256 : Shape := ⟨3, ![1, 264, 256]⟩
abbrev S1x16 : Shape := ⟨2, ![1, 16]⟩
abbrev S16x1x1 : Shape := ⟨3, ![16, 1, 1]⟩
abbrev S4x128x128 : Shape := ⟨3, ![4, 128, 128]⟩
abbrev S512x1024 : Shape := ⟨2, ![512, 1024]⟩
abbrev S512x128 : Shape := ⟨2, ![512, 128]⟩
abbrev S128x128 : Shape := ⟨2, ![128, 128]⟩
abbrev S16x256x256 : Shape := ⟨3, ![16, 256, 256]⟩
abbrev S1x128x128 : Shape := ⟨3, ![1, 128, 128]⟩
abbrev S640x128 : Shape := ⟨2, ![640, 128]⟩
abbrev S256x128 : Shape := ⟨2, ![256, 128]⟩
abbrev S1x128x256 : Shape := ⟨3, ![1, 128, 256]⟩
abbrev S1 : Shape := ⟨1, ![1]⟩

abbrev nBuf : Space → Nat
  | .hbm => 483
  | .vmem => 21
  | .smem => 1
  | _ => 0

abbrev hbmTy0_0 (i : Nat) : BufTy := match i % 128 with
  | 0 => ⟨S4x4096x7440, .f32⟩
  | 1 => ⟨S128x4x7440, .f32⟩
  | 2 => ⟨S16384x1024, .f32⟩
  | 3 => ⟨S16, .f32⟩
  | 4 => ⟨S32x16, .f32⟩
  | 5 => ⟨S16384x7440, .f32⟩
  | 6 => ⟨S512x7440, .f32⟩
  | 7 => ⟨S16896x7440, .f32⟩
  | 8 => ⟨S16896x4096, .f32⟩
  | 9 => ⟨S16896x1024, .f32⟩
  | 10 => ⟨S16896x2048, .f32⟩
  | 11 => ⟨S16896x256, .f32⟩
  | 12 => ⟨S16896x7424, .f32⟩
  | 13 => ⟨S128, .i32⟩
  | 14 => ⟨S128x1, .i32⟩
  | 15 => ⟨S256, .i32⟩
  | 16 => ⟨S1x256, .i32⟩
  | 17 => ⟨S_, .i32⟩
  | 18 => ⟨S1x256, .i32⟩
  | 19 => ⟨S1x256, .i32⟩
  | 20 => ⟨S128x256, .i32⟩
  | 21 => ⟨S128x256, .i32⟩
  | 22 => ⟨S128x256, .i32⟩
  | 23 => ⟨S8, .i32⟩
  | 24 => ⟨S8x1, .i32⟩
  | 25 => ⟨S_, .i32⟩
  | 26 => ⟨S8x1, .i32⟩
  | 27 => ⟨S8x1, .i32⟩
  | 28 => ⟨S256, .i32⟩
  | 29 => ⟨S1x256, .i32⟩
  | 30 => ⟨S8x256, .i32⟩
  | 31 => ⟨S8x256, .i32⟩
  | 32 => ⟨S8x256, .i32⟩
  | 33 => ⟨S256, .i32⟩
  | 34 => ⟨S1x256, .i32⟩
  | 35 => ⟨S_, .i32⟩
  | 36 => ⟨S1x256, .i32⟩
  | 37 => ⟨S1x256, .i1⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S128x256, .i1⟩
  | 46 => ⟨S128x256, .i1⟩
  | 47 => ⟨S_, .i32⟩
  | 48 => ⟨S128x256, .i32⟩
  | 49 => ⟨S128x256, .i32⟩
  | 50 => ⟨S_, .i32⟩
  | 51 => ⟨S128x256, .i32⟩
  | 52 => ⟨S128x256, .i32⟩
  | 53 => ⟨S128x256, .f32⟩
  | 54 => ⟨S_, .f32⟩
  | 55 => ⟨S128x256, .f32⟩
  | 56 => ⟨S128x256, .f32⟩
  | 57 => ⟨S128x256, .f32⟩
  | 58 => ⟨S_, .f32⟩
  | 59 => ⟨S128x256, .f32⟩
  | 60 => ⟨S128x256, .f32⟩
  | 61 => ⟨S_, .f32⟩
  | 62 => ⟨S128x256, .f32⟩
  | 63 => ⟨S128x256, .f32⟩
  | 64 => ⟨S128x256, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i1⟩
  | 71 => ⟨S_, .i32⟩
  | 72 => ⟨S128x256, .i32⟩
  | 73 => ⟨S128x256, .i32⟩
  | 74 => ⟨S128x256, .i32⟩
  | 75 => ⟨S_, .i32⟩
  | 76 => ⟨S_, .i32⟩
  | 77 => ⟨S128x256, .i32⟩
  | 78 => ⟨S128x256, .i32⟩
  | 79 => ⟨S_, .i32⟩
  | 80 => ⟨S128x256, .i32⟩
  | 81 => ⟨S128x256, .i1⟩
  | 82 => ⟨S_, .i32⟩
  | 83 => ⟨S128x256, .i32⟩
  | 84 => ⟨S128x256, .i1⟩
  | 85 => ⟨S128x256, .i1⟩
  | 86 => ⟨S_, .i32⟩
  | 87 => ⟨S128x256, .i32⟩
  | 88 => ⟨S128x256, .i32⟩
  | 89 => ⟨S_, .i32⟩
  | 90 => ⟨S128x256, .i32⟩
  | 91 => ⟨S128x256, .i32⟩
  | 92 => ⟨S128x256, .f32⟩
  | 93 => ⟨S_, .f32⟩
  | 94 => ⟨S128x256, .f32⟩
  | 95 => ⟨S128x256, .f32⟩
  | 96 => ⟨S128x256, .f32⟩
  | 97 => ⟨S_, .f32⟩
  | 98 => ⟨S128x256, .f32⟩
  | 99 => ⟨S128x256, .f32⟩
  | 100 => ⟨S_, .f32⟩
  | 101 => ⟨S128x256, .f32⟩
  | 102 => ⟨S128x256, .f32⟩
  | 103 => ⟨S128x256, .i32⟩
  | 104 => ⟨S_, .i32⟩
  | 105 => ⟨S128x256, .i32⟩
  | 106 => ⟨S128x256, .i32⟩
  | 107 => ⟨S_, .i32⟩
  | 108 => ⟨S128x256, .i32⟩
  | 109 => ⟨S128x256, .i1⟩
  | 110 => ⟨S_, .i32⟩
  | 111 => ⟨S128x256, .i32⟩
  | 112 => ⟨S128x256, .i32⟩
  | 113 => ⟨S128x256, .i32⟩
  | 114 => ⟨S_, .i32⟩
  | 115 => ⟨S_, .i32⟩
  | 116 => ⟨S128x256, .i32⟩
  | 117 => ⟨S128x256, .i32⟩
  | 118 => ⟨S_, .i32⟩
  | 119 => ⟨S8x256, .i32⟩
  | 120 => ⟨S8x256, .i1⟩
  | 121 => ⟨S_, .i32⟩
  | 122 => ⟨S8x256, .i32⟩
  | 123 => ⟨S8x256, .i1⟩
  | 124 => ⟨S8x256, .i1⟩
  | 125 => ⟨S_, .i32⟩
  | 126 => ⟨S8x256, .i32⟩
  | 127 => ⟨S8x256, .i32⟩
  | _ => ⟨S4x4096x7440, .f32⟩

abbrev hbmTy0_1 (i : Nat) : BufTy := match i % 128 with
  | 0 => ⟨S_, .i32⟩
  | 1 => ⟨S8x256, .i32⟩
  | 2 => ⟨S8x256, .i32⟩
  | 3 => ⟨S8x256, .f32⟩
  | 4 => ⟨S_, .f32⟩
  | 5 => ⟨S8x256, .f32⟩
  | 6 => ⟨S8x256, .f32⟩
  | 7 => ⟨S8x256, .f32⟩
  | 8 => ⟨S_, .f32⟩
  | 9 => ⟨S8x256, .f32⟩
  | 10 => ⟨S8x256, .f32⟩
  | 11 => ⟨S_, .f32⟩
  | 12 => ⟨S8x256, .f32⟩
  | 13 => ⟨S8x256, .f32⟩
  | 14 => ⟨S8x256, .i32⟩
  | 15 => ⟨S_, .i32⟩
  | 16 => ⟨S8x256, .i32⟩
  | 17 => ⟨S8x256, .i32⟩
  | 18 => ⟨S_, .i32⟩
  | 19 => ⟨S8x256, .i32⟩
  | 20 => ⟨S8x256, .i1⟩
  | 21 => ⟨S_, .i32⟩
  | 22 => ⟨S8x256, .i32⟩
  | 23 => ⟨S8x256, .i32⟩
  | 24 => ⟨S8x256, .i32⟩
  | 25 => ⟨S_, .i32⟩
  | 26 => ⟨S_, .i32⟩
  | 27 => ⟨S8x256, .i32⟩
  | 28 => ⟨S8x256, .i32⟩
  | 29 => ⟨S264x256, .i32⟩
  | 30 => ⟨S_, .f32⟩
  | 31 => ⟨S16x264x256, .f32⟩
  | 32 => ⟨S1x264x256, .i32⟩
  | 33 => ⟨S_, .i32⟩
  | 34 => ⟨S1x264x256, .i32⟩
  | 35 => ⟨S1x264x256, .i1⟩
  | 36 => ⟨S1x16, .f32⟩
  | 37 => ⟨S16, .f32⟩
  | 38 => ⟨S16x1x1, .f32⟩
  | 39 => ⟨S16x264x256, .i1⟩
  | 40 => ⟨S16x264x256, .f32⟩
  | 41 => ⟨S16x264x256, .f32⟩
  | 42 => ⟨S1x264x256, .i32⟩
  | 43 => ⟨S_, .i32⟩
  | 44 => ⟨S1x264x256, .i32⟩
  | 45 => ⟨S1x264x256, .i1⟩
  | 46 => ⟨S1x16, .f32⟩
  | 47 => ⟨S16, .f32⟩
  | 48 => ⟨S16x1x1, .f32⟩
  | 49 => ⟨S16x264x256, .i1⟩
  | 50 => ⟨S16x264x256, .f32⟩
  | 51 => ⟨S16x264x256, .f32⟩
  | 52 => ⟨S1x264x256, .i32⟩
  | 53 => ⟨S_, .i32⟩
  | 54 => ⟨S1x264x256, .i32⟩
  | 55 => ⟨S1x264x256, .i1⟩
  | 56 => ⟨S1x16, .f32⟩
  | 57 => ⟨S16, .f32⟩
  | 58 => ⟨S16x1x1, .f32⟩
  | 59 => ⟨S16x264x256, .i1⟩
  | 60 => ⟨S16x264x256, .f32⟩
  | 61 => ⟨S16x264x256, .f32⟩
  | 62 => ⟨S1x264x256, .i32⟩
  | 63 => ⟨S_, .i32⟩
  | 64 => ⟨S1x264x256, .i32⟩
  | 65 => ⟨S1x264x256, .i1⟩
  | 66 => ⟨S1x16, .f32⟩
  | 67 => ⟨S16, .f32⟩
  | 68 => ⟨S16x1x1, .f32⟩
  | 69 => ⟨S16x264x256, .i1⟩
  | 70 => ⟨S16x264x256, .f32⟩
  | 71 => ⟨S16x264x256, .f32⟩
  | 72 => ⟨S1x264x256, .i32⟩
  | 73 => ⟨S_, .i32⟩
  | 74 => ⟨S1x264x256, .i32⟩
  | 75 => ⟨S1x264x256, .i1⟩
  | 76 => ⟨S1x16, .f32⟩
  | 77 => ⟨S16, .f32⟩
  | 78 => ⟨S16x1x1, .f32⟩
  | 79 => ⟨S16x264x256, .i1⟩
  | 80 => ⟨S16x264x256, .f32⟩
  | 81 => ⟨S16x264x256, .f32⟩
  | 82 => ⟨S1x264x256, .i32⟩
  | 83 => ⟨S_, .i32⟩
  | 84 => ⟨S1x264x256, .i32⟩
  | 85 => ⟨S1x264x256, .i1⟩
  | 86 => ⟨S1x16, .f32⟩
  | 87 => ⟨S16, .f32⟩
  | 88 => ⟨S16x1x1, .f32⟩
  | 89 => ⟨S16x264x256, .i1⟩
  | 90 => ⟨S16x264x256, .f32⟩
  | 91 => ⟨S16x264x256, .f32⟩
  | 92 => ⟨S1x264x256, .i32⟩
  | 93 => ⟨S_, .i32⟩
  | 94 => ⟨S1x264x256, .i32⟩
  | 95 => ⟨S1x264x256, .i1⟩
  | 96 => ⟨S1x16, .f32⟩
  | 97 => ⟨S16, .f32⟩
  | 98 => ⟨S16x1x1, .f32⟩
  | 99 => ⟨S16x264x256, .i1⟩
  | 100 => ⟨S16x264x256, .f32⟩
  | 101 => ⟨S16x264x256, .f32⟩
  | 102 => ⟨S1x264x256, .i32⟩
  | 103 => ⟨S_, .i32⟩
  | 104 => ⟨S1x264x256, .i32⟩
  | 105 => ⟨S1x264x256, .i1⟩
  | 106 => ⟨S1x16, .f32⟩
  | 107 => ⟨S16, .f32⟩
  | 108 => ⟨S16x1x1, .f32⟩
  | 109 => ⟨S16x264x256, .i1⟩
  | 110 => ⟨S16x264x256, .f32⟩
  | 111 => ⟨S16x264x256, .f32⟩
  | 112 => ⟨S1x264x256, .i32⟩
  | 113 => ⟨S_, .i32⟩
  | 114 => ⟨S1x264x256, .i32⟩
  | 115 => ⟨S1x264x256, .i1⟩
  | 116 => ⟨S1x16, .f32⟩
  | 117 => ⟨S16, .f32⟩
  | 118 => ⟨S16x1x1, .f32⟩
  | 119 => ⟨S16x264x256, .i1⟩
  | 120 => ⟨S16x264x256, .f32⟩
  | 121 => ⟨S16x264x256, .f32⟩
  | 122 => ⟨S1x264x256, .i32⟩
  | 123 => ⟨S_, .i32⟩
  | 124 => ⟨S1x264x256, .i32⟩
  | 125 => ⟨S1x264x256, .i1⟩
  | 126 => ⟨S1x16, .f32⟩
  | 127 => ⟨S16, .f32⟩
  | _ => ⟨S4x4096x7440, .f32⟩

abbrev hbmTy0_2 (i : Nat) : BufTy := match i % 128 with
  | 0 => ⟨S16x1x1, .f32⟩
  | 1 => ⟨S16x264x256, .i1⟩
  | 2 => ⟨S16x264x256, .f32⟩
  | 3 => ⟨S16x264x256, .f32⟩
  | 4 => ⟨S1x264x256, .i32⟩
  | 5 => ⟨S_, .i32⟩
  | 6 => ⟨S1x264x256, .i32⟩
  | 7 => ⟨S1x264x256, .i1⟩
  | 8 => ⟨S1x16, .f32⟩
  | 9 => ⟨S16, .f32⟩
  | 10 => ⟨S16x1x1, .f32⟩
  | 11 => ⟨S16x264x256, .i1⟩
  | 12 => ⟨S16x264x256, .f32⟩
  | 13 => ⟨S16x264x256, .f32⟩
  | 14 => ⟨S1x264x256, .i32⟩
  | 15 => ⟨S_, .i32⟩
  | 16 => ⟨S1x264x256, .i32⟩
  | 17 => ⟨S1x264x256, .i1⟩
  | 18 => ⟨S1x16, .f32⟩
  | 19 => ⟨S16, .f32⟩
  | 20 => ⟨S16x1x1, .f32⟩
  | 21 => ⟨S16x264x256, .i1⟩
  | 22 => ⟨S16x264x256, .f32⟩
  | 23 => ⟨S16x264x256, .f32⟩
  | 24 => ⟨S1x264x256, .i32⟩
  | 25 => ⟨S_, .i32⟩
  | 26 => ⟨S1x264x256, .i32⟩
  | 27 => ⟨S1x264x256, .i1⟩
  | 28 => ⟨S1x16, .f32⟩
  | 29 => ⟨S16, .f32⟩
  | 30 => ⟨S16x1x1, .f32⟩
  | 31 => ⟨S16x264x256, .i1⟩
  | 32 => ⟨S16x264x256, .f32⟩
  | 33 => ⟨S16x264x256, .f32⟩
  | 34 => ⟨S1x264x256, .i32⟩
  | 35 => ⟨S_, .i32⟩
  | 36 => ⟨S1x264x256, .i32⟩
  | 37 => ⟨S1x264x256, .i1⟩
  | 38 => ⟨S1x16, .f32⟩
  | 39 => ⟨S16, .f32⟩
  | 40 => ⟨S16x1x1, .f32⟩
  | 41 => ⟨S16x264x256, .i1⟩
  | 42 => ⟨S16x264x256, .f32⟩
  | 43 => ⟨S16x264x256, .f32⟩
  | 44 => ⟨S1x264x256, .i32⟩
  | 45 => ⟨S_, .i32⟩
  | 46 => ⟨S1x264x256, .i32⟩
  | 47 => ⟨S1x264x256, .i1⟩
  | 48 => ⟨S1x16, .f32⟩
  | 49 => ⟨S16, .f32⟩
  | 50 => ⟨S16x1x1, .f32⟩
  | 51 => ⟨S16x264x256, .i1⟩
  | 52 => ⟨S16x264x256, .f32⟩
  | 53 => ⟨S16x264x256, .f32⟩
  | 54 => ⟨S1x264x256, .i32⟩
  | 55 => ⟨S_, .i32⟩
  | 56 => ⟨S1x264x256, .i32⟩
  | 57 => ⟨S1x264x256, .i1⟩
  | 58 => ⟨S1x16, .f32⟩
  | 59 => ⟨S16, .f32⟩
  | 60 => ⟨S16x1x1, .f32⟩
  | 61 => ⟨S16x264x256, .i1⟩
  | 62 => ⟨S16x264x256, .f32⟩
  | 63 => ⟨S16x264x256, .f32⟩
  | 64 => ⟨S1x264x256, .i32⟩
  | 65 => ⟨S_, .i32⟩
  | 66 => ⟨S1x264x256, .i32⟩
  | 67 => ⟨S1x264x256, .i1⟩
  | 68 => ⟨S1x16, .f32⟩
  | 69 => ⟨S16, .f32⟩
  | 70 => ⟨S16x1x1, .f32⟩
  | 71 => ⟨S16x264x256, .i1⟩
  | 72 => ⟨S16x264x256, .f32⟩
  | 73 => ⟨S16x264x256, .f32⟩
  | 74 => ⟨S1x264x256, .i32⟩
  | 75 => ⟨S_, .i32⟩
  | 76 => ⟨S1x264x256, .i32⟩
  | 77 => ⟨S1x264x256, .i1⟩
  | 78 => ⟨S1x16, .f32⟩
  | 79 => ⟨S16, .f32⟩
  | 80 => ⟨S16x1x1, .f32⟩
  | 81 => ⟨S16x264x256, .i1⟩
  | 82 => ⟨S16x264x256, .f32⟩
  | 83 => ⟨S16x264x256, .f32⟩
  | 84 => ⟨S1x264x256, .i32⟩
  | 85 => ⟨S_, .i32⟩
  | 86 => ⟨S1x264x256, .i32⟩
  | 87 => ⟨S1x264x256, .i1⟩
  | 88 => ⟨S1x16, .f32⟩
  | 89 => ⟨S16, .f32⟩
  | 90 => ⟨S16x1x1, .f32⟩
  | 91 => ⟨S16x264x256, .i1⟩
  | 92 => ⟨S16x264x256, .f32⟩
  | 93 => ⟨S16x264x256, .f32⟩
  | 94 => ⟨S1x264x256, .i32⟩
  | 95 => ⟨S_, .i32⟩
  | 96 => ⟨S1x264x256, .i32⟩
  | 97 => ⟨S1x264x256, .i1⟩
  | 98 => ⟨S1x16, .f32⟩
  | 99 => ⟨S16, .f32⟩
  | 100 => ⟨S16x1x1, .f32⟩
  | 101 => ⟨S16x264x256, .i1⟩
  | 102 => ⟨S16x264x256, .f32⟩
  | 103 => ⟨S16x264x256, .f32⟩
  | 104 => ⟨S1x264x256, .i32⟩
  | 105 => ⟨S_, .i32⟩
  | 106 => ⟨S1x264x256, .i32⟩
  | 107 => ⟨S1x264x256, .i1⟩
  | 108 => ⟨S1x16, .f32⟩
  | 109 => ⟨S16, .f32⟩
  | 110 => ⟨S16x1x1, .f32⟩
  | 111 => ⟨S16x264x256, .i1⟩
  | 112 => ⟨S16x264x256, .f32⟩
  | 113 => ⟨S16x264x256, .f32⟩
  | 114 => ⟨S1x264x256, .i32⟩
  | 115 => ⟨S_, .i32⟩
  | 116 => ⟨S1x264x256, .i32⟩
  | 117 => ⟨S1x264x256, .i1⟩
  | 118 => ⟨S1x16, .f32⟩
  | 119 => ⟨S16, .f32⟩
  | 120 => ⟨S16x1x1, .f32⟩
  | 121 => ⟨S16x264x256, .i1⟩
  | 122 => ⟨S16x264x256, .f32⟩
  | 123 => ⟨S16x264x256, .f32⟩
  | 124 => ⟨S1x264x256, .i32⟩
  | 125 => ⟨S_, .i32⟩
  | 126 => ⟨S1x264x256, .i32⟩
  | 127 => ⟨S1x264x256, .i1⟩
  | _ => ⟨S4x4096x7440, .f32⟩

abbrev hbmTy0_3 (i : Nat) : BufTy := match i % 128 with
  | 0 => ⟨S1x16, .f32⟩
  | 1 => ⟨S16, .f32⟩
  | 2 => ⟨S16x1x1, .f32⟩
  | 3 => ⟨S16x264x256, .i1⟩
  | 4 => ⟨S16x264x256, .f32⟩
  | 5 => ⟨S16x264x256, .f32⟩
  | 6 => ⟨S1x264x256, .i32⟩
  | 7 => ⟨S_, .i32⟩
  | 8 => ⟨S1x264x256, .i32⟩
  | 9 => ⟨S1x264x256, .i1⟩
  | 10 => ⟨S1x16, .f32⟩
  | 11 => ⟨S16, .f32⟩
  | 12 => ⟨S16x1x1, .f32⟩
  | 13 => ⟨S16x264x256, .i1⟩
  | 14 => ⟨S16x264x256, .f32⟩
  | 15 => ⟨S16x264x256, .f32⟩
  | 16 => ⟨S1x264x256, .i32⟩
  | 17 => ⟨S_, .i32⟩
  | 18 => ⟨S1x264x256, .i32⟩
  | 19 => ⟨S1x264x256, .i1⟩
  | 20 => ⟨S1x16, .f32⟩
  | 21 => ⟨S16, .f32⟩
  | 22 => ⟨S16x1x1, .f32⟩
  | 23 => ⟨S16x264x256, .i1⟩
  | 24 => ⟨S16x264x256, .f32⟩
  | 25 => ⟨S16x264x256, .f32⟩
  | 26 => ⟨S1x264x256, .i32⟩
  | 27 => ⟨S_, .i32⟩
  | 28 => ⟨S1x264x256, .i32⟩
  | 29 => ⟨S1x264x256, .i1⟩
  | 30 => ⟨S1x16, .f32⟩
  | 31 => ⟨S16, .f32⟩
  | 32 => ⟨S16x1x1, .f32⟩
  | 33 => ⟨S16x264x256, .i1⟩
  | 34 => ⟨S16x264x256, .f32⟩
  | 35 => ⟨S16x264x256, .f32⟩
  | 36 => ⟨S1x264x256, .i32⟩
  | 37 => ⟨S_, .i32⟩
  | 38 => ⟨S1x264x256, .i32⟩
  | 39 => ⟨S1x264x256, .i1⟩
  | 40 => ⟨S1x16, .f32⟩
  | 41 => ⟨S16, .f32⟩
  | 42 => ⟨S16x1x1, .f32⟩
  | 43 => ⟨S16x264x256, .i1⟩
  | 44 => ⟨S16x264x256, .f32⟩
  | 45 => ⟨S16x264x256, .f32⟩
  | 46 => ⟨S1x264x256, .i32⟩
  | 47 => ⟨S_, .i32⟩
  | 48 => ⟨S1x264x256, .i32⟩
  | 49 => ⟨S1x264x256, .i1⟩
  | 50 => ⟨S1x16, .f32⟩
  | 51 => ⟨S16, .f32⟩
  | 52 => ⟨S16x1x1, .f32⟩
  | 53 => ⟨S16x264x256, .i1⟩
  | 54 => ⟨S16x264x256, .f32⟩
  | 55 => ⟨S16x264x256, .f32⟩
  | 56 => ⟨S1x264x256, .i32⟩
  | 57 => ⟨S_, .i32⟩
  | 58 => ⟨S1x264x256, .i32⟩
  | 59 => ⟨S1x264x256, .i1⟩
  | 60 => ⟨S1x16, .f32⟩
  | 61 => ⟨S16, .f32⟩
  | 62 => ⟨S16x1x1, .f32⟩
  | 63 => ⟨S16x264x256, .i1⟩
  | 64 => ⟨S16x264x256, .f32⟩
  | 65 => ⟨S16x264x256, .f32⟩
  | 66 => ⟨S1x264x256, .i32⟩
  | 67 => ⟨S_, .i32⟩
  | 68 => ⟨S1x264x256, .i32⟩
  | 69 => ⟨S1x264x256, .i1⟩
  | 70 => ⟨S1x16, .f32⟩
  | 71 => ⟨S16, .f32⟩
  | 72 => ⟨S16x1x1, .f32⟩
  | 73 => ⟨S16x264x256, .i1⟩
  | 74 => ⟨S16x264x256, .f32⟩
  | 75 => ⟨S16x264x256, .f32⟩
  | 76 => ⟨S1x264x256, .i32⟩
  | 77 => ⟨S_, .i32⟩
  | 78 => ⟨S1x264x256, .i32⟩
  | 79 => ⟨S1x264x256, .i1⟩
  | 80 => ⟨S1x16, .f32⟩
  | 81 => ⟨S16, .f32⟩
  | 82 => ⟨S16x1x1, .f32⟩
  | 83 => ⟨S16x264x256, .i1⟩
  | 84 => ⟨S16x264x256, .f32⟩
  | 85 => ⟨S16x264x256, .f32⟩
  | 86 => ⟨S1x264x256, .i32⟩
  | 87 => ⟨S_, .i32⟩
  | 88 => ⟨S1x264x256, .i32⟩
  | 89 => ⟨S1x264x256, .i1⟩
  | 90 => ⟨S1x16, .f32⟩
  | 91 => ⟨S16, .f32⟩
  | 92 => ⟨S16x1x1, .f32⟩
  | 93 => ⟨S16x264x256, .i1⟩
  | 94 => ⟨S16x264x256, .f32⟩
  | 95 => ⟨S16x264x256, .f32⟩
  | 96 => ⟨S16384x1024, .f32⟩
  | 97 => ⟨S4x128x128, .f32⟩
  | 98 => ⟨S4x128x128, .f32⟩
  | _ => ⟨S4x4096x7440, .f32⟩

abbrev hbmTy (i : Nat) : BufTy := match i / 128 with
  | 0 => hbmTy0_0 i
  | 1 => hbmTy0_1 i
  | 2 => hbmTy0_2 i
  | 3 => hbmTy0_3 i
  | _ => ⟨S4x4096x7440, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | .local _ .vmem, ⟨6, _⟩ => ⟨S512x128, .f32⟩
  | .local _ .vmem, ⟨7, _⟩ => ⟨S512x128, .f32⟩
  | .local _ .vmem, ⟨8, _⟩ => ⟨S128x128, .f32⟩
  | .local _ .vmem, ⟨9, _⟩ => ⟨S128x128, .f32⟩
  | .local _ .vmem, ⟨10, _⟩ => ⟨S16x256x256, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .smem, ⟨0, _⟩ => ⟨S16, .f32⟩
  | _, _ => ⟨S4x4096x7440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_c_9 : Ref sig .tc := ⟨.hbm, 68, rfl⟩
abbrev main_v52 : Ref sig .tc := ⟨.hbm, 69, rfl⟩
abbrev main_v53 : Ref sig .tc := ⟨.hbm, 70, rfl⟩
abbrev main_c_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_11 : Ref sig .tc := ⟨.hbm, 75, rfl⟩
abbrev main_call1_v0 : Ref sig .tc := ⟨.hbm, 76, rfl⟩
abbrev main_call1_v1 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_14 : Ref sig .tc := ⟨.hbm, 86, rfl⟩
abbrev main_v63 : Ref sig .tc := ⟨.hbm, 87, rfl⟩
abbrev main_v64 : Ref sig .tc := ⟨.hbm, 88, rfl⟩
abbrev main_c_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_16 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_19 : Ref sig .tc := ⟨.hbm, 104, rfl⟩
abbrev main_v76 : Ref sig .tc := ⟨.hbm, 105, rfl⟩
abbrev main_v77 : Ref sig .tc := ⟨.hbm, 106, rfl⟩
abbrev main_c_20 : Ref sig .tc := ⟨.hbm, 107, rfl⟩
abbrev main_v78 : Ref sig .tc := ⟨.hbm, 108, rfl⟩
abbrev main_v79 : Ref sig .tc := ⟨.hbm, 109, rfl⟩
abbrev main_c_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_22 : Ref sig .tc := ⟨.hbm, 114, rfl⟩
abbrev main_call3_v0 : Ref sig .tc := ⟨.hbm, 115, rfl⟩
abbrev main_call3_v1 : Ref sig .tc := ⟨.hbm, 116, rfl⟩
abbrev main_v83 : Ref sig .tc := ⟨.hbm, 117, rfl⟩
abbrev main_c_23 : Ref sig .tc := ⟨.hbm, 118, rfl⟩
abbrev main_v84 : Ref sig .tc := ⟨.hbm, 119, rfl⟩
abbrev main_v85 : Ref sig .tc := ⟨.hbm, 120, rfl⟩
abbrev main_c_24 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_25 : Ref sig .tc := ⟨.hbm, 125, rfl⟩
abbrev main_v89 : Ref sig .tc := ⟨.hbm, 126, rfl⟩
abbrev main_v90 : Ref sig .tc := ⟨.hbm, 127, rfl⟩
abbrev main_c_26 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_27 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_28 : Ref sig .tc := ⟨.hbm, 136, rfl⟩
abbrev main_v97 : Ref sig .tc := ⟨.hbm, 137, rfl⟩
abbrev main_v98 : Ref sig .tc := ⟨.hbm, 138, rfl⟩
abbrev main_cst_29 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_30 : Ref sig .tc := ⟨.hbm, 143, rfl⟩
abbrev main_v102 : Ref sig .tc := ⟨.hbm, 144, rfl⟩
abbrev main_v103 : Ref sig .tc := ⟨.hbm, 145, rfl⟩
abbrev main_c_31 : Ref sig .tc := ⟨.hbm, 146, rfl⟩
abbrev main_v104 : Ref sig .tc := ⟨.hbm, 147, rfl⟩
abbrev main_v105 : Ref sig .tc := ⟨.hbm, 148, rfl⟩
abbrev main_c_32 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_c_33 : Ref sig .tc := ⟨.hbm, 153, rfl⟩
abbrev main_call5_v0 : Ref sig .tc := ⟨.hbm, 154, rfl⟩
abbrev main_call5_v1 : Ref sig .tc := ⟨.hbm, 155, rfl⟩
abbrev main_v109 : Ref sig .tc := ⟨.hbm, 156, rfl⟩
abbrev main_v110 : Ref sig .tc := ⟨.hbm, 157, rfl⟩
abbrev main_cst_34 : Ref sig .tc := ⟨.hbm, 158, rfl⟩
abbrev main_v111 : Ref sig .tc := ⟨.hbm, 159, rfl⟩
abbrev main_v112 : Ref sig .tc := ⟨.hbm, 160, rfl⟩
abbrev main_c_35 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_call6_v0 : Ref sig .tc := ⟨.hbm, 167, rfl⟩
abbrev main_call6_v1 : Ref sig .tc := ⟨.hbm, 168, rfl⟩
abbrev main_v118 : Ref sig .tc := ⟨.hbm, 169, rfl⟩
abbrev main_v119 : Ref sig .tc := ⟨.hbm, 170, rfl⟩
abbrev main_c_36 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_call7_v0 : Ref sig .tc := ⟨.hbm, 177, rfl⟩
abbrev main_call7_v1 : Ref sig .tc := ⟨.hbm, 178, rfl⟩
abbrev main_v125 : Ref sig .tc := ⟨.hbm, 179, rfl⟩
abbrev main_v126 : Ref sig .tc := ⟨.hbm, 180, rfl⟩
abbrev main_c_37 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_call8_v0 : Ref sig .tc := ⟨.hbm, 187, rfl⟩
abbrev main_call8_v1 : Ref sig .tc := ⟨.hbm, 188, rfl⟩
abbrev main_v132 : Ref sig .tc := ⟨.hbm, 189, rfl⟩
abbrev main_v133 : Ref sig .tc := ⟨.hbm, 190, rfl⟩
abbrev main_c_38 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_call9_v0 : Ref sig .tc := ⟨.hbm, 197, rfl⟩
abbrev main_call9_v1 : Ref sig .tc := ⟨.hbm, 198, rfl⟩
abbrev main_v139 : Ref sig .tc := ⟨.hbm, 199, rfl⟩
abbrev main_v140 : Ref sig .tc := ⟨.hbm, 200, rfl⟩
abbrev main_c_39 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_call10_v0 : Ref sig .tc := ⟨.hbm, 207, rfl⟩
abbrev main_call10_v1 : Ref sig .tc := ⟨.hbm, 208, rfl⟩
abbrev main_v146 : Ref sig .tc := ⟨.hbm, 209, rfl⟩
abbrev main_v147 : Ref sig .tc := ⟨.hbm, 210, rfl⟩
abbrev main_c_40 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_call11_v0 : Ref sig .tc := ⟨.hbm, 217, rfl⟩
abbrev main_call11_v1 : Ref sig .tc := ⟨.hbm, 218, rfl⟩
abbrev main_v153 : Ref sig .tc := ⟨.hbm, 219, rfl⟩
abbrev main_v154 : Ref sig .tc := ⟨.hbm, 220, rfl⟩
abbrev main_c_41 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_call12_v0 : Ref sig .tc := ⟨.hbm, 227, rfl⟩
abbrev main_call12_v1 : Ref sig .tc := ⟨.hbm, 228, rfl⟩
abbrev main_v160 : Ref sig .tc := ⟨.hbm, 229, rfl⟩
abbrev main_v161 : Ref sig .tc := ⟨.hbm, 230, rfl⟩
abbrev main_c_42 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_call13_v0 : Ref sig .tc := ⟨.hbm, 237, rfl⟩
abbrev main_call13_v1 : Ref sig .tc := ⟨.hbm, 238, rfl⟩
abbrev main_v167 : Ref sig .tc := ⟨.hbm, 239, rfl⟩
abbrev main_v168 : Ref sig .tc := ⟨.hbm, 240, rfl⟩
abbrev main_c_43 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_call14_v0 : Ref sig .tc := ⟨.hbm, 247, rfl⟩
abbrev main_call14_v1 : Ref sig .tc := ⟨.hbm, 248, rfl⟩
abbrev main_v174 : Ref sig .tc := ⟨.hbm, 249, rfl⟩
abbrev main_v175 : Ref sig .tc := ⟨.hbm, 250, rfl⟩
abbrev main_c_44 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_call15_v0 : Ref sig .tc := ⟨.hbm, 257, rfl⟩
abbrev main_call15_v1 : Ref sig .tc := ⟨.hbm, 258, rfl⟩
abbrev main_v181 : Ref sig .tc := ⟨.hbm, 259, rfl⟩
abbrev main_v182 : Ref sig .tc := ⟨.hbm, 260, rfl⟩
abbrev main_c_45 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_call16_v0 : Ref sig .tc := ⟨.hbm, 267, rfl⟩
abbrev main_call16_v1 : Ref sig .tc := ⟨.hbm, 268, rfl⟩
abbrev main_v188 : Ref sig .tc := ⟨.hbm, 269, rfl⟩
abbrev main_v189 : Ref sig .tc := ⟨.hbm, 270, rfl⟩
abbrev main_c_46 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_call17_v0 : Ref sig .tc := ⟨.hbm, 277, rfl⟩
abbrev main_call17_v1 : Ref sig .tc := ⟨.hbm, 278, rfl⟩
abbrev main_v195 : Ref sig .tc := ⟨.hbm, 279, rfl⟩
abbrev main_v196 : Ref sig .tc := ⟨.hbm, 280, rfl⟩
abbrev main_c_47 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_call18_v0 : Ref sig .tc := ⟨.hbm, 287, rfl⟩
abbrev main_call18_v1 : Ref sig .tc := ⟨.hbm, 288, rfl⟩
abbrev main_v202 : Ref sig .tc := ⟨.hbm, 289, rfl⟩
abbrev main_v203 : Ref sig .tc := ⟨.hbm, 290, rfl⟩
abbrev main_c_48 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_call19_v0 : Ref sig .tc := ⟨.hbm, 297, rfl⟩
abbrev main_call19_v1 : Ref sig .tc := ⟨.hbm, 298, rfl⟩
abbrev main_v209 : Ref sig .tc := ⟨.hbm, 299, rfl⟩
abbrev main_v210 : Ref sig .tc := ⟨.hbm, 300, rfl⟩
abbrev main_c_49 : Ref sig .tc := ⟨.hbm, 301, rfl⟩
abbrev main_v211 : Ref sig .tc := ⟨.hbm, 302, rfl⟩
abbrev main_v212 : Ref sig .tc := ⟨.hbm, 303, rfl⟩
abbrev main_v213 : Ref sig .tc := ⟨.hbm, 304, rfl⟩
abbrev main_v214 : Ref sig .tc := ⟨.hbm, 305, rfl⟩
abbrev main_v215 : Ref sig .tc := ⟨.hbm, 306, rfl⟩
abbrev main_call20_v0 : Ref sig .tc := ⟨.hbm, 307, rfl⟩
abbrev main_call20_v1 : Ref sig .tc := ⟨.hbm, 308, rfl⟩
abbrev main_v216 : Ref sig .tc := ⟨.hbm, 309, rfl⟩
abbrev main_v217 : Ref sig .tc := ⟨.hbm, 310, rfl⟩
abbrev main_c_50 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_call21_v0 : Ref sig .tc := ⟨.hbm, 317, rfl⟩
abbrev main_call21_v1 : Ref sig .tc := ⟨.hbm, 318, rfl⟩
abbrev main_v223 : Ref sig .tc := ⟨.hbm, 319, rfl⟩
abbrev main_v224 : Ref sig .tc := ⟨.hbm, 320, rfl⟩
abbrev main_c_51 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_call22_v0 : Ref sig .tc := ⟨.hbm, 327, rfl⟩
abbrev main_call22_v1 : Ref sig .tc := ⟨.hbm, 328, rfl⟩
abbrev main_v230 : Ref sig .tc := ⟨.hbm, 329, rfl⟩
abbrev main_v231 : Ref sig .tc := ⟨.hbm, 330, rfl⟩
abbrev main_c_52 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_call23_v0 : Ref sig .tc := ⟨.hbm, 337, rfl⟩
abbrev main_call23_v1 : Ref sig .tc := ⟨.hbm, 338, rfl⟩
abbrev main_v237 : Ref sig .tc := ⟨.hbm, 339, rfl⟩
abbrev main_v238 : Ref sig .tc := ⟨.hbm, 340, rfl⟩
abbrev main_c_53 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_v242 : Ref sig .tc := ⟨.hbm, 345, rfl⟩
abbrev main_v243 : Ref sig .tc := ⟨.hbm, 346, rfl⟩
abbrev main_call24_v0 : Ref sig .tc := ⟨.hbm, 347, rfl⟩
abbrev main_call24_v1 : Ref sig .tc := ⟨.hbm, 348, rfl⟩
abbrev main_v244 : Ref sig .tc := ⟨.hbm, 349, rfl⟩
abbrev main_v245 : Ref sig .tc := ⟨.hbm, 350, rfl⟩
abbrev main_c_54 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_call25_v0 : Ref sig .tc := ⟨.hbm, 357, rfl⟩
abbrev main_call25_v1 : Ref sig .tc := ⟨.hbm, 358, rfl⟩
abbrev main_v251 : Ref sig .tc := ⟨.hbm, 359, rfl⟩
abbrev main_v252 : Ref sig .tc := ⟨.hbm, 360, rfl⟩
abbrev main_c_55 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_v257 : Ref sig .tc := ⟨.hbm, 366, rfl⟩
abbrev main_call26_v0 : Ref sig .tc := ⟨.hbm, 367, rfl⟩
abbrev main_call26_v1 : Ref sig .tc := ⟨.hbm, 368, rfl⟩
abbrev main_v258 : Ref sig .tc := ⟨.hbm, 369, rfl⟩
abbrev main_v259 : Ref sig .tc := ⟨.hbm, 370, rfl⟩
abbrev main_c_56 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_v263 : Ref sig .tc := ⟨.hbm, 375, rfl⟩
abbrev main_v264 : Ref sig .tc := ⟨.hbm, 376, rfl⟩
abbrev main_call27_v0 : Ref sig .tc := ⟨.hbm, 377, rfl⟩
abbrev main_call27_v1 : Ref sig .tc := ⟨.hbm, 378, rfl⟩
abbrev main_v265 : Ref sig .tc := ⟨.hbm, 379, rfl⟩
abbrev main_v266 : Ref sig .tc := ⟨.hbm, 380, rfl⟩
abbrev main_c_57 : Ref sig .tc := ⟨.hbm, 381, rfl⟩
abbrev main_v267 : Ref sig .tc := ⟨.hbm, 382, rfl⟩
abbrev main_v268 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_call28_v0 : Ref sig .tc := ⟨.hbm, 387, rfl⟩
abbrev main_call28_v1 : Ref sig .tc := ⟨.hbm, 388, rfl⟩
abbrev main_v272 : Ref sig .tc := ⟨.hbm, 389, rfl⟩
abbrev main_v273 : Ref sig .tc := ⟨.hbm, 390, rfl⟩
abbrev main_c_58 : Ref sig .tc := ⟨.hbm, 391, rfl⟩
abbrev main_v274 : Ref sig .tc := ⟨.hbm, 392, rfl⟩
abbrev main_v275 : Ref sig .tc := ⟨.hbm, 393, rfl⟩
abbrev main_v276 : Ref sig .tc := ⟨.hbm, 394, rfl⟩
abbrev main_v277 : Ref sig .tc := ⟨.hbm, 395, rfl⟩
abbrev main_v278 : Ref sig .tc := ⟨.hbm, 396, rfl⟩
abbrev main_call29_v0 : Ref sig .tc := ⟨.hbm, 397, rfl⟩
abbrev main_call29_v1 : Ref sig .tc := ⟨.hbm, 398, rfl⟩
abbrev main_v279 : Ref sig .tc := ⟨.hbm, 399, rfl⟩
abbrev main_v280 : Ref sig .tc := ⟨.hbm, 400, rfl⟩
abbrev main_c_59 : Ref sig .tc := ⟨.hbm, 401, rfl⟩
abbrev main_v281 : Ref sig .tc := ⟨.hbm, 402, rfl⟩
abbrev main_v282 : Ref sig .tc := ⟨.hbm, 403, rfl⟩
abbrev main_v283 : Ref sig .tc := ⟨.hbm, 404, rfl⟩
abbrev main_v284 : Ref sig .tc := ⟨.hbm, 405, rfl⟩
abbrev main_v285 : Ref sig .tc := ⟨.hbm, 406, rfl⟩
abbrev main_call30_v0 : Ref sig .tc := ⟨.hbm, 407, rfl⟩
abbrev main_call30_v1 : Ref sig .tc := ⟨.hbm, 408, rfl⟩
abbrev main_v286 : Ref sig .tc := ⟨.hbm, 409, rfl⟩
abbrev main_v287 : Ref sig .tc := ⟨.hbm, 410, rfl⟩
abbrev main_c_60 : Ref sig .tc := ⟨.hbm, 411, rfl⟩
abbrev main_v288 : Ref sig .tc := ⟨.hbm, 412, rfl⟩
abbrev main_v289 : Ref sig .tc := ⟨.hbm, 413, rfl⟩
abbrev main_v290 : Ref sig .tc := ⟨.hbm, 414, rfl⟩
abbrev main_v291 : Ref sig .tc := ⟨.hbm, 415, rfl⟩
abbrev main_v292 : Ref sig .tc := ⟨.hbm, 416, rfl⟩
abbrev main_call31_v0 : Ref sig .tc := ⟨.hbm, 417, rfl⟩
abbrev main_call31_v1 : Ref sig .tc := ⟨.hbm, 418, rfl⟩
abbrev main_v293 : Ref sig .tc := ⟨.hbm, 419, rfl⟩
abbrev main_v294 : Ref sig .tc := ⟨.hbm, 420, rfl⟩
abbrev main_c_61 : Ref sig .tc := ⟨.hbm, 421, rfl⟩
abbrev main_v295 : Ref sig .tc := ⟨.hbm, 422, rfl⟩
abbrev main_v296 : Ref sig .tc := ⟨.hbm, 423, rfl⟩
abbrev main_v297 : Ref sig .tc := ⟨.hbm, 424, rfl⟩
abbrev main_v298 : Ref sig .tc := ⟨.hbm, 425, rfl⟩
abbrev main_v299 : Ref sig .tc := ⟨.hbm, 426, rfl⟩
abbrev main_call32_v0 : Ref sig .tc := ⟨.hbm, 427, rfl⟩
abbrev main_call32_v1 : Ref sig .tc := ⟨.hbm, 428, rfl⟩
abbrev main_v300 : Ref sig .tc := ⟨.hbm, 429, rfl⟩
abbrev main_v301 : Ref sig .tc := ⟨.hbm, 430, rfl⟩
abbrev main_c_62 : Ref sig .tc := ⟨.hbm, 431, rfl⟩
abbrev main_v302 : Ref sig .tc := ⟨.hbm, 432, rfl⟩
abbrev main_v303 : Ref sig .tc := ⟨.hbm, 433, rfl⟩
abbrev main_v304 : Ref sig .tc := ⟨.hbm, 434, rfl⟩
abbrev main_v305 : Ref sig .tc := ⟨.hbm, 435, rfl⟩
abbrev main_v306 : Ref sig .tc := ⟨.hbm, 436, rfl⟩
abbrev main_call33_v0 : Ref sig .tc := ⟨.hbm, 437, rfl⟩
abbrev main_call33_v1 : Ref sig .tc := ⟨.hbm, 438, rfl⟩
abbrev main_v307 : Ref sig .tc := ⟨.hbm, 439, rfl⟩
abbrev main_v308 : Ref sig .tc := ⟨.hbm, 440, rfl⟩
abbrev main_c_63 : Ref sig .tc := ⟨.hbm, 441, rfl⟩
abbrev main_v309 : Ref sig .tc := ⟨.hbm, 442, rfl⟩
abbrev main_v310 : Ref sig .tc := ⟨.hbm, 443, rfl⟩
abbrev main_v311 : Ref sig .tc := ⟨.hbm, 444, rfl⟩
abbrev main_v312 : Ref sig .tc := ⟨.hbm, 445, rfl⟩
abbrev main_v313 : Ref sig .tc := ⟨.hbm, 446, rfl⟩
abbrev main_call34_v0 : Ref sig .tc := ⟨.hbm, 447, rfl⟩
abbrev main_call34_v1 : Ref sig .tc := ⟨.hbm, 448, rfl⟩
abbrev main_v314 : Ref sig .tc := ⟨.hbm, 449, rfl⟩
abbrev main_v315 : Ref sig .tc := ⟨.hbm, 450, rfl⟩
abbrev main_c_64 : Ref sig .tc := ⟨.hbm, 451, rfl⟩
abbrev main_v316 : Ref sig .tc := ⟨.hbm, 452, rfl⟩
abbrev main_v317 : Ref sig .tc := ⟨.hbm, 453, rfl⟩
abbrev main_v318 : Ref sig .tc := ⟨.hbm, 454, rfl⟩
abbrev main_v319 : Ref sig .tc := ⟨.hbm, 455, rfl⟩
abbrev main_v320 : Ref sig .tc := ⟨.hbm, 456, rfl⟩
abbrev main_call35_v0 : Ref sig .tc := ⟨.hbm, 457, rfl⟩
abbrev main_call35_v1 : Ref sig .tc := ⟨.hbm, 458, rfl⟩
abbrev main_v321 : Ref sig .tc := ⟨.hbm, 459, rfl⟩
abbrev main_v322 : Ref sig .tc := ⟨.hbm, 460, rfl⟩
abbrev main_c_65 : Ref sig .tc := ⟨.hbm, 461, rfl⟩
abbrev main_v323 : Ref sig .tc := ⟨.hbm, 462, rfl⟩
abbrev main_v324 : Ref sig .tc := ⟨.hbm, 463, rfl⟩
abbrev main_v325 : Ref sig .tc := ⟨.hbm, 464, rfl⟩
abbrev main_v326 : Ref sig .tc := ⟨.hbm, 465, rfl⟩
abbrev main_v327 : Ref sig .tc := ⟨.hbm, 466, rfl⟩
abbrev main_call36_v0 : Ref sig .tc := ⟨.hbm, 467, rfl⟩
abbrev main_call36_v1 : Ref sig .tc := ⟨.hbm, 468, rfl⟩
abbrev main_v328 : Ref sig .tc := ⟨.hbm, 469, rfl⟩
abbrev main_v329 : Ref sig .tc := ⟨.hbm, 470, rfl⟩
abbrev main_c_66 : Ref sig .tc := ⟨.hbm, 471, rfl⟩
abbrev main_v330 : Ref sig .tc := ⟨.hbm, 472, rfl⟩
abbrev main_v331 : Ref sig .tc := ⟨.hbm, 473, rfl⟩
abbrev main_v332 : Ref sig .tc := ⟨.hbm, 474, rfl⟩
abbrev main_v333 : Ref sig .tc := ⟨.hbm, 475, rfl⟩
abbrev main_v334 : Ref sig .tc := ⟨.hbm, 476, rfl⟩
abbrev main_call37_v0 : Ref sig .tc := ⟨.hbm, 477, rfl⟩
abbrev main_call37_v1 : Ref sig .tc := ⟨.hbm, 478, rfl⟩
abbrev main_v335 : Ref sig .tc := ⟨.hbm, 479, rfl⟩
abbrev main_v336_0 : Ref sig .tc := ⟨.hbm, 480, rfl⟩
abbrev main_v336_1 : Ref sig .tc := ⟨.hbm, 481, rfl⟩
abbrev main_v336_2 : Ref sig .tc := ⟨.hbm, 482, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  v40
def k0_off1 (i : grid0.Coords) : Fin 3 → Nat :=
  let c0_24 : Index := 0#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v51 : Index := Scalar.indexCast v41
  let c0_25 : Index := 0#32
  ![0, v51.toNat, 0]
def k0_off2 (i : grid0.Coords) : Fin 3 → Nat :=
  let c1 : Index := 1#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v82 : Index := Scalar.indexCast v41
  let c0_34 : Index := 0#32
  ![1, v82.toNat, 0]
def k0_off3 (i : grid0.Coords) : Fin 3 → Nat :=
  let c2 : Index := 2#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v130 : Index := Scalar.indexCast v41
  let c0_53 : Index := 0#32
  ![2, v130.toNat, 0]
def k0_off4 (i : grid0.Coords) : Fin 3 → Nat :=
  let c3 : Index := 3#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v161 : Index := Scalar.indexCast v41
  let c0_62 : Index := 0#32
  ![3, v161.toNat, 0]
def k0_off5 (i : grid0.Coords) : Fin 3 → Nat :=
  let c4 : Index := 4#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v209 : Index := Scalar.indexCast v41
  let c0_81 : Index := 0#32
  ![4, v209.toNat, 0]
def k0_off6 (i : grid0.Coords) : Fin 3 → Nat :=
  let c5 : Index := 5#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v240 : Index := Scalar.indexCast v41
  let c0_90 : Index := 0#32
  ![5, v240.toNat, 0]
def k0_off7 (i : grid0.Coords) : Fin 3 → Nat :=
  let c6 : Index := 6#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v288 : Index := Scalar.indexCast v41
  let c0_110 : Index := 0#32
  ![6, v288.toNat, 0]
def k0_off8 (i : grid0.Coords) : Fin 3 → Nat :=
  let c7 : Index := 7#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v319 : Index := Scalar.indexCast v41
  let c0_119 : Index := 0#32
  ![7, v319.toNat, 0]
def k0_off9 (i : grid0.Coords) : Fin 3 → Nat :=
  let c8 : Index := 8#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v367 : Index := Scalar.indexCast v41
  let c0_138 : Index := 0#32
  ![8, v367.toNat, 0]
def k0_off10 (i : grid0.Coords) : Fin 3 → Nat :=
  let c9 : Index := 9#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v398 : Index := Scalar.indexCast v41
  let c0_147 : Index := 0#32
  ![9, v398.toNat, 0]
def k0_off11 (i : grid0.Coords) : Fin 3 → Nat :=
  let c10 : Index := 10#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v446 : Index := Scalar.indexCast v41
  let c0_166 : Index := 0#32
  ![10, v446.toNat, 0]
def k0_off12 (i : grid0.Coords) : Fin 3 → Nat :=
  let c11 : Index := 11#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v477 : Index := Scalar.indexCast v41
  let c0_175 : Index := 0#32
  ![11, v477.toNat, 0]
def k0_off13 (i : grid0.Coords) : Fin 3 → Nat :=
  let c12 : Index := 12#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v525 : Index := Scalar.indexCast v41
  let c0_194 : Index := 0#32
  ![12, v525.toNat, 0]
def k0_off14 (i : grid0.Coords) : Fin 3 → Nat :=
  let c13 : Index := 13#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v556 : Index := Scalar.indexCast v41
  let c0_203 : Index := 0#32
  ![13, v556.toNat, 0]
def k0_off15 (i : grid0.Coords) : Fin 3 → Nat :=
  let c14 : Index := 14#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v604 : Index := Scalar.indexCast v41
  let c0_222 : Index := 0#32
  ![14, v604.toNat, 0]
def k0_off16 (i : grid0.Coords) : Fin 3 → Nat :=
  let c15 : Index := 15#32
  let arg1 : BitVec 32 := BitVec.ofNat 32 (i 1).val
  let c1_i32 : BitVec 32 := 1#32
  let v39 : BitVec 32 := Scalar.minsi arg1 c1_i32
  let c128_i32 : BitVec 32 := 128#32
  let v40 : BitVec 32 := Scalar.muli v39 c128_i32
  let v41 : BitVec 32 := v40
  let v635 : Index := Scalar.indexCast v41
  let c0_231 : Index := 0#32
  ![15, v635.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c56_i32 : BitVec 32 := 56#32
  let c0_i32 : BitVec 32 := 0#32
  ![v1.toNat, c56_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c56_i32 : BitVec 32 := 56#32
  let c0_i32_0 : BitVec 32 := 0#32
  ![v4.toNat, c56_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c57_i32 : BitVec 32 := 57#32
  let c0_i32 : BitVec 32 := 0#32
  ![v1.toNat, c57_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c57_i32 : BitVec 32 := 57#32
  let c0_i32_0 : BitVec 32 := 0#32
  ![v4.toNat, c57_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4x4096x7440 : Shape := ⟨3, ![4, 4096, 7440]⟩
abbrev S128x4x7440 : Shape := ⟨3, ![128, 4, 7440]⟩
abbrev S16384x1024 : Shape := ⟨2, ![16384, 1024]⟩
abbrev S16 : Shape := ⟨1, ![16]⟩
abbrev S32x16 : Shape := ⟨2, ![32, 16]⟩
abbrev S4x4096x1024 : Shape := ⟨3, ![4, 4096, 1024]⟩
abbrev S4x4096x8 : Shape := ⟨3, ![4, 4096, 8]⟩
abbrev S4x4096x128 : Shape := ⟨3, ![4, 4096, 128]⟩
abbrev S4x4096x2x8x64 : Shape := ⟨5, ![4, 4096, 2, 8, 64]⟩
abbrev S4x4096x2x64 : Shape := ⟨4, ![4, 4096, 2, 64]⟩
abbrev S4x32x128x2x8x64 : Shape := ⟨6, ![4, 32, 128, 2, 8, 64]⟩
abbrev S4x32x128x2x64 : Shape := ⟨5, ![4, 32, 128, 2, 64]⟩
abbrev S4x1x128x2x64 : Shape := ⟨5, ![4, 1, 128, 2, 64]⟩
abbrev S_ : Shape := ⟨0, ![]⟩
abbrev S4x31x128x2x64 : Shape := ⟨5, ![4, 31, 128, 2, 64]⟩
abbrev S4x32x256x2x64 : Shape := ⟨5, ![4, 32, 256, 2, 64]⟩
abbrev S256 : Shape := ⟨1, ![256]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S32 : Shape := ⟨1, ![32]⟩
abbrev S1x128x256 : Shape := ⟨3, ![1, 128, 256]⟩
abbrev S32x1x1 : Shape := ⟨3, ![32, 1, 1]⟩
abbrev S1x1x256 : Shape := ⟨3, ![1, 1, 256]⟩
abbrev S32x1x256 : Shape := ⟨3, ![32, 1, 256]⟩
abbrev S32x128x256 : Shape := ⟨3, ![32, 128, 256]⟩
abbrev S4x32x2x256x128x8 : Shape := ⟨6, ![4, 32, 2, 256, 128, 8]⟩
abbrev S4x32x2x8x128x256 : Shape := ⟨6, ![4, 32, 2, 8, 128, 256]⟩
abbrev S128x256x1 : Shape := ⟨3, ![128, 256, 1]⟩
abbrev S128x256x16 : Shape := ⟨3, ![128, 256, 16]⟩
abbrev S16x128x256 : Shape := ⟨3, ![16, 128, 256]⟩
abbrev S2x8x128x256 : Shape := ⟨4, ![2, 8, 128, 256]⟩
abbrev S1x32x1x1x128x256 : Shape := ⟨6, ![1, 32, 1, 1, 128, 256]⟩
abbrev S1x1x2x8x128x256 : Shape := ⟨6, ![1, 1, 2, 8, 128, 256]⟩
abbrev S1x1x2x8x1x1 : Shape := ⟨6, ![1, 1, 2, 8, 1, 1]⟩
abbrev S4x32x2x8x128 : Shape := ⟨5, ![4, 32, 2, 8, 128]⟩
abbrev S4x32x2x8x128x1 : Shape := ⟨6, ![4, 32, 2, 8, 128, 1]⟩
abbrev S4x32x2x64x8x128 : Shape := ⟨6, ![4, 32, 2, 64, 8, 128]⟩
abbrev S4x128x128 : Shape := ⟨3, ![4, 128, 128]⟩

abbrev nBuf : Space → Nat
  | .hbm => 155
  | .vmem => 0
  | .smem => 0
  | _ => 0

abbrev hbmTy0_0 (i : Nat) : BufTy := match i % 128 with
  | 0 => ⟨S4x4096x7440, .f32⟩
  | 1 => ⟨S128x4x7440, .f32⟩
  | 2 => ⟨S16384x1024, .f32⟩
  | 3 => ⟨S16, .f32⟩
  | 4 => ⟨S32x16, .f32⟩
  | 5 => ⟨S4x4096x1024, .f32⟩
  | 6 => ⟨S4x4096x1024, .f32⟩
  | 7 => ⟨S4x4096x1024, .f32⟩
  | 8 => ⟨S4x4096x1024, .f32⟩
  | 9 => ⟨S4x4096x8, .f32⟩
  | 10 => ⟨S4x4096x8, .f32⟩
  | 11 => ⟨S4x4096x1024, .f32⟩
  | 12 => ⟨S4x4096x128, .f32⟩
  | 13 => ⟨S4x4096x128, .f32⟩
  | 14 => ⟨S4x4096x1024, .f32⟩
  | 15 => ⟨S4x4096x1024, .f32⟩
  | 16 => ⟨S4x4096x2x8x64, .f32⟩
  | 17 => ⟨S4x4096x2x64, .f32⟩
  | 18 => ⟨S4x4096x2x64, .f32⟩
  | 19 => ⟨S4x32x128x2x8x64, .f32⟩
  | 20 => ⟨S4x32x128x2x64, .f32⟩
  | 21 => ⟨S4x32x128x2x64, .f32⟩
  | 22 => ⟨S4x1x128x2x64, .f32⟩
  | 23 => ⟨S_, .f32⟩
  | 24 => ⟨S4x1x128x2x64, .f32⟩
  | 25 => ⟨S4x31x128x2x64, .f32⟩
  | 26 => ⟨S4x32x128x2x64, .f32⟩
  | 27 => ⟨S4x32x256x2x64, .f32⟩
  | 28 => ⟨S4x1x128x2x64, .f32⟩
  | 29 => ⟨S_, .f32⟩
  | 30 => ⟨S4x1x128x2x64, .f32⟩
  | 31 => ⟨S4x31x128x2x64, .f32⟩
  | 32 => ⟨S4x32x128x2x64, .f32⟩
  | 33 => ⟨S4x32x256x2x64, .f32⟩
  | 34 => ⟨S256, .i32⟩
  | 35 => ⟨S_, .i32⟩
  | 36 => ⟨S256, .i32⟩
  | 37 => ⟨S256, .i32⟩
  | 38 => ⟨S128, .i32⟩
  | 39 => ⟨S128x1, .i32⟩
  | 40 => ⟨S1x256, .i32⟩
  | 41 => ⟨S128x256, .i32⟩
  | 42 => ⟨S128x256, .i32⟩
  | 43 => ⟨S128x256, .i32⟩
  | 44 => ⟨S32, .i32⟩
  | 45 => ⟨S_, .i32⟩
  | 46 => ⟨S32, .i32⟩
  | 47 => ⟨S32, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S1x128x256, .i1⟩
  | 56 => ⟨S32x1x1, .i32⟩
  | 57 => ⟨S1x1x256, .i32⟩
  | 58 => ⟨S32x1x256, .i32⟩
  | 59 => ⟨S32x1x256, .i32⟩
  | 60 => ⟨S32x1x256, .i32⟩
  | 61 => ⟨S_, .i32⟩
  | 62 => ⟨S32x1x256, .i32⟩
  | 63 => ⟨S32x1x256, .i1⟩
  | 64 => ⟨S32x128x256, .i1⟩
  | 65 => ⟨S32x128x256, .i1⟩
  | 66 => ⟨S32x128x256, .i1⟩
  | 67 => ⟨S4x32x2x256x128x8, .f32⟩
  | 68 => ⟨S4x32x2x8x128x256, .f32⟩
  | 69 => ⟨S_, .f32⟩
  | 70 => ⟨S4x32x2x8x128x256, .f32⟩
  | 71 => ⟨S4x32x2x8x128x256, .f32⟩
  | 72 => ⟨S_, .i32⟩
  | 73 => ⟨S128x256, .i32⟩
  | 74 => ⟨S128x256, .i32⟩
  | 75 => ⟨S_, .i32⟩
  | 76 => ⟨S128x256, .i32⟩
  | 77 => ⟨S128x256, .i32⟩
  | 78 => ⟨S128x256, .f32⟩
  | 79 => ⟨S_, .f32⟩
  | 80 => ⟨S128x256, .f32⟩
  | 81 => ⟨S128x256, .f32⟩
  | 82 => ⟨S128x256, .f32⟩
  | 83 => ⟨S_, .f32⟩
  | 84 => ⟨S128x256, .f32⟩
  | 85 => ⟨S128x256, .f32⟩
  | 86 => ⟨S_, .f32⟩
  | 87 => ⟨S128x256, .f32⟩
  | 88 => ⟨S128x256, .f32⟩
  | 89 => ⟨S128x256, .i32⟩
  | 90 => ⟨S_, .i32⟩
  | 91 => ⟨S128x256, .i32⟩
  | 92 => ⟨S128x256, .i32⟩
  | 93 => ⟨S_, .i32⟩
  | 94 => ⟨S128x256, .i32⟩
  | 95 => ⟨S128x256, .i1⟩
  | 96 => ⟨S_, .i32⟩
  | 97 => ⟨S128x256, .i32⟩
  | 98 => ⟨S128x256, .i32⟩
  | 99 => ⟨S128x256, .i32⟩
  | 100 => ⟨S_, .i32⟩
  | 101 => ⟨S128x256, .i32⟩
  | 102 => ⟨S128x256, .i1⟩
  | 103 => ⟨S_, .i32⟩
  | 104 => ⟨S128x256, .i32⟩
  | 105 => ⟨S128x256, .i32⟩
  | 106 => ⟨S128x256, .i32⟩
  | 107 => ⟨S128x256x1, .i32⟩
  | 108 => ⟨S128x256x16, .f32⟩
  | 109 => ⟨S16x128x256, .f32⟩
  | 110 => ⟨S2x8x128x256, .f32⟩
  | 111 => ⟨S1x32x1x1x128x256, .i1⟩
  | 112 => ⟨S1x1x2x8x128x256, .f32⟩
  | 113 => ⟨S4x32x2x8x128x256, .f32⟩
  | 114 => ⟨S4x32x2x8x128x256, .f32⟩
  | 115 => ⟨S_, .f32⟩
  | 116 => ⟨S_, .f32⟩
  | 117 => ⟨S4x32x2x8x128x256, .i1⟩
  | 118 => ⟨S4x32x2x8x128x256, .f32⟩
  | 119 => ⟨S4x32x2x8x128x256, .f32⟩
  | 120 => ⟨S1x1x2x8x1x1, .f32⟩
  | 121 => ⟨S_, .f32⟩
  | 122 => ⟨S4x32x2x8x128, .f32⟩
  | 123 => ⟨S4x32x2x8x128x1, .f32⟩
  | 124 => ⟨S4x32x2x8x128x1, .f32⟩
  | 125 => ⟨S4x32x2x8x128x1, .f32⟩
  | 126 => ⟨S4x32x2x8x128x256, .f32⟩
  | 127 => ⟨S4x32x2x8x128x256, .f32⟩
  | _ => ⟨S4x4096x7440, .f32⟩

abbrev hbmTy0_1 (i : Nat) : BufTy := match i % 128 with
  | 0 => ⟨S4x32x2x8x128x256, .f32⟩
  | 1 => ⟨S_, .f32⟩
  | 2 => ⟨S4x32x2x8x128, .f32⟩
  | 3 => ⟨S4x32x2x8x128x1, .f32⟩
  | 4 => ⟨S4x32x2x8x128x1, .f32⟩
  | 5 => ⟨S4x32x2x8x128x1, .f32⟩
  | 6 => ⟨S4x32x2x8x128x1, .f32⟩
  | 7 => ⟨S4x32x2x8x128x1, .f32⟩
  | 8 => ⟨S4x32x2x8x128x256, .f32⟩
  | 9 => ⟨S4x32x2x8x128x256, .f32⟩
  | 10 => ⟨S4x32x2x64x8x128, .f32⟩
  | 11 => ⟨S4x32x128x2x8x64, .f32⟩
  | 12 => ⟨S4x4096x1024, .f32⟩
  | 13 => ⟨S4x4096x1024, .f32⟩
  | 14 => ⟨S4x4096x1024, .f32⟩
  | 15 => ⟨S4x4096x1024, .f32⟩
  | 16 => ⟨S_, .f32⟩
  | 17 => ⟨S4x4096x1024, .f32⟩
  | 18 => ⟨S4x4096x1024, .f32⟩
  | 19 => ⟨S_, .f32⟩
  | 20 => ⟨S4x4096x1024, .f32⟩
  | 21 => ⟨S4x4096x1024, .f32⟩
  | 22 => ⟨S4x4096x1024, .f32⟩
  | 23 => ⟨S4x4096x1024, .f32⟩
  | 24 => ⟨S16384x1024, .f32⟩
  | 25 => ⟨S4x128x128, .f32⟩
  | 26 => ⟨S4x128x128, .f32⟩
  | _ => ⟨S4x4096x7440, .f32⟩

abbrev hbmTy (i : Nat) : BufTy := match i / 128 with
  | 0 => hbmTy0_0 i
  | 1 => hbmTy0_1 i
  | _ => ⟨S4x4096x7440, .f32⟩

abbrev bufTy : (tb : Table) → Fin (tcTables nBuf tb) → BufTy
  | .hbm, ⟨i, _⟩ => hbmTy i
  | _, _ => ⟨S4x4096x7440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_1 : Ref sig .tc := ⟨.hbm, 45, rfl⟩
abbrev main_v37 : Ref sig .tc := ⟨.hbm, 46, rfl⟩
abbrev main_v38 : Ref sig .tc := ⟨.hbm, 47, rfl⟩
abbrev main_c_2 : Ref sig .tc := ⟨.hbm, 48, rfl⟩
abbrev main_v39 : Ref sig .tc := ⟨.hbm, 49, rfl⟩
abbrev main_v40 : Ref sig .tc := ⟨.hbm, 50, rfl⟩
abbrev main_c_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_c_6 : Ref sig .tc := ⟨.hbm, 72, rfl⟩
abbrev main_v59 : Ref sig .tc := ⟨.hbm, 73, rfl⟩
abbrev main_v60 : Ref sig .tc := ⟨.hbm, 74, rfl⟩
abbrev main_c_7 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c_11 : Ref sig .tc := ⟨.hbm, 90, rfl⟩
abbrev main_v72 : Ref sig .tc := ⟨.hbm, 91, rfl⟩
abbrev main_v73 : Ref sig .tc := ⟨.hbm, 92, rfl⟩
abbrev main_c_12 : Ref sig .tc := ⟨.hbm, 93, rfl⟩
abbrev main_v74 : Ref sig .tc := ⟨.hbm, 94, rfl⟩
abbrev main_v75 : Ref sig .tc := ⟨.hbm, 95, rfl⟩
abbrev main_c_13 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_14 : Ref sig .tc := ⟨.hbm, 100, rfl⟩
abbrev main_v79 : Ref sig .tc := ⟨.hbm, 101, rfl⟩
abbrev main_v80 : Ref sig .tc := ⟨.hbm, 102, rfl⟩
abbrev main_c_15 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_16 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v92 : Ref sig .tc := ⟨.hbm, 119, rfl⟩
abbrev main_v93 : Ref sig .tc := ⟨.hbm, 120, rfl⟩
abbrev main_cst_17 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_18 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_19 : Ref sig .tc := ⟨.hbm, 144, rfl⟩
abbrev main_v115 : Ref sig .tc := ⟨.hbm, 145, rfl⟩
abbrev main_v116 : Ref sig .tc := ⟨.hbm, 146, rfl⟩
abbrev main_cst_20 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩

abbrev nD : Nat := 1
abbrev τ : Topo := Topo.v7x

variable {F : FTy → Type} [FloatOps F]
-- ==== Kernel2.lean ====
abbrev S4x4096x1024 : Shape := ⟨3, ![4, 4096, 1024]⟩
abbrev S128x4x1024 : Shape := ⟨3, ![128, 4, 1024]⟩
abbrev S1024x7440 : Shape := ⟨2, ![1024, 7440]⟩
abbrev S4x3072 : Shape := ⟨2, ![4, 3072]⟩
abbrev S1024 : Shape := ⟨1, ![1024]⟩
abbrev S16384x1024 : Shape := ⟨2, ![16384, 1024]⟩
abbrev S512x1024 : Shape := ⟨2, ![512, 1024]⟩
abbrev S1024x4096 : Shape := ⟨2, ![1024, 4096]⟩
abbrev S1024x1024 : Shape := ⟨2, ![1024, 1024]⟩
abbrev S1024x2048 : Shape := ⟨2, ![1024, 2048]⟩
abbrev S1024x256 : Shape := ⟨2, ![1024, 256]⟩
abbrev S1024x7424 : Shape := ⟨2, ![1024, 7424]⟩
abbrev S1024x16 : Shape := ⟨2, ![1024, 16]⟩
abbrev S_ : Shape := ⟨0, ![]⟩
abbrev S1024x128 : Shape := ⟨2, ![1024, 128]⟩
abbrev S4x3x3072 : Shape := ⟨3, ![4, 3, 3072]⟩
abbrev S1x1024 : Shape := ⟨2, ![1, 1024]⟩
abbrev S16896x7424 : Shape := ⟨2, ![16896, 7424]⟩
abbrev S16896x128 : Shape := ⟨2, ![16896, 128]⟩
abbrev S4x8x3072 : Shape := ⟨3, ![4, 8, 3072]⟩
abbrev S256x1024 : Shape := ⟨2, ![256, 1024]⟩
abbrev S1x3x3072 : Shape := ⟨3, ![1, 3, 3072]⟩
abbrev S256x7424 : Shape := ⟨2, ![256, 7424]⟩
abbrev S256x128 : Shape := ⟨2, ![256, 128]⟩
abbrev S1x8x3072 : Shape := ⟨3, ![1, 8, 3072]⟩
abbrev S8x3072 : Shape := ⟨2, ![8, 3072]⟩
abbrev S3x3072 : Shape := ⟨2, ![3, 3072]⟩
abbrev S256 : Shape := ⟨1, ![256]⟩
abbrev S256x1 : Shape := ⟨2, ![256, 1]⟩
abbrev S8x512 : Shape := ⟨2, ![8, 512]⟩
abbrev S1024x512 : Shape := ⟨2, ![1024, 512]⟩
abbrev S256x512 : Shape := ⟨2, ![256, 512]⟩
abbrev S1x512 : Shape := ⟨2, ![1, 512]⟩
abbrev S248x512 : Shape := ⟨2, ![248, 512]⟩
abbrev S256x256 : Shape := ⟨2, ![256, 256]⟩

abbrev nBuf : Space → Nat
  | .hbm => 24
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S128x4x1024, .f32⟩
  | .hbm, ⟨2, _⟩ => ⟨S1024x7440, .f32⟩
  | .hbm, ⟨3, _⟩ => ⟨S4x3072, .f32⟩
  | .hbm, ⟨4, _⟩ => ⟨S1024, .f32⟩
  | .hbm, ⟨5, _⟩ => ⟨S16384x1024, .f32⟩
  | .hbm, ⟨6, _⟩ => ⟨S512x1024, .f32⟩
  | .hbm, ⟨7, _⟩ => ⟨S1024x4096, .f32⟩
  | .hbm, ⟨8, _⟩ => ⟨S1024x1024, .f32⟩
  | .hbm, ⟨9, _⟩ => ⟨S1024x2048, .f32⟩
  | .hbm, ⟨10, _⟩ => ⟨S1024x256, .f32⟩
  | .hbm, ⟨11, _⟩ => ⟨S1024x7424, .f32⟩
  | .hbm, ⟨12, _⟩ => ⟨S1024x7424, .bf16⟩
  | .hbm, ⟨13, _⟩ => ⟨S1024x16, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S4x3x3072, .f32⟩
  | .hbm, ⟨20, _⟩ => ⟨S1x1024, .f32⟩
  | .hbm, ⟨21, _⟩ => ⟨S16896x7424, .f32⟩
  | .hbm, ⟨22, _⟩ => ⟨S16896x128, .f32⟩
  | .hbm, ⟨23, _⟩ => ⟨S4x8x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x7424, .bf16⟩
  | .local _ .vmem, ⟨6, _⟩ => ⟨S1024x128, .bf16⟩
  | .local _ .vmem, ⟨7, _⟩ => ⟨S4x3072, .f32⟩
  | .local _ .vmem, ⟨8, _⟩ => ⟨S1x3x3072, .f32⟩
  | .local _ .vmem, ⟨9, _⟩ => ⟨S1x3x3072, .f32⟩
  | .local _ .vmem, ⟨10, _⟩ => ⟨S256x7424, .f32⟩
  | .local _ .vmem, ⟨11, _⟩ => ⟨S256x7424, .f32⟩
  | .local _ .vmem, ⟨12, _⟩ => ⟨S256x128, .f32⟩
  | .local _ .vmem, ⟨13, _⟩ => ⟨S256x128, .f32⟩
  | .local _ .vmem, ⟨14, _⟩ => ⟨S1x8x3072, .f32⟩
  | .local _ .vmem, ⟨15, _⟩ => ⟨S1x8x3072, .f32⟩
  | .local _ .vmem, ⟨16, _⟩ => ⟨S8x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![66], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x7424 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x3x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x7424 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x4096x1024 : Shape := ⟨3, ![4, 4096, 1024]⟩
abbrev S128x4x1024 : Shape := ⟨3, ![128, 4, 1024]⟩
abbrev S1024x7440 : Shape := ⟨2, ![1024, 7440]⟩
abbrev S4x3072 : Shape := ⟨2, ![4, 3072]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7440 : Shape := ⟨3, ![4, 4096, 7440]⟩
abbrev S4x4096x8 : Shape := ⟨3, ![4, 4096, 8]⟩
abbrev S4x4096x128 : Shape := ⟨3, ![4, 4096, 128]⟩
abbrev S4x4096x3072 : Shape := ⟨3, ![4, 4096, 3072]⟩
abbrev S4x3x3072 : Shape := ⟨3, ![4, 3, 3072]⟩
abbrev S4x4099x3072 : Shape := ⟨3, ![4, 4099, 3072]⟩
abbrev S1x3072 : Shape := ⟨2, ![1, 3072]⟩
abbrev S3072 : Shape := ⟨1, ![3072]⟩
abbrev S1x1x3072 : Shape := ⟨3, ![1, 1, 3072]⟩
abbrev S4x4096x7424 : Shape := ⟨3, ![4, 4096, 7424]⟩
abbrev S16384x7424 : Shape := ⟨2, ![16384, 7424]⟩
abbrev S4x4096x16 : Shape := ⟨3, ![4, 4096, 16]⟩
abbrev S16384x16 : Shape := ⟨2, ![16384, 16]⟩
abbrev S128x4 : Shape := ⟨2, ![128, 4]⟩
abbrev S128x4x1 : Shape := ⟨3, ![128, 4, 1]⟩
abbrev S128x4x7440 : Shape := ⟨3, ![128, 4, 7440]⟩
abbrev S128x4x8 : Shape := ⟨3, ![128, 4, 8]⟩
abbrev S128x4x128 : Shape := ⟨3, ![128, 4, 128]⟩
abbrev S128x4x7424 : Shape := ⟨3, ![128, 4, 7424]⟩
abbrev S512x7424 : Shape := ⟨2, ![512, 7424]⟩
abbrev S128x4x16 : Shape := ⟨3, ![128, 4, 16]⟩
abbrev S512x16 : Shape := ⟨2, ![512, 16]⟩
abbrev S16896x16 : Shape := ⟨2, ![16896, 16]⟩
abbrev S16896x128 : Shape := ⟨2, ![16896, 128]⟩
abbrev S16896x7424 : Shape := ⟨2, ![16896, 7424]⟩
abbrev S4x8x3072 : Shape := ⟨3, ![4, 8, 3072]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x4x1024, .f32⟩
  | .hbm, ⟨2, _⟩ => ⟨S1024x7440, .f32⟩
  | .hbm, ⟨3, _⟩ => ⟨S4x3072, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x7440, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x8, .f32⟩
  | .hbm, ⟨27, _⟩ => ⟨S4x4096x8, .f32⟩
  | .hbm, ⟨28, _⟩ => ⟨S4x4096x1024, .f32⟩
  | .hbm, ⟨29, _⟩ => ⟨S4x4096x128, .f32⟩
  | .hbm, ⟨30, _⟩ => ⟨S4x4096x128, .f32⟩
  | .hbm, ⟨31, _⟩ => ⟨S4x4096x1024, .f32⟩
  | .hbm, ⟨32, _⟩ => ⟨S4x4096x1024, .f32⟩
  | .hbm, ⟨33, _⟩ => ⟨S4x4096x3072, .f32⟩
  | .hbm, ⟨34, _⟩ => ⟨S_, .f32⟩
  | .hbm, ⟨35, _⟩ => ⟨S4x3x3072, .f32⟩
  | .hbm, ⟨36, _⟩ => ⟨S4x4099x3072, .f32⟩
  | .hbm, ⟨37, _⟩ => ⟨S4x4096x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S4x4096x3072, .f32⟩
  | .hbm, ⟨42, _⟩ => ⟨S4x4096x3072, .f32⟩
  | .hbm, ⟨43, _⟩ => ⟨S4x4096x3072, .f32⟩
  | .hbm, ⟨44, _⟩ => ⟨S1x3072, .f32⟩
  | .hbm, ⟨45, _⟩ => ⟨S3072, .f32⟩
  | .hbm, ⟨46, _⟩ => ⟨S1x1x3072, .f32⟩
  | .hbm, ⟨47, _⟩ => ⟨S4x4096x3072, .f32⟩
  | .hbm, ⟨48, _⟩ => ⟨S4x4096x3072, .f32⟩
  | .hbm, ⟨49, _⟩ => ⟨S4x4096x3072, .f32⟩
  | .hbm, ⟨50, _⟩ => ⟨S4x4096x3072, .f32⟩
  | .hbm, ⟨51, _⟩ => ⟨S1x3072, .f32⟩
  | .hbm, ⟨52, _⟩ => ⟨S3072, .f32⟩
  | .hbm, ⟨53, _⟩ => ⟨S1x1x3072, .f32⟩
  | .hbm, ⟨54, _⟩ => ⟨S4x4096x3072, .f32⟩
  | .hbm, ⟨55, _⟩ => ⟨S4x4096x3072, .f32⟩
  | .hbm, ⟨56, _⟩ => ⟨S4x4096x3072, .f32⟩
  | .hbm, ⟨57, _⟩ => ⟨S4x4096x3072, .f32⟩
  | .hbm, ⟨58, _⟩ => ⟨S1x3072, .f32⟩
  | .hbm, ⟨59, _⟩ => ⟨S3072, .f32⟩
  | .hbm, ⟨60, _⟩ => ⟨S1x1x3072, .f32⟩
  | .hbm, ⟨61, _⟩ => ⟨S4x4096x3072, .f32⟩
  | .hbm, ⟨62, _⟩ => ⟨S4x4096x3072, .f32⟩
  | .hbm, ⟨63, _⟩ => ⟨S4x4096x3072, .f32⟩
  | .hbm, ⟨64, _⟩ => ⟨S4x4096x3072, .f32⟩
  | .hbm, ⟨65, _⟩ => ⟨S4x4096x3072, .f32⟩
  | .hbm, ⟨66, _⟩ => ⟨S_, .f32⟩
  | .hbm, ⟨67, _⟩ => ⟨S4x4096x3072, .f32⟩
  | .hbm, ⟨68, _⟩ => ⟨S4x4096x3072, .f32⟩
  | .hbm, ⟨69, _⟩ => ⟨S_, .f32⟩
  | .hbm, ⟨70, _⟩ => ⟨S4x4096x3072, .f32⟩
  | .hbm, ⟨71, _⟩ => ⟨S4x4096x3072, .f32⟩
  | .hbm, ⟨72, _⟩ => ⟨S4x4096x3072, .f32⟩
  | .hbm, ⟨73, _⟩ => ⟨S4x4096x7424, .f32⟩
  | .hbm, ⟨74, _⟩ => ⟨S16384x7424, .f32⟩
  | .hbm, ⟨75, _⟩ => ⟨S4x4096x16, .f32⟩
  | .hbm, ⟨76, _⟩ => ⟨S16384x16, .f32⟩
  | .hbm, ⟨77, _⟩ => ⟨S128x4x1024, .f32⟩
  | .hbm, ⟨78, _⟩ => ⟨S_, .f32⟩
  | .hbm, ⟨79, _⟩ => ⟨S128x4, .f32⟩
  | .hbm, ⟨80, _⟩ => ⟨S128x4x1, .f32⟩
  | .hbm, ⟨81, _⟩ => ⟨S_, .f32⟩
  | .hbm, ⟨82, _⟩ => ⟨S128x4x1, .f32⟩
  | .hbm, ⟨83, _⟩ => ⟨S128x4x1, .f32⟩
  | .hbm, ⟨84, _⟩ => ⟨S_, .f32⟩
  | .hbm, ⟨85, _⟩ => ⟨S128x4x1, .f32⟩
  | .hbm, ⟨86, _⟩ => ⟨S128x4x1, .f32⟩
  | .hbm, ⟨87, _⟩ => ⟨S128x4x1, .f32⟩
  | .hbm, ⟨88, _⟩ => ⟨S128x4x1024, .f32⟩
  | .hbm, ⟨89, _⟩ => ⟨S128x4x1024, .f32⟩
  | .hbm, ⟨90, _⟩ => ⟨S1x1x1024, .f32⟩
  | .hbm, ⟨91, _⟩ => ⟨S128x4x1024, .f32⟩
  | .hbm, ⟨92, _⟩ => ⟨S128x4x1024, .f32⟩
  | .hbm, ⟨93, _⟩ => ⟨S128x4x7440, .f32⟩
  | .hbm, ⟨94, _⟩ => ⟨S128x4x1024, .f32⟩
  | .hbm, ⟨95, _⟩ => ⟨S128x4x1024, .f32⟩
  | .hbm, ⟨96, _⟩ => ⟨S128x4x1024, .f32⟩
  | .hbm, ⟨97, _⟩ => ⟨S128x4x1024, .f32⟩
  | .hbm, ⟨98, _⟩ => ⟨S128x4x8, .f32⟩
  | .hbm, ⟨99, _⟩ => ⟨S128x4x8, .f32⟩
  | .hbm, ⟨100, _⟩ => ⟨S128x4x1024, .f32⟩
  | .hbm, ⟨101, _⟩ => ⟨S128x4x128, .f32⟩
  | .hbm, ⟨102, _⟩ => ⟨S128x4x128, .f32⟩
  | .hbm, ⟨103, _⟩ => ⟨S128x4x1024, .f32⟩
  | .hbm, ⟨104, _⟩ => ⟨S128x4x1024, .f32⟩
  | .hbm, ⟨105, _⟩ => ⟨S128x4x7424, .f32⟩
  | .hbm, ⟨106, _⟩ => ⟨S512x7424, .f32⟩
  | .hbm, ⟨107, _⟩ => ⟨S128x4x16, .f32⟩
  | .hbm, ⟨108, _⟩ => ⟨S512x16, .f32⟩
  | .hbm, ⟨109, _⟩ => ⟨S16896x16, .f32⟩
  | .hbm, ⟨110, _⟩ => ⟨S_, .i32⟩
  | .hbm, ⟨111, _⟩ => ⟨S_, .f32⟩
  | .hbm, ⟨112, _⟩ => ⟨S16896x128, .f32⟩
  | .hbm, ⟨113, _⟩ => ⟨S16896x7424, .f32⟩
  | .hbm, ⟨114, _⟩ => ⟨S4x8x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_3 : Ref sig .tc := ⟨.hbm, 78, rfl⟩
abbrev main_v61 : Ref sig .tc := ⟨.hbm, 79, rfl⟩
abbrev main_v62 : Ref sig .tc := ⟨.hbm, 80, rfl⟩
abbrev main_cst_4 : Ref sig .tc := ⟨.hbm, 81, rfl⟩
abbrev main_v63 : Ref sig .tc := ⟨.hbm, 82, rfl⟩
abbrev main_v64 : Ref sig .tc := ⟨.hbm, 83, rfl⟩
abbrev main_cst_5 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_c : Ref sig .tc := ⟨.hbm, 110, rfl⟩
abbrev main_call1_v0 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩

abbrev nD : Nat := 1
abbrev τ : Topo := Topo.v7x

variable {F : FTy → Type} [FloatOps F]
-- ==== Proof.HostArrays.lean ====
module
/- The arrays the call reads: the projections in packed column order, and the table of biases. -/
public import proofs.«01_k».proof.Proof.Gen.KernelIdeal.Value
public import Idealize.ShloMosaic.Lib.ValueIdx
public import Idealize.ShloMosaic.Lib.StableHlo.RunRead
@[expose] public section
set_option maxRecDepth 65536
noncomputable section
open Idealize Idealize.ShloMosaic Idealize.ShloMosaic.ValueIdx Idealize.ShloMosaic.TcCoe
namespace Cert.KernelIdeal.Attn
open Cert.KernelIdeal Cert.KernelIdeal.Gen
variable {F : FTy → Type} [FloatOps F]
variable (m : (ℓ : Loc nD τ sig) → Buf (Elt F) ℓ)

/-- The rows of the two projections, one above the other, and their columns in the packed order. -/
def packed (a0 : FVec F S4x4096x7440 .f32) (a1 : FVec F S128x4x7440 .f32) : FVec F S16896x7424 .f32 :=
  let rows : FVec F S16896x7440 .f32 := concatenate S16896x7440 0 [⟨S16384x7440, shapeCast S16384x7440 a0 shapeCasts_S4x4096x7440_S16384x7440⟩,
    ⟨S512x7440, shapeCast S512x7440 a1 shapeCasts_S128x4x7440_S512x7440⟩] concatenates_S16384x7440_S512x7440_S16896x7440_d0
  concatenate S16896x7424 1 [⟨S16896x4096, extractStridedSlice S16896x4096 ![0, 0] rows slices_S16896x7440_S16896x4096_0_0⟩,
    ⟨S16896x1024, extractStridedSlice S16896x1024 ![0, 4112] rows slices_S16896x7440_S16896x1024_0_4112⟩,
    ⟨S16896x2048, extractStridedSlice S16896x2048 ![0, 5392] rows slices_S16896x7440_S16896x2048_0_5392⟩,
    ⟨S16896x256, extractStridedSlice S16896x256 ![0, 5136] rows slices_S16896x7440_S16896x256_0_5136⟩]
    concatenates_S16896x4096_S16896x1024_S16896x2048_S16896x256_S16896x7424_d1

theorem V_packed (c : Dev nD) : V m c main_v7
    = packed (m ((c : Thread nD τ).loc main_arg0)) (m ((c : Thread nD τ).loc main_arg1)) := by
  after_reads_simp
  rfl

/-- A word on every entry of a 128 by 256 array. -/
def allW (b : BitVec 32) : IVec S128x256 32 := broadcastInDim S128x256 ![] bcast_S_S128x256 (constantI S_ 32 b)
/-- A constant on every entry of a 128 by 256 array. -/
def allF (b : BitVec 32) : FVec F S128x256 .f32 := broadcastInDim S128x256 ![] bcast_S_S128x256 (constant S_ .f32 b)

/-- The bucket of a distance: itself below 16, then logarithmic up to 31. -/
def bucketOf (F : FTy → Type) [FloatOps F] (d : IVec S128x256 32) : IVec S128x256 32 :=
  let n : IVec S128x256 32 := maxsi d (allW 0#32)
  select (cmpi .slt n (allW 16#32)) n
    (minsi (addi (allW 16#32) (fptosi 32 (mulf (Host.divf (Host.log (Host.divf (sitofp .f32 (maxsi n (allW 1#32))) (allF (F := F) 0x41800000#32)))
      (allF (F := F) 0x40051592#32)) (allF (F := F) 0x41800000#32)))) (allW 31#32))

/-- The bucket where the key may be read, −1 elsewhere. -/
def maskedBucket (F : FTy → Type) [FloatOps F] (ok : IVec S128x256 1) (d : IVec S128x256 32) : IVec S128x256 32 := select ok (bucketOf F d) (allW 4294967295#32)

/-- The distance of query row `r` from key `j` of its window. -/
def distK : IVec S128x256 32 :=
  subi (broadcastInDim S128x256 ![0, 1] bcast_S128x1_S128x256_0_1 (broadcastInDim S128x1 ![0] bcast_S128_S128x1_0 (iotaInDim S128 32 0)))
    (broadcastInDim S128x256 ![0, 1] bcast_S1x256_S128x256_0_1 (subi (broadcastInDim S1x256 ![1] bcast_S256_S1x256_1 (iotaInDim S256 32 0))
      (broadcastInDim S1x256 ![] bcast_S_S1x256 (constantI S_ 32 128#32))))

/-- The keys of the window. -/
def inWindow : IVec S128x256 1 := andi (cmpi .sge distK (allW 0#32)) (cmpi .slt distK (allW 128#32))
/-- The keys of the current block. -/
def inCurrent : IVec S128x256 1 :=
  broadcastInDim S128x256 ![0, 1] bcast_S1x256_S128x256_0_1 (cmpi .sge (broadcastInDim S1x256 ![1] bcast_S256_S1x256_1 (iotaInDim S256 32 0))
    (broadcastInDim S1x256 ![] bcast_S_S1x256 (constantI S_ 32 128#32)))

/-- The buckets of the first block, of the others, and eight further rows. -/
def bucketRows (F : FTy → Type) [FloatOps F] (z : IVec S8x256 32) : IVec S264x256 32 :=
  concatenate S264x256 0 [⟨S128x256, maskedBucket F (andi inWindow inCurrent) distK⟩, ⟨S128x256, maskedBucket F inWindow distK⟩, ⟨S8x256, z⟩]
    concatenates_S128x256_S128x256_S8x256_S264x256_d0

theorem slices_bias : ∀ b : Fin 32, S32x16.Slices ![b.val, 0] S1x16 := by decide

/-- One bucket's row of the bias table written where the bucket array names it. -/
def biasStep (bk : IVec S264x256 32) (rb : FVec F S32x16 .f32) (acc : FVec F S16x264x256 .f32) (b : Fin 32) : FVec F S16x264x256 .f32 :=
  select (broadcastInDim S16x264x256 ![0, 1, 2] bcast_S1x264x256_S16x264x256_0_1_2
      (cmpi .eq (broadcastInDim S1x264x256 ![1, 2] bcast_S264x256_S1x264x256_1_2 bk)
        (broadcastInDim S1x264x256 ![] bcast_S_S1x264x256 (constantI S_ 32 (BitVec.ofNat 32 b.val)))))
    (broadcastInDim S16x264x256 ![0, 1, 2] bcast_S16x1x1_S16x264x256_0_1_2 (broadcastInDim S16x1x1 ![0] bcast_S16_S16x1x1_0
      (shapeCast S16 (extractStridedSlice S1x16 ![b.val, 0] rb (slices_bias b)) shapeCasts_S1x16_S16))) acc

/-- The bias table of all heads. -/
def biasTable (bk : IVec S264x256 32) (rb : FVec F S32x16 .f32) : FVec F S16x264x256 .f32 :=
  ([0, 1, 2, 3, 4, 5, 6, 7, 8, 9, 10, 11, 12, 13, 14, 15, 16, 17, 18, 19, 20, 21, 22, 23, 24, 25, 26, 27, 28, 29, 30, 31] : List (Fin 32)).foldl
    (biasStep bk rb) (broadcastInDim S16x264x256 ![] bcast_S_S16x264x256 (constant S_ .f32 0xFF800000#32))

set_option maxHeartbeats 4000000 in
theorem V_buckets (c : Dev nD) : ∃ z, V m c main_v110 = bucketRows F z := by
  after_reads_simp
  exact ⟨_, rfl⟩

set_option maxHeartbeats 4000000 in
theorem V_bias (c : Dev nD) : V m c main_v335 = biasTable (F := F) (V m c main_v110) (m ((c : Thread nD τ).loc main_arg4)) := by
  after_reads_simp
  rfl
end Cert.KernelIdeal.Attn
-- ==== Proof.Bucket.lean ====
module
/- The bucket of a distance, as a word: its range, and the table entry it selects. -/
public import Idealize.ShloMosaic.Lib.IdealHost
public import Idealize.ShloMosaic.Lib.ValueIdx
public import Idealize.ShloMosaic.PureOps.Ideal.Laws
@[expose] public section
noncomputable section
open Idealize Idealize.ShloMosaic
namespace Cert.Bucket

/-- The logarithmic part, before it is rounded to an integer. -/
def logPart (n : BitVec 32) : EReal :=
  Ideal.div (Ideal.log (Ideal.div (FloatOps.sitofp (F := Ideal) .f32 (IntOp.maxsi n 1#32)) (Ideal.ofBits .f32 0x41800000#32)))
      (Ideal.ofBits .f32 0x40051592#32) * Ideal.ofBits .f32 0x41800000#32

/-- The bucket of a distance. -/
def word (d : BitVec 32) : BitVec 32 :=
  Scalar.select (IntOp.cmpi .slt (IntOp.maxsi d 0#32) 16#32) (IntOp.maxsi d 0#32)
    (IntOp.minsi (IntOp.addi 16#32 (Ideal.fptosi 32 (logPart (IntOp.maxsi d 0#32)))) 31#32)

theorem ofBits_16 : Ideal.ofBits .f32 0x41800000#32 = ((16 : ℝ) : EReal) := by
  simp [Ideal.ofBits, Ideal.ieee]; rw [← EReal.coe_mul]; norm_num
theorem ofBits_log8 : ∃ w : ℝ, 2 ≤ w ∧ Ideal.ofBits .f32 0x40051592#32 = (w : EReal) := by
  refine ⟨8721810 * (1 / 4194304), by norm_num, ?_⟩
  simp [Ideal.ofBits, Ideal.ieee]; norm_num

theorem maxsi_zero : ∀ k : Fin 128, IntOp.maxsi (BitVec.ofNat 32 k.val) 0#32 = BitVec.ofNat 32 k.val := by decide +kernel
theorem maxsi_one : ∀ k : Fin 128, 16 ≤ k.val → IntOp.maxsi (BitVec.ofNat 32 k.val) 1#32 = BitVec.ofNat 32 k.val := by decide +kernel
theorem toInt_small : ∀ k : Fin 128, (BitVec.ofNat 32 k.val).toInt = (k.val : ℤ) := by decide +kernel
theorem capped : ∀ z : Fin 65, (IntOp.minsi (IntOp.addi 16#32 (BitVec.ofInt 32 (z.val : ℤ))) 31#32).toNat < 32 := by decide +kernel
theorem below : ∀ k : Fin 128, IntOp.cmpi .slt (BitVec.ofNat 32 k.val) 16#32 = if k.val < 16 then 1#1 else 0#1 := by decide +kernel

theorem logPart_range (k : Fin 128) (hk : 16 ≤ k.val) : ∃ y : ℝ, 0 ≤ y ∧ y < 64 ∧ logPart (BitVec.ofNat 32 k.val) = (y : EReal) := by
  obtain ⟨w, hw, hw'⟩ := ofBits_log8
  unfold logPart
  rw [maxsi_one k hk, ofBits_16, hw']
  have hs : FloatOps.sitofp (F := Ideal) .f32 (BitVec.ofNat 32 k.val) = ((k.val : ℝ) : EReal) := by
    show (((BitVec.ofNat 32 k.val).toInt : ℝ) : EReal) = _
    rw [toInt_small]; simp
  have hk' : (16 : ℝ) ≤ (k.val : ℝ) := by exact_mod_cast hk
  have hk2 : (k.val : ℝ) ≤ 127 := by exact_mod_cast (by omega : k.val ≤ 127)
  have hd : ∀ (a b : ℝ), 0 < b → Ideal.div (a : EReal) (b : EReal) = ((a / b : ℝ) : EReal) := fun a b hb => by
    unfold Ideal.div
    rw [if_neg (by exact_mod_cast hb.ne'), div_eq_mul_inv, EReal.coe_mul, EReal.coe_inv]
  have h1 : (1 : ℝ) ≤ (k.val : ℝ) / 16 := by rw [le_div_iff₀ (by norm_num)]; linarith
  have hl : Real.log ((k.val : ℝ) / 16) ≤ 7 := by
    have := Real.log_le_sub_one_of_pos (show (0 : ℝ) < (k.val : ℝ) / 16 by linarith)
    have h8 : (k.val : ℝ) / 16 ≤ 8 := by rw [div_le_iff₀ (by norm_num)]; linarith
    linarith
  have hl0 : 0 ≤ Real.log ((k.val : ℝ) / 16) := Real.log_nonneg h1
  refine ⟨Real.log ((k.val : ℝ) / 16) / w * 16, by positivity, ?_, ?_⟩
  · have : Real.log ((k.val : ℝ) / 16) / w ≤ 7 / 2 := by
      rw [div_le_div_iff₀ (by linarith) (by norm_num)]; nlinarith
    linarith
  · rw [hs, hd _ _ (by norm_num), Ideal.log_coe, if_neg (by linarith), hd _ _ (by linarith), ← EReal.coe_mul]

theorem word_lt (k : Fin 128) : (word (BitVec.ofNat 32 k.val)).toNat < 32 := by
  unfold word
  rw [maxsi_zero, below]
  by_cases h : k.val < 16
  · rw [if_pos h]
    show (BitVec.ofNat 32 k.val).toNat < 32
    rw [BitVec.toNat_ofNat]; omega
  · rw [if_neg h]
    show (IntOp.minsi _ 31#32).toNat < 32
    obtain ⟨y, h0, h1, hy⟩ := logPart_range k (by omega)
    rw [hy]
    have hf0 : 0 ≤ ⌊y⌋ := Int.floor_nonneg.2 h0
    have hf1 : ⌊y⌋ < 64 := Int.floor_lt.2 (by exact_mod_cast h1)
    have hf : Ideal.fptosi 32 (y : EReal) = BitVec.ofInt 32 ⌊y⌋ := by
      show BitVec.ofInt 32 (max _ (min _ (if 0 ≤ y then ⌊y⌋ else ⌈y⌉))) = _
      rw [if_pos h0]
      congr 1
      norm_num
      omega
    rw [hf]
    obtain ⟨z, hz⟩ := Int.eq_ofNat_of_zero_le hf0
    rw [hz] at hf1 ⊢
    exact capped ⟨z, by omega⟩

end Cert.Bucket
-- ==== Proof.Tile.lean ====
module
/- One 128 by 128 tile of the attention call: two query heads over one 128-row block. The body of the
   call is thirty-two such tiles, one for each of four row blocks and eight head pairs. -/
public import proofs.«01_k».proof.Proof.Gen.KernelIdeal.Value
public import Idealize.ShloMosaic.Lib.WholeRead
@[expose] public section
set_option maxRecDepth 65536
noncomputable section
open Idealize Idealize.ShloMosaic
namespace Cert.KernelIdeal.Attn
open Cert.KernelIdeal Cert.KernelIdeal.Gen
variable {F : FTy → Type} [FloatOps F]

/-- The scores of one head's 128 queries against 256 keys: the masked-lane product plus the bias rows. -/
def scores (q : FVec F S128x128 .f32) (k : FVec F S256x128 .bf16) (bias : Vec F S1x128x256 .f32) : FVec F S128x256 .f32 :=
  addf (matmul dot_S128x128_S256x128_S128x256_1_1_0_0_n_n none (truncf .bf16 q bitsLt_bf16_f32) k
      (constant S128x256 .f32 0x00000000#32))
    (shapeCast S128x256 bias shapeCasts_S1x128x256_S128x256)

/-- The row maximum with the sink. -/
def rowMax (s : FVec F S128x256 .f32) (sink : F .f32) : FVec F S128x1 .f32 :=
  maximumf (shapeCast S128x1 (multiReduction .maximumf [1] S128 s 0xFF800000#32 reduces_S128x256_S128 (.inl rfl) rfl)
    shapeCasts_S128_S128x1) (broadcast S128x1 sink)

/-- The exponentials of the scores less the row maximum. -/
def expo (s : FVec F S128x256 .f32) (sink : F .f32) : FVec F S128x256 .f32 :=
  exp (subf s (broadcastTo S128x256 (rowMax s sink) broadcasts_S128x1_S128x256))

/-- The softmax denominator: the row sum of the exponentials plus the sink's own. -/
def denom (s : FVec F S128x256 .f32) (sink : F .f32) : FVec F S128x1 .f32 :=
  addf (shapeCast S128x1 (multiReduction .add [1] S128 (expo s sink) 0x00000000#32 reduces_S128x256_S128 (.inl rfl) rfl)
    shapeCasts_S128_S128x1) (exp (subf (broadcast S128x1 sink) (rowMax s sink)))

/-- One head: exponentials times values, divided by the denominator. -/
def head (s : FVec F S128x256 .f32) (v : FVec F S256x128 .bf16) (sink : F .f32) : FVec F S128x128 .f32 :=
  mulf (matmul dot_S128x256_S256x128_S128x128_1_0_0_1_n_n none (truncf .bf16 (expo s sink) bitsLt_bf16_f32) v
      (constant S128x128 .f32 0x00000000#32))
    (broadcastTo S128x128 (divf (broadcast S128x1 (Scalar.ofBits .f32 0x3F800000#32)) (denom s sink))
      broadcasts_S128x1_S128x128)

/-- The lanes of the first head of a pair. -/
def lowLanes : IVec S128x128 1 :=
  cmpi .slt (iota .tc S128x128 32 [1] iota_S128x128_d1_w32) (broadcast S128x128 64#32)
/-- The lanes of the second head of a pair. -/
def highLanes : IVec S128x128 1 := xori lowLanes (constantI S128x128 1 1#1)

/-- The queries, scaled, on the lanes of one head and zero on the other's. -/
def maskedQ (lanes : IVec S128x128 1) (q : FVec F S128x128 .f32) : FVec F S128x128 .f32 :=
  select lanes (mulf (shapeCast S128x128 q shapeCasts_S128x128_S128x128)
      (broadcast S128x128 (Scalar.ofBits .f32 0x3E000000#32)))
    (broadcast S128x128 (Scalar.ofBits .f32 0x00000000#32))

/-- The gate's sigmoid, as half a hyperbolic tangent plus a half. -/
def gateSig (g : FVec F S128x128 .f32) : FVec F S128x128 .f32 :=
  addf (mulf (broadcast S128x128 (Scalar.ofBits .f32 0x3F000000#32))
      (tanh (mulf (broadcast S128x128 (Scalar.ofBits .f32 0x3F000000#32))
        (shapeCast S128x128 g shapeCasts_S128x128_S128x128))))
    (broadcast S128x128 (Scalar.ofBits .f32 0x3F000000#32))

/-- One tile: two heads side by side, gated and added to the other layer's output. -/
def tile (q : FVec F S128x128 .f32) (k v : FVec F S256x128 .bf16) (b0 b1 : Vec F S1x128x256 .f32) (s0 s1 : F .f32)
    (other gate : FVec F S128x128 .f32) : FVec F S128x128 .f32 :=
  addf other (mulf (gateSig gate)
    (select lowLanes (head (scores (maskedQ lowLanes q) k b0) v s0) (head (scores (maskedQ highLanes q) k b1) v s1)))

/-- The previous block and the current one, one above the other. -/
def stacked (prev : FVec F S128x128 .f32) (cur : FVec F S512x128 .f32) : FVec F S640x128 .f32 :=
  concatenate S640x128 0 [⟨S128x128, shapeCast S128x128 prev shapeCasts_S128x128_S128x128⟩,
    ⟨S512x128, shapeCast S512x128 cur shapeCasts_S512x128_S512x128⟩] concatenates_S128x128_S512x128_S640x128_d0

/-- One key-value head's 64 lanes written on both halves of the lane axis. -/
def doubled (h : Fin 2) (x : FVec F S640x128 .f32) : FVec F S640x128 .bf16 :=
  truncf .bf16 (select (cmpi .slt (iota .tc S640x128 32 [1] iota_S640x128_d1_w32) (broadcast S640x128 64#32))
    (![x, dynamicRotate 1 64#32 none x rotates_S640x128_d1] h)
    (![dynamicRotate 1 64#32 none x rotates_S640x128_d1, x] h)) bitsLt_bf16_f32

theorem slices_keys : ∀ s : Fin 4, S640x128.Slices ![128 * s.val, 0] S256x128 := by decide
theorem inb_tile : ∀ (s : Fin 4) (p : Fin 8) (a : Fin 2),
    (![128 * s.val, 128 * p.val] : Fin 2 → Nat) a + S128x128.size a ≤ S512x1024.size a := by decide +kernel
theorem inb_sink : ∀ (h : Fin 16) (a : Fin 1), (![h.val] : Fin 1 → Nat) a + S1.size a ≤ S16.size a := by decide +kernel

/-- Where the bias rows of one head begin for row block `s`: the first block of the array takes the first 128 rows. -/
def biasOff (i : grid0.Coords) (s : Fin 4) (h : Fin 16) : Fin 3 → Nat := ![h.val, ![k0_off1 i 1, 128, 128, 128] s, 0]
theorem biasOff_eq (i : grid0.Coords) (s : Fin 4) (h : Fin 16) :
    biasOff i s h = ![h.val, ![128 * min (i 1).val 1, 128, 128, 128] s, 0] := by
  unfold biasOff; rw [k0_off1_eq]; rfl
theorem inb_bias (i : grid0.Coords) (s : Fin 4) (h : Fin 16) :
    ∀ a, biasOff i s h a + S1x128x256.size a ≤ S16x256x256.size a := by
  rw [biasOff_eq]; revert s h; generalize (i 1).val = n
  rcases Nat.eq_zero_or_pos n with rfl | hn
  · decide +kernel
  · rw [show min n 1 = 1 by omega]; decide +kernel

/-- The first and the second query head of pair `p`, and its key-value head. -/
def headA (p : Fin 8) : Fin 16 := ⟨2 * p.val, by omega⟩
def headB (p : Fin 8) : Fin 16 := ⟨2 * p.val + 1, by omega⟩
def kvOf (p : Fin 8) : Fin 2 := ⟨p.val / 4, by omega⟩

/-- A load of a whole array through a rectangle. -/
def ld {S : Shape} {e : EltTy} (X : S.Idx → Elt F e) (B : LoadRect S) : B.shape.Idx → Elt F e := fun x => X (B.idx x)

/-- The tile of row block `s` and head pair `p`, from the call's blocks. -/
def tileAt (i : grid0.Coords) (x0 : Vec F S16 .f32) (x1 : Vec F S512x1024 .f32) (x2 : Vec F S512x128 .f32)
    (x3 : Vec F S128x128 .f32) (x4 : Vec F S512x128 .f32) (x5 : Vec F S128x128 .f32) (x6 : Vec F S16x256x256 .f32)
    (x7 x8 : Vec F S512x1024 .f32) (s : Fin 4) (p : Fin 8) : FVec F S128x128 .f32 :=
  tile (ld x1 (Rect.unit (s := S512x1024) ![128 * s.val, 128 * p.val] S128x128.size (inb_tile s p)).toLoadRect)
    (extractStridedSlice S256x128 ![128 * s.val, 0] (doubled (kvOf p) (stacked
      (ld x3 (Rect.unit (s := S128x128) ![0, 0] S128x128.size inb_S128x128_S128x128_0_0).toLoadRect)
      (ld x2 (Rect.unit (s := S512x128) ![0, 0] S512x128.size inb_S512x128_S512x128_0_0).toLoadRect))) (slices_keys s))
    (extractStridedSlice S256x128 ![128 * s.val, 0] (doubled (kvOf p) (stacked
      (ld x5 (Rect.unit (s := S128x128) ![0, 0] S128x128.size inb_S128x128_S128x128_0_0).toLoadRect)
      (ld x4 (Rect.unit (s := S512x128) ![0, 0] S512x128.size inb_S512x128_S512x128_0_0).toLoadRect))) (slices_keys s))
    (ld x6 (Rect.unit (s := S16x256x256) (biasOff i s (headA p)) S1x128x256.size (inb_bias i s (headA p))).toLoadRect)
    (ld x6 (Rect.unit (s := S16x256x256) (biasOff i s (headB p)) S1x128x256.size (inb_bias i s (headB p))).toLoadRect)
    (ld x0 (Rect.unit (s := S16) ![(headA p).val] S1.size (inb_sink (headA p))).toLoadRect (Shape.Idx.first (Nat.lt_of_lt_of_eq Nat.one_pos numel1_S1.symm)))
    (ld x0 (Rect.unit (s := S16) ![(headB p).val] S1.size (inb_sink (headB p))).toLoadRect (Shape.Idx.first (Nat.lt_of_lt_of_eq Nat.one_pos numel1_S1.symm)))
    (ld x8 (Rect.unit (s := S512x1024) ![128 * s.val, 128 * p.val] S128x128.size (inb_tile s p)).toLoadRect)
    (ld x7 (Rect.unit (s := S512x1024) ![128 * s.val, 128 * p.val] S128x128.size (inb_tile s p)).toLoadRect)

/-- The tiles in the order the body stores them, the last first. -/
def order : List (Fin 4 × Fin 8) := [(3,7),(3,6),(3,5),(3,4),(3,3),(3,2),(3,1),(3,0),(2,7),(2,6),(2,5),(2,4),(2,3),(2,2),(2,1),(2,0),
  (1,7),(1,6),(1,5),(1,4),(1,3),(1,2),(1,1),(1,0),(0,7),(0,6),(0,5),(0,4),(0,3),(0,2),(0,1),(0,0)]

set_option maxHeartbeats 4000000 in
theorem out9_canon (c : Dev nD) (i : grid0.Coords) (arg2 : Memref sig .tc .smem S16 .f32) (harg2 : arg2.IsWhole) (arg3 : Memref sig .tc .vmem S512x1024 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S512x128 .f32) (harg6 : arg6.IsWhole) (arg7 : Memref sig .tc .vmem S128x128 .f32) (harg7 : arg7.IsWhole) (arg8 : Memref sig .tc .vmem S16x256x256 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x128x128 .f32) (harg12 : arg12.IsWhole) (arg13 : Memref sig .tc .vmem S1x128x128 .f32) (harg13 : arg13.IsWhole)
    (x0 : Vec F S16 .f32) (x1 : Vec F S512x1024 .f32) (x2 : Vec F S512x128 .f32) (x3 : Vec F S128x128 .f32) (x4 : Vec F S512x128 .f32) (x5 : Vec F S128x128 .f32) (x6 : Vec F S16x256x256 .f32) (x7 : Vec F S512x1024 .f32) (x8 : Vec F S512x1024 .f32) :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8
      = View.canon (order.map fun sp =>
          ⟨Rect.unit (s := S512x1024) ![128 * sp.1.val, 128 * sp.2.val] S128x128.size (inb_tile sp.1 sp.2),
            tileAt i x0 x1 x2 x3 x4 x5 x6 x7 x8 sp.1 sp.2⟩) := by
  have hld : ∀ {κ : Kind} {sp : Space} {S : Shape} {e : EltTy} {m : Memref sig κ sp S e} (h : m.IsWhole) (X : S.Idx → Elt F e)
      (B : LoadRect S), View.readAt (Elt F) m.view B (h.unread X) = ld X B :=
    fun h X B => funext fun x => h.readAt_unread X B x
  refine (View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)).trans ?_
  unfold kernelRun0_A
  dsimp only
  sl_unfold_words
  simp only [hld]
  rfl
end Cert.KernelIdeal.Attn
-- ==== Proof.Softmax.lean ====
module
/- The softmax with a sink over the extended reals: the row maximum, the weights and the denominator, and the
   two places where the division can stand. -/
public import Idealize.ShloMosaic.Lib.IdealHost
public import Idealize.ShloMosaic.PureOps.Ideal.Laws
@[expose] public section
noncomputable section
open Idealize Idealize.ShloMosaic
namespace Cert.Softmax
variable {n : ℕ}

/-- The maximum of a row of scores and the sink. -/
def top (s : Fin n → EReal) (sink : EReal) : EReal := max (Finset.univ.fold max ⊥ s) sink
/-- The weight of one key. -/
def wt (s : Fin n → EReal) (sink : EReal) (j : Fin n) : EReal := Ideal.exp (s j - top s sink)
/-- The denominator: the weights and the sink's own. -/
def den (s : Fin n → EReal) (sink : EReal) : EReal := ∑ j, wt s sink j + Ideal.exp (sink - top s sink)
/-- The weighted values summed, then divided. -/
def sumThenDiv (s v : Fin n → EReal) (sink : EReal) : EReal := (∑ j, wt s sink j * v j) * Ideal.div 1 (den s sink)
/-- Each weight divided, then the values summed. -/
def divThenSum (s v : Fin n → EReal) (sink : EReal) : EReal := ∑ j, Ideal.div (wt s sink j) (den s sink) * v j

theorem top_real (s : Fin n → EReal) (sink : ℝ) (hs : ∀ j, s j < ⊤) : ∃ m : ℝ, top s sink = m := by
  have h1 : top s (sink : EReal) ≠ ⊤ := by
    refine (max_lt ?_ (EReal.coe_lt_top sink)).ne
    exact Finset.fold_max_lt _ |>.2 ⟨bot_lt_top, fun j _ => hs j⟩
  have h2 : top s (sink : EReal) ≠ ⊥ := fun h =>
    EReal.coe_ne_bot sink (le_bot_iff.1 (h ▸ le_max_right _ _))
  exact ⟨(top s sink).toReal, (EReal.coe_toReal h1 h2).symm⟩

theorem exp_sub_real (x : EReal) (hx : x < ⊤) (m : ℝ) : ∃ r : ℝ, 0 ≤ r ∧ Ideal.exp (x - (m : EReal)) = r := by
  induction x with
  | bot => exact ⟨0, le_refl _, by simp [EReal.bot_sub]⟩
  | coe a => exact ⟨Real.exp (a - m), (Real.exp_pos _).le, by rw [← EReal.coe_sub, Ideal.exp_coe]⟩
  | top => exact absurd hx (lt_irrefl _)

theorem coe_sum {ι : Type*} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

theorem den_real (s : Fin n → EReal) (sink : ℝ) (hs : ∀ j, s j < ⊤) : ∃ d : ℝ, 0 < d ∧ den s sink = d := by
  obtain ⟨m, hm⟩ := top_real s sink hs
  choose r hr0 hr using fun j => exp_sub_real (s j) (hs j) m
  refine ⟨∑ j, r j + Real.exp (sink - m), add_pos_of_nonneg_of_pos (Finset.sum_nonneg fun j _ => hr0 j) (Real.exp_pos _), ?_⟩
  unfold den wt
  rw [hm, ← EReal.coe_sub, Ideal.exp_coe, EReal.coe_add, coe_sum]
  simp only [hr]

theorem sum_mul_real (f : Fin n → EReal) (x : ℝ) (hx : 0 ≤ x) : (∑ j, f j) * (x : EReal) = ∑ j, f j * (x : EReal) := by
  induction (Finset.univ : Finset (Fin n)) using Finset.induction_on with
  | empty => simp
  | insert a t ha ih =>
    rw [Finset.sum_insert ha, Finset.sum_insert ha, ← ih,
      EReal.right_distrib_of_nonneg_of_ne_top (EReal.coe_nonneg.2 hx) (EReal.coe_ne_top x)]

/-- With a finite sink and no score `⊤` the division may stand in either place. -/
theorem sumThenDiv_eq (s v : Fin n → EReal) (sink : ℝ) (hs : ∀ j, s j < ⊤) :
    sumThenDiv s v sink = divThenSum s v sink := by
  obtain ⟨d, hd, hden⟩ := den_real s sink hs
  have hd0 : ((d : ℝ) : EReal) ≠ 0 := by exact_mod_cast hd.ne'
  unfold sumThenDiv divThenSum
  rw [hden]
  have h1 : Ideal.div 1 (d : EReal) = ((d⁻¹ : ℝ) : EReal) := by
    unfold Ideal.div; rw [if_neg hd0, one_mul, EReal.coe_inv]
  have h2 : ∀ x : EReal, Ideal.div x (d : EReal) = x * ((d⁻¹ : ℝ) : EReal) := fun x => by
    unfold Ideal.div; rw [if_neg hd0, EReal.coe_inv]
  rw [h1, sum_mul_real _ _ (inv_nonneg.2 hd.le)]
  refine Finset.sum_congr rfl fun j _ => ?_
  rw [h2, mul_assoc, mul_comm (v j), mul_assoc]

/-- A key whose score is `⊥` has weight 0. -/
theorem wt_bot (s : Fin n → EReal) (sink : EReal) (j : Fin n) (h : s j = ⊥) : wt s sink j = 0 := by
  unfold wt; rw [h, EReal.bot_sub, Ideal.exp_bot]

/-- A value counts only where its weight is not 0. -/
theorem divThenSum_congr (s v v' : Fin n → EReal) (sink : ℝ) (hs : ∀ j, s j < ⊤) (hv : ∀ j, s j = ⊥ ∨ v j = v' j) :
    divThenSum s v sink = divThenSum s v' sink := by
  obtain ⟨d, hd, hden⟩ := den_real s sink hs
  refine Finset.sum_congr rfl fun j _ => ?_
  rcases hv j with h | h
  · rw [wt_bot s sink j h, hden, Ideal.div, if_neg (by exact_mod_cast hd.ne'), zero_mul, zero_mul, zero_mul]
  · rw [h]

end Cert.Softmax
-- ==== Proof.TileValue.lean ====
module
/- What one tile holds, entry by entry, over the extended reals. -/
public import proofs.«01_k».proof.Proof.Tile
public import proofs.«01_k».proof.Proof.Softmax
public import Idealize.ShloMosaic.Lib.MatmulPlain
public import Idealize.ShloMosaic.Lib.ValueLayout
public import Idealize.ShloMosaic.Lib.ValueLayoutCasts
public import Idealize.ShloMosaic.Lib.KernelVsHost
@[expose] public section
set_option maxRecDepth 65536
noncomputable section
open Idealize Idealize.ShloMosaic Idealize.ShloMosaic.ValueIdx
namespace Cert.KernelIdeal.Attn
open Cert.KernelIdeal Cert.KernelIdeal.Gen Cert.Softmax

theorem ofBits_neg_inf : Ideal.ofBits .f32 0xFF800000#32 = ⊥ := by simp [Ideal.ofBits, Ideal.ieee]
theorem ofBits_eighth : Ideal.ofBits .f32 0x3E000000#32 = ((1 / 8 : ℝ) : EReal) := by
  simp [Ideal.ofBits, Ideal.ieee]; rw [← EReal.coe_mul]; norm_num
theorem ofBits_half : Ideal.ofBits .f32 0x3F000000#32 = ((1 / 2 : ℝ) : EReal) := by
  simp [Ideal.ofBits, Ideal.ieee]; rw [← EReal.coe_mul]; norm_num

theorem scores_apply (q : FVec Ideal S128x128 .f32) (k : FVec Ideal S256x128 .bf16) (bias : Vec Ideal S1x128x256 .f32)
    (r : Fin 128) (j : Fin 256) :
    scores q k bias (ix2 r j) = ∑ l : Fin 128, q (ix2 r l) * k (ix2 j l) + bias (ix3 (0 : Fin 1) r j) := by
  unfold scores
  rw [addf_apply, shapeCast_1ab_ab_apply bias]
  refine congrArg (· + _) ?_
  refine (Ideal.matmul_transposedRhs_apply none (truncf .bf16 q bitsLt_bf16_f32) k _ r j).trans ?_
  rw [constant_apply, Ideal.ofBits_zero_f32, zero_add]
  rfl

theorem rowMax_apply (s : FVec Ideal S128x256 .f32) (sink : EReal) (r : Fin 128) (u : Fin 1) :
    rowMax (F := Ideal) s sink (ix2 r u) = top (fun j => s (ix2 r j)) sink := by
  unfold rowMax top
  rw [maximumf_apply, shapeCast_a_a1_apply]
  refine congrArg₂ max ?_ rfl
  refine (Ideal.multiReduction_maximumf_single s _ reduces_S128x256_S128 _ _ (ix1 r)).trans ?_
  rw [show FloatOps.ofBits (F := Ideal) .f32 0xFF800000#32 = (⊥ : EReal) from ofBits_neg_inf]
  refine congrArg (Finset.univ.fold max ⊥) (funext fun j => congrArg s ?_)
  funext a; match a with
  | ⟨0, _⟩ => rfl
  | ⟨1, _⟩ => rfl

theorem col_apply (x : FVec Ideal S128x1 .f32) (n : ℕ) (h : S128x1.Broadcasts ⟨2, ![128, n]⟩) (r : Fin 128) (j : Fin n) :
    broadcastTo ⟨2, ![128, n]⟩ x h (ix2 r j) = x (ix2 r (0 : Fin 1)) := by
  refine broadcastTo_apply x h (ix2 r j) (ix2 r (0 : Fin 1)) fun a => ?_
  match a with
  | ⟨0, _⟩ => rfl
  | ⟨1, _⟩ => rfl

theorem expo_apply (s : FVec Ideal S128x256 .f32) (sink : EReal) (r : Fin 128) (j : Fin 256) :
    expo (F := Ideal) s sink (ix2 r j) = wt (fun j => s (ix2 r j)) sink j := by
  unfold expo wt
  show Ideal.exp (s (ix2 r j) - broadcastTo S128x256 (rowMax (F := Ideal) s sink) broadcasts_S128x1_S128x256 (ix2 r j)) = _
  rw [col_apply, rowMax_apply]

theorem denom_apply (s : FVec Ideal S128x256 .f32) (sink : EReal) (r : Fin 128) (u : Fin 1) :
    denom (F := Ideal) s sink (ix2 r u) = den (fun j => s (ix2 r j)) sink := by
  unfold denom den
  rw [addf_apply, shapeCast_a_a1_apply]
  refine congrArg₂ (· + ·) ((Ideal.multiReduction_add_single (expo (F := Ideal) s sink) _ reduces_S128x256_S128 _ _ (ix1 r)).trans
    (Finset.sum_congr rfl fun j _ => ?_)) ?_
  · refine Eq.trans (congrArg _ ?_) (expo_apply s sink r j)
    funext a; match a with
    | ⟨0, _⟩ => rfl
    | ⟨1, _⟩ => rfl
  · show Ideal.exp (sink - rowMax (F := Ideal) s sink (ix2 r u)) = _
    rw [rowMax_apply]

theorem head_apply (s : FVec Ideal S128x256 .f32) (v : FVec Ideal S256x128 .bf16) (sink : EReal) (r c : Fin 128) :
    head (F := Ideal) s v sink (ix2 r c) = sumThenDiv (fun j => s (ix2 r j)) (fun j => v (ix2 j c)) sink := by
  unfold head sumThenDiv
  rw [mulf_apply, col_apply]
  refine congrArg₂ (· * ·) ?_ ?_
  · refine (Ideal.matmul_plain_apply none (truncf .bf16 (expo (F := Ideal) s sink) bitsLt_bf16_f32) v _ r c).trans ?_
    rw [constant_apply, Ideal.ofBits_zero_f32, zero_add]
    refine Finset.sum_congr rfl fun j _ => ?_
    show expo (F := Ideal) s sink (ix2 r j) * _ = _
    rw [expo_apply]
  · show Ideal.div (Ideal.ofBits .f32 0x3F800000#32) (denom (F := Ideal) s sink (ix2 r 0)) = _
    rw [denom_apply, Ideal.ofBits_one_f32]

theorem slt64 : ∀ l : Fin 128, (BitVec.ofNat 32 l.val).slt 64#32 = decide (l.val < 64) := by decide +kernel

theorem lowLanes_apply (r l : Fin 128) : lowLanes (ix2 r l) = if l.val < 64 then 1#1 else 0#1 := by
  unfold lowLanes
  show BitVec.ofBool ((iota .tc S128x128 32 [1] iota_S128x128_d1_w32 (ix2 r l)).slt 64#32) = _
  rw [iota_single_apply]
  show BitVec.ofBool ((BitVec.ofNat 32 l.val).slt 64#32) = _
  rw [slt64]; by_cases h : l.val < 64 <;> simp [h]

theorem highLanes_apply (r l : Fin 128) : highLanes (ix2 r l) = if l.val < 64 then 0#1 else 1#1 := by
  show lowLanes (ix2 r l) ^^^ 1#1 = _
  rw [lowLanes_apply]; by_cases h : l.val < 64 <;> simp [h]

theorem maskedQ_apply (lanes : IVec S128x128 1) (q : FVec Ideal S128x128 .f32) (r l : Fin 128) :
    maskedQ lanes q (ix2 r l) = if lanes (ix2 r l) = 1#1 then q (ix2 r l) * ((1 / 8 : ℝ) : EReal) else 0 := by
  unfold maskedQ
  rw [shapeCast_self, select_apply]
  show (if lanes (ix2 r l) = 1#1 then q (ix2 r l) * Ideal.ofBits .f32 0x3E000000#32 else Ideal.ofBits .f32 0x00000000#32) = _
  rw [ofBits_eighth, Ideal.ofBits_zero_f32]

theorem gateSig_apply (g : FVec Ideal S128x128 .f32) (r l : Fin 128) :
    gateSig g (ix2 r l) = ((1 / 2 : ℝ) : EReal) * Ideal.tanh (((1 / 2 : ℝ) : EReal) * g (ix2 r l)) + ((1 / 2 : ℝ) : EReal) := by
  unfold gateSig
  rw [shapeCast_self]
  show Ideal.ofBits .f32 0x3F000000#32 * Ideal.tanh (Ideal.ofBits .f32 0x3F000000#32 * g (ix2 r l)) + Ideal.ofBits .f32 0x3F000000#32 = _
  rw [ofBits_half]

/-- Half of the hyperbolic tangent of half of `x`, plus a half, is the logistic function of `x`. -/
theorem half_tanh (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast; norm_num
  | coe a =>
    rw [← EReal.coe_mul, Ideal.tanh_coe, Ideal.logistic_coe, ← EReal.coe_mul, ← EReal.coe_add]
    congr 1
    rw [Real.tanh_eq_sinh_div_cosh, Real.sinh_eq, Real.cosh_eq]
    have h1 := Real.exp_pos (1 / 2 * a)
    have h2 := Real.exp_pos (-(1 / 2 * a))
    have h3 : Real.exp (-a) = Real.exp (-(1 / 2 * a)) * Real.exp (-(1 / 2 * a)) := by rw [← Real.exp_add]; congr 1; ring
    have h4 : Real.exp (1 / 2 * a) * Real.exp (-(1 / 2 * a)) = 1 := by rw [← Real.exp_add]; simp
    rw [h3]
    generalize Real.exp (1 / 2 * a) = x at *
    generalize Real.exp (-(1 / 2 * a)) = y at *
    field_simp
    linear_combination (2 * y) * h4

end Cert.KernelIdeal.Attn
-- ==== Proof.BlockValue.lean ====
module
/- What the call's output block holds, entry by entry: the gated attention of one query row and one head over
   the 256 keys of its window. -/
public import proofs.«01_k».proof.Proof.TileValue
@[expose] public section
set_option maxRecDepth 65536
noncomputable section
open Idealize Idealize.ShloMosaic Idealize.ShloMosaic.ValueIdx
namespace Cert.KernelIdeal.Attn
open Cert.KernelIdeal Cert.KernelIdeal.Gen Cert.Softmax

theorem select_one {α : Type} (a b : α) : Scalar.select 1#1 a b = a := if_pos rfl
theorem select_zero {α : Type} (a b : α) : Scalar.select 0#1 a b = b := if_neg (by decide)

/-- Row `a` of the previous block and the current one, stacked. -/
def stackRow (prev : FVec Ideal S128x128 .f32) (cur : FVec Ideal S512x128 .f32) (a : Fin 640) (l : Fin 128) : EReal :=
  if h : a.val < 128 then prev (ix2 (⟨a.val, h⟩ : Fin 128) l) else cur (ix2 (⟨a.val - 128, by omega⟩ : Fin 512) l)

theorem stacked_apply (prev : FVec Ideal S128x128 .f32) (cur : FVec Ideal S512x128 .f32) (a : Fin 640) (l : Fin 128) :
    stacked prev cur (ix2 a l) = stackRow prev cur a l := by
  unfold stacked stackRow
  rw [shapeCast_self, shapeCast_self]
  by_cases h : a.val < 128
  · rw [dif_pos h]
    refine concatenate_pair_apply_left (0 : Fin 2) prev cur _ (ix2 a l) rfl (ix2 (⟨a.val, h⟩ : Fin 128) l) fun b => ?_
    match b with
    | ⟨0, _⟩ => rfl
    | ⟨1, _⟩ => rfl
  · rw [dif_neg h]
    refine concatenate_pair_apply_right (0 : Fin 2) prev cur _ (ix2 a l) rfl rfl (ix2 (⟨a.val - 128, by omega⟩ : Fin 512) l)
      (fun b hb => ?_) ?_
    · match b with
      | ⟨0, _⟩ => exact absurd rfl hb
      | ⟨1, _⟩ => rfl
    · show a.val - 128 + 128 = a.val; omega

theorem rotated_apply (x : FVec Ideal S640x128 .f32) (a : Fin 640) (l : Fin 128) :
    dynamicRotate 1 64#32 none x rotates_S640x128_d1 (ix2 a l) = x (ix2 a (⟨(l.val + 64) % 128, Nat.mod_lt _ (by omega)⟩ : Fin 128)) := by
  refine dynamicRotate_apply (1 : Fin 2) 64#32 x _ (ix2 a l) _ fun b => ?_
  match b with
  | ⟨0, _⟩ => rfl
  | ⟨1, _⟩ => show (l.val + 64) % 128 = (l.val + 128 - 64 % 128) % 128; omega

/-- The lane of the packed key-value row that lane `l` of key-value head `h`'s doubled copy holds. -/
def kvLane (h : Fin 2) (l : Fin 64) : Fin 128 := ⟨64 * h.val + l.val, by omega⟩

theorem doubled_apply (h : Fin 2) (x : FVec Ideal S640x128 .f32) (a : Fin 640) (l : Fin 128) :
    doubled h x (ix2 a l) = x (ix2 a (kvLane h ⟨l.val % 64, Nat.mod_lt _ (by omega)⟩)) := by
  unfold doubled
  show select _ _ _ (ix2 a l) = _
  rw [select_apply]
  have hm : cmpi .slt (iota .tc S640x128 32 [1] iota_S640x128_d1_w32) (broadcast S640x128 64#32) (ix2 a l)
      = if l.val < 64 then 1#1 else 0#1 := by
    show BitVec.ofBool ((iota .tc S640x128 32 [1] iota_S640x128_d1_w32 (ix2 a l)).slt 64#32) = _
    rw [iota_single_apply]
    show BitVec.ofBool ((BitVec.ofNat 32 l.val).slt 64#32) = _
    rw [slt64]; by_cases h : l.val < 64 <;> simp [h]
  rw [hm]
  by_cases hl : l.val < 64
  · rw [if_pos hl, select_one]
    match h with
    | ⟨0, _⟩ =>
      refine congrArg x (congrArg (ix2 a) (Fin.ext ?_))
      show l.val = 64 * 0 + l.val % 64; omega
    | ⟨1, _⟩ =>
      refine (rotated_apply x a l).trans (congrArg x (congrArg (ix2 a) (Fin.ext ?_)))
      show (l.val + 64) % 128 = 64 * 1 + l.val % 64; omega
  · rw [if_neg hl, select_zero]
    match h with
    | ⟨0, _⟩ =>
      refine (rotated_apply x a l).trans (congrArg x (congrArg (ix2 a) (Fin.ext ?_)))
      show (l.val + 64) % 128 = 64 * 0 + l.val % 64; omega
    | ⟨1, _⟩ =>
      refine congrArg x (congrArg (ix2 a) (Fin.ext ?_))
      show l.val = 64 * 1 + l.val % 64; omega

/-- The window of row block `s`: the 256 stacked rows from row `128 s`. -/
def winRow (s : Fin 4) (j : Fin 256) : Fin 640 := ⟨128 * s.val + j.val, by omega⟩

theorem keys_apply (s : Fin 4) (h : Fin 2) (prev : FVec Ideal S128x128 .f32) (cur : FVec Ideal S512x128 .f32) (j : Fin 256) (l : Fin 128) :
    extractStridedSlice S256x128 ![128 * s.val, 0] (doubled h (stacked prev cur)) (slices_keys s) (ix2 j l)
      = stackRow prev cur (winRow s j) (kvLane h ⟨l.val % 64, Nat.mod_lt _ (by omega)⟩) := by
  refine (extractStridedSlice_apply _ _ (slices_keys s) (ix2 j l) (ix2 (winRow s j) l) fun b => ?_).trans ?_
  · match b with
    | ⟨0, _⟩ => rfl
    | ⟨1, _⟩ => show l.val = 0 + l.val; omega
  · rw [doubled_apply, stacked_apply]

/-- A sum over 128 lanes of terms that vanish off one half is the sum over that half's 64. -/
theorem sum_half (b : Fin 2) (f : Fin 128 → EReal) (g : Fin 64 → EReal)
    (h1 : ∀ l : Fin 64, f ⟨64 * b.val + l.val, by omega⟩ = g l) (h0 : ∀ l : Fin 128, l.val / 64 ≠ b.val → f l = 0) :
    ∑ l, f l = ∑ l, g l := by
  have e := Fin.sum_univ_add (a := 64) (b := 64) f
  refine e.trans ?_
  match b with
  | ⟨0, _⟩ =>
    rw [Finset.sum_eq_zero (s := Finset.univ) (f := fun i : Fin 64 => f (Fin.natAdd 64 i)), add_zero]
    · refine Finset.sum_congr rfl fun l _ => (congrArg f (Fin.ext ?_)).trans (h1 l)
      show l.val = 64 * 0 + l.val; omega
    · intro l _; refine h0 _ ?_; show (64 + l.val) / 64 ≠ 0; omega
  | ⟨1, _⟩ =>
    rw [Finset.sum_eq_zero (s := Finset.univ) (f := fun i : Fin 64 => f (Fin.castAdd 64 i)), zero_add]
    · refine Finset.sum_congr rfl fun l _ => (congrArg f (Fin.ext ?_)).trans (h1 l)
      show 64 + l.val = 64 * 1 + l.val; omega
    · intro l _; refine h0 _ ?_; show l.val / 64 ≠ 1; omega

/-- The column of lane `l` of head `h`. -/
def headCol (h : Fin 16) (l : Fin 64) : Fin 1024 := ⟨64 * h.val + l.val, by omega⟩
/-- Row `r` of row block `s`. -/
def blockRow (s : Fin 4) (r : Fin 128) : Fin 512 := ⟨128 * s.val + r.val, by omega⟩
/-- The key-value head of query head `h`. -/
def kvHead (h : Fin 16) : Fin 2 := ⟨h.val / 8, by omega⟩

/-- The bias row of query row `r` of row block `s`: the first block of a batch's first step takes the first 128. -/
def biasRow (first : Bool) (s : Fin 4) (r : Fin 128) : Fin 256 :=
  if first && s.val = 0 then ⟨r.val, by omega⟩ else ⟨128 + r.val, by omega⟩

variable (first : Bool) (x0 : Vec Ideal S16 .f32) (x1 : Vec Ideal S512x1024 .f32) (x2 : Vec Ideal S512x128 .f32)
  (x3 : Vec Ideal S128x128 .f32) (x4 : Vec Ideal S512x128 .f32) (x5 : Vec Ideal S128x128 .f32) (x6 : Vec Ideal S16x256x256 .f32)
  (x7 x8 : Vec Ideal S512x1024 .f32)

/-- The score of key `j` for row `r` of row block `s` and head `h`. -/
def blockScore (s : Fin 4) (r : Fin 128) (h : Fin 16) (j : Fin 256) : EReal :=
  ∑ l : Fin 64, x1 (ix2 (blockRow s r) (headCol h l)) * ((1 / 8 : ℝ) : EReal) * stackRow x3 x2 (winRow s j) (kvLane (kvHead h) l)
    + x6 (ix3 h (biasRow first s r) j)

/-- The output at row `r` of row block `s` and lane `d` of head `h`. -/
def blockOut (s : Fin 4) (r : Fin 128) (h : Fin 16) (d : Fin 64) : EReal :=
  x8 (ix2 (blockRow s r) (headCol h d)) + Ideal.logistic (x7 (ix2 (blockRow s r) (headCol h d)))
    * sumThenDiv (blockScore first x1 x2 x3 x6 s r h) (fun j => stackRow x5 x4 (winRow s j) (kvLane (kvHead h) d)) (x0 (ix1 h))

/-- The two heads of a pair. -/
def headOf (p : Fin 8) (b : Fin 2) : Fin 16 := ⟨2 * p.val + b.val, by omega⟩

theorem ld_unit2 {A B : ℕ} {n k : ℕ} (x : (⟨2, ![A, B]⟩ : Shape).Idx → EReal) (off : Fin 2 → ℕ)
    (inb : ∀ a, off a + (![n, k] : Fin 2 → ℕ) a ≤ (⟨2, ![A, B]⟩ : Shape).size a) (r : Fin n) (c : Fin k) (r' : Fin A) (c' : Fin B)
    (hr : r'.val = off 0 + r.val) (hc : c'.val = off 1 + c.val) :
    ld (F := Ideal) (e := .f32) x (Rect.unit (s := ⟨2, ![A, B]⟩) off ![n, k] inb).toLoadRect (ix2 r c) = x (ix2 r' c') := by
  refine congrArg x (funext fun a => Fin.ext ?_)
  match a with
  | ⟨0, _⟩ => show off 0 + 1 * r.val = r'.val; omega
  | ⟨1, _⟩ => show off 1 + 1 * c.val = c'.val; omega

theorem head_value (i : grid0.Coords) (hfirst : first = decide ((i 1).val = 0)) (s : Fin 4) (p : Fin 8) (b : Fin 2) (r c : Fin 128)
    (lanes : IVec S128x128 1) (hl : ∀ l : Fin 128, lanes (ix2 r l) = if l.val / 64 = b.val then 1#1 else 0#1)
    (sink : EReal) (hsink : sink = x0 (ix1 (headOf p b)))
    (kk vv : FVec Ideal S256x128 .bf16)
    (hk : ∀ (j : Fin 256) (l : Fin 128), kk (ix2 j l) = stackRow x3 x2 (winRow s j) (kvLane (kvOf p) ⟨l.val % 64, Nat.mod_lt _ (by omega)⟩))
    (hv : ∀ (j : Fin 256) (l : Fin 128), vv (ix2 j l) = stackRow x5 x4 (winRow s j) (kvLane (kvOf p) ⟨l.val % 64, Nat.mod_lt _ (by omega)⟩)) :
    head (F := Ideal) (scores (maskedQ lanes
        (ld x1 (Rect.unit (s := S512x1024) ![128 * s.val, 128 * p.val] S128x128.size (inb_tile s p)).toLoadRect)) kk
        (ld x6 (Rect.unit (s := S16x256x256) (biasOff i s (headOf p b)) S1x128x256.size (inb_bias i s (headOf p b))).toLoadRect)) vv sink (ix2 r c)
      = sumThenDiv (blockScore first x1 x2 x3 x6 s r (headOf p b))
          (fun j => stackRow x5 x4 (winRow s j) (kvLane (kvHead (headOf p b)) ⟨c.val % 64, Nat.mod_lt _ (by omega)⟩)) (x0 (ix1 (headOf p b))) := by
  have hkv : kvHead (headOf p b) = kvOf p := Fin.ext (by show (2 * p.val + b.val) / 8 = p.val / 4; omega)
  rw [head_apply, hsink, hkv]
  refine congrArg₂ (fun a v => sumThenDiv a v _) (funext fun j => ?_) (funext fun j => hv j c)
  rw [scores_apply]
  refine congrArg₂ (· + ·) ?_ ?_
  · refine sum_half b _ _ (fun l => ?_) (fun l h => ?_)
    · rw [maskedQ_apply, hl, if_pos (show (64 * b.val + l.val) / 64 = b.val by omega), if_pos rfl, hk, hkv]
      refine congrArg₂ (· * ·) (congrArg (· * _) ?_) (congrArg (fun z => stackRow x3 x2 _ (kvLane _ z)) (Fin.ext ?_))
      · refine ld_unit2 x1 _ _ _ _ _ _ rfl ?_
        show 64 * (2 * p.val + b.val) + l.val = 128 * p.val + (64 * b.val + l.val); omega
      · show (64 * b.val + l.val) % 64 = l.val; omega
    · rw [maskedQ_apply, hl, if_neg h, if_neg (by decide), zero_mul]
  · refine congrArg x6 (funext fun a => Fin.ext ?_)
    refine (congrArg (fun o => o a + 1 * (ix3 (0 : Fin 1) r j a).val) (biasOff_eq i s (headOf p b))).trans ?_
    match a with
    | ⟨0, _⟩ => rfl
    | ⟨1, _⟩ =>
      show (![128 * min (i 1).val 1, 128, 128, 128] : Fin 4 → ℕ) s + 1 * r.val = (biasRow first s r).val
      subst hfirst
      unfold biasRow
      match s with
      | ⟨0, _⟩ =>
        show 128 * min (i 1).val 1 + 1 * r.val = _
        by_cases h : (i 1).val = 0
        · simp [h]
        · simp [h]; omega
      | ⟨1, _⟩ => simp
      | ⟨2, _⟩ => simp
      | ⟨3, _⟩ => simp
    | ⟨2, _⟩ => show 0 + 1 * j.val = j.val; omega

theorem tileAt_apply (i : grid0.Coords) (hfirst : first = decide ((i 1).val = 0)) (s : Fin 4) (p : Fin 8) (r c : Fin 128) :
    tileAt (F := Ideal) i x0 x1 x2 x3 x4 x5 x6 x7 x8 s p (ix2 r c)
      = blockOut first x0 x1 x2 x3 x4 x5 x6 x7 x8 s r (headOf p ⟨c.val / 64, by omega⟩) ⟨c.val % 64, Nat.mod_lt _ (by omega)⟩ := by
  have hcol : (headCol (headOf p ⟨c.val / 64, by omega⟩) ⟨c.val % 64, Nat.mod_lt _ (by omega)⟩).val = 128 * p.val + c.val := by
    show 64 * (2 * p.val + c.val / 64) + c.val % 64 = _; omega
  have hwhole : ∀ {A B : ℕ} (x : (⟨2, ![A, B]⟩ : Shape).Idx → EReal) (inb),
      ld (F := Ideal) (e := .f32) x (Rect.unit (s := ⟨2, ![A, B]⟩) ![0, 0] ![A, B] inb).toLoadRect = x := fun x inb => funext fun y => by
    refine congrArg x (funext fun a => Fin.ext ?_)
    match a with
    | ⟨0, _⟩ => show 0 + 1 * _ = _; omega
    | ⟨1, _⟩ => show 0 + 1 * _ = _; omega
  have hs : ∀ (h : Fin 16) (inb) (z), ld (F := Ideal) (e := .f32) x0 (Rect.unit (s := S16) ![h.val] S1.size inb).toLoadRect z = x0 (ix1 h) := fun h inb z => by
    refine congrArg x0 (funext fun a => Fin.ext ?_)
    match a with
    | ⟨0, _⟩ =>
      have : (z 0).val < 1 := (z 0).isLt
      show h.val + 1 * (z 0).val = h.val; omega
  unfold tileAt tile blockOut
  rw [addf_apply, mulf_apply, gateSig_apply, half_tanh, select_apply, lowLanes_apply]
  refine congrArg₂ (· + ·) (ld_unit2 x8 _ _ _ _ _ _ rfl hcol) (congrArg₂ (· * ·) (congrArg _ (ld_unit2 x7 _ _ _ _ _ _ rfl hcol)) ?_)
  by_cases h : c.val < 64
  · rw [if_pos h, select_one]
    have hb : (⟨c.val / 64, by omega⟩ : Fin 2) = 0 := Fin.ext (by show c.val / 64 = 0; omega)
    rw [hb]
    exact head_value first x0 x1 x2 x3 x4 x5 x6 i hfirst s p 0 r c lowLanes
      (fun l => by rw [lowLanes_apply]; exact if_congr (by show _ ↔ l.val / 64 = 0; omega) rfl rfl) _ (hs _ _ _) _ _
      (fun j l => by rw [keys_apply, hwhole, hwhole]) (fun j l => by rw [keys_apply, hwhole, hwhole])
  · rw [if_neg h, select_zero]
    have hb : (⟨c.val / 64, by omega⟩ : Fin 2) = 1 := Fin.ext (by show c.val / 64 = 1; omega)
    rw [hb]
    exact head_value first x0 x1 x2 x3 x4 x5 x6 i hfirst s p 1 r c highLanes
      (fun l => by rw [highLanes_apply]; by_cases hl : l.val < 64
                   · rw [if_pos hl, if_neg (by show ¬ l.val / 64 = 1; omega)]
                   · rw [if_neg hl, if_pos (by show l.val / 64 = 1; omega)]) _ (hs _ _ _) _ _
      (fun j l => by rw [keys_apply, hwhole, hwhole]) (fun j l => by rw [keys_apply, hwhole, hwhole])

/-- The output block at row `R` and column `C`. -/
def blockAt (R : Fin 512) (C : Fin 1024) : EReal :=
  blockOut first x0 x1 x2 x3 x4 x5 x6 x7 x8 ⟨R.val / 128, by omega⟩ ⟨R.val % 128, Nat.mod_lt _ (by omega)⟩ ⟨C.val / 64, by omega⟩ ⟨C.val % 64, Nat.mod_lt _ (by omega)⟩

theorem canon_apply (i : grid0.Coords) (hfirst : first = decide ((i 1).val = 0)) (y : S512x1024.Idx) :
    View.canon (order.map fun sp =>
        (⟨Rect.unit (s := S512x1024) ![128 * sp.1.val, 128 * sp.2.val] S128x128.size (inb_tile sp.1 sp.2),
          tileAt (F := Ideal) i x0 x1 x2 x3 x4 x5 x6 x7 x8 sp.1 sp.2⟩ : View.Piece (Elt Ideal) S512x1024 .f32)) y
      = blockAt first x0 x1 x2 x3 x4 x5 x6 x7 x8 (y 0) (y 1) := by
  refine View.canon_apply_of_pieces (Val := Elt Ideal) (e := .f32) (S := S512x1024) (fun y => blockAt first x0 x1 x2 x3 x4 x5 x6 x7 x8 (y 0) (y 1)) _ (fun q hq x => ?_) y ?_
  · obtain ⟨⟨s, p⟩, -, rfl⟩ := List.mem_map.1 hq
    have hx : x = ix2 (n0 := 128) (n1 := 128) (x 0) (x 1) := by
      funext a; match a with
      | ⟨0, _⟩ => rfl
      | ⟨1, _⟩ => rfl
    rw [hx]
    refine (tileAt_apply first x0 x1 x2 x3 x4 x5 x6 x7 x8 i hfirst s p (x 0) (x 1)).trans ?_
    have h0 : (x 0).val < 128 := (x 0).isLt
    have h1 : (x 1).val < 128 := (x 1).isLt
    unfold blockAt
    congr 1
    · exact Fin.ext (by show s.val = (128 * s.val + 1 * (x 0).val) / 128; omega)
    · exact Fin.ext (by show (x 0).val = (128 * s.val + 1 * (x 0).val) % 128; omega)
    · exact Fin.ext (by show 2 * p.val + (x 1).val / 64 = (128 * p.val + 1 * (x 1).val) / 64; omega)
    · exact Fin.ext (by show (x 1).val % 64 = (128 * p.val + 1 * (x 1).val) % 64; omega)
  · have h0 : (y 0).val < 512 := (y 0).isLt
    have h1 : (y 1).val < 1024 := (y 1).isLt
    have hall : ∀ sp : Fin 4 × Fin 8, sp ∈ order := by decide
    refine ⟨_, List.mem_map.2 ⟨(⟨(y 0).val / 128, by omega⟩, ⟨(y 1).val / 128, by omega⟩), hall _, rfl⟩, ?_⟩
    rw [Rect.mem_set_unit]
    intro a
    match a with
    | ⟨0, _⟩ => constructor
                · show 128 * ((y 0).val / 128) ≤ (y 0).val; omega
                · show (y 0).val < 128 * ((y 0).val / 128) + 128; omega
    | ⟨1, _⟩ => constructor
                · show 128 * ((y 1).val / 128) ≤ (y 1).val; omega
                · show (y 1).val < 128 * ((y 1).val / 128) + 128; omega
end Cert.KernelIdeal.Attn
-- ==== Proof.HostValue.lean ====
module
/- The packed projections and the table of biases, entry by entry. -/
public import proofs.«01_k».proof.Proof.HostArrays
public import proofs.«01_k».proof.Proof.Bucket
public import proofs.«01_k».proof.Proof.BlockValue
@[expose] public section
set_option maxRecDepth 65536
noncomputable section
open Idealize Idealize.ShloMosaic Idealize.ShloMosaic.ValueIdx Idealize.ShloMosaic.TcCoe
namespace Cert.KernelIdeal.Attn
open Cert.KernelIdeal Cert.KernelIdeal.Gen

/-- One projected row of the prompts, at a column of the reference's order. -/
def promptAt (a0 : FVec Ideal S4x4096x7440 .f32) (R : Fin 16384) (C : Fin 7440) : EReal :=
  a0 (ix3 (⟨R.val / 4096, by omega⟩ : Fin 4) (⟨R.val % 4096, Nat.mod_lt _ (by omega)⟩ : Fin 4096) C)

/-- The rows of the prompts, and the samples' after them. -/
def allRows (a0 : FVec Ideal S4x4096x7440 .f32) (a1 : FVec Ideal S128x4x7440 .f32) : FVec Ideal S16896x7440 .f32 :=
  concatenate S16896x7440 0 [⟨S16384x7440, shapeCast S16384x7440 a0 shapeCasts_S4x4096x7440_S16384x7440⟩,
      ⟨S512x7440, shapeCast S512x7440 a1 shapeCasts_S128x4x7440_S512x7440⟩] concatenates_S16384x7440_S512x7440_S16896x7440_d0

theorem allRows_apply (a0 : FVec Ideal S4x4096x7440 .f32) (a1 : FVec Ideal S128x4x7440 .f32) (R : Fin 16384) (C : Fin 7440) :
    allRows a0 a1 (ix2 (⟨R.val, by omega⟩ : Fin 16896) C) = promptAt a0 R C := by
  unfold allRows
  refine (concatenate_pair_apply_left (t := S16896x7440) (s₁ := S16384x7440) (0 : Fin 2) _ _ _ (ix2 (⟨R.val, by omega⟩ : Fin 16896) C) rfl (ix2 (n0 := 16384) (n1 := 7440) R C) fun b => ?_).trans ?_
  · match b with
    | ⟨0, _⟩ => rfl
    | ⟨1, _⟩ => rfl
  · refine shapeCast_apply a0 _ (ix2 R C) _ ?_
    rw [Shape.rowMajor_val_three, Shape.rowMajor_val_two]
    show (R.val / 4096 * 4096 + R.val % 4096) * 7440 + C.val = R.val * 7440 + C.val
    omega

/-- The four bands the packing keeps. -/
def fourPieces (rows : FVec Ideal S16896x7440 .f32) : List ((s : Shape) × (s.Idx → EReal)) :=
  [⟨S16896x4096, extractStridedSlice S16896x4096 ![0, 0] rows slices_S16896x7440_S16896x4096_0_0⟩,
    ⟨S16896x1024, extractStridedSlice S16896x1024 ![0, 4112] rows slices_S16896x7440_S16896x1024_0_4112⟩,
    ⟨S16896x2048, extractStridedSlice S16896x2048 ![0, 5392] rows slices_S16896x7440_S16896x2048_0_5392⟩,
    ⟨S16896x256, extractStridedSlice S16896x256 ![0, 5136] rows slices_S16896x7440_S16896x256_0_5136⟩]

theorem four_ok (rows : FVec Ideal S16896x7440 .f32) : Shape.Concatenates ((fourPieces rows).map (·.1)) S16896x7424 1 :=
  concatenates_S16896x4096_S16896x1024_S16896x2048_S16896x256_S16896x7424_d1

/-- Where a packed column was: the queries at 4096, the gates at 5120, the keys and the values at 7168. -/
theorem packed_apply (a0 : FVec Ideal S4x4096x7440 .f32) (a1 : FVec Ideal S128x4x7440 .f32) (R : Fin 16384) (C : Fin 7424) (C' : Fin 7440)
    (h : (4096 ≤ C.val ∧ C.val < 5120 ∧ C'.val = C.val + 16) ∨ (5120 ≤ C.val ∧ C.val < 7168 ∧ C'.val = C.val + 272)
      ∨ (7168 ≤ C.val ∧ C'.val + 2032 = C.val)) :
    packed a0 a1 (ix2 (⟨R.val, by omega⟩ : Fin 16896) C) = promptAt a0 R C' := by
  show concatenate S16896x7424 1 (fourPieces (allRows a0 a1)) (four_ok _) _ = _
  have hs : ∀ (n o : ℕ) (hsl : S16896x7440.Slices ![0, o] ⟨2, ![16896, n]⟩) (c : Fin n), C'.val = o + c.val →
      extractStridedSlice ⟨2, ![16896, n]⟩ ![0, o] (allRows a0 a1) hsl
        (ix2 (⟨R.val, by omega⟩ : Fin 16896) c) = promptAt a0 R C' := fun n o hsl c hc => by
    refine (extractStridedSlice_apply _ _ hsl _ (ix2 (⟨R.val, by omega⟩ : Fin 16896) C') fun b => ?_).trans (allRows_apply a0 a1 R C')
    match b with
    | ⟨0, _⟩ => show R.val = 0 + R.val; omega
    | ⟨1, _⟩ => exact hc
  rcases h with ⟨h1, h2, h3⟩ | ⟨h1, h2, h3⟩ | ⟨h1, h3⟩
  · refine (concatenate_apply_piece (t := S16896x7424) (1 : Fin 2) (fourPieces (allRows a0 a1)) (four_ok _) (ix2 (⟨R.val, by omega⟩ : Fin 16896) C) 1 (show 1 < 4 from by decide) S16896x1024 _ rfl rfl 4096 rfl
      (ix2 (⟨R.val, by omega⟩ : Fin 16896) (⟨C.val - 4096, by omega⟩ : Fin 1024)) (fun b hb => ?_) ?_).trans (hs 1024 4112 _ _ ?_)
    · match b with
      | ⟨0, _⟩ => rfl
      | ⟨1, _⟩ => exact absurd rfl hb
    · show 4096 + (C.val - 4096) = C.val; omega
    · show C'.val = 4112 + (C.val - 4096); omega
  · refine (concatenate_apply_piece (t := S16896x7424) (1 : Fin 2) (fourPieces (allRows a0 a1)) (four_ok _) (ix2 (⟨R.val, by omega⟩ : Fin 16896) C) 2 (show 2 < 4 from by decide) S16896x2048 _ rfl rfl 5120 rfl
      (ix2 (⟨R.val, by omega⟩ : Fin 16896) (⟨C.val - 5120, by omega⟩ : Fin 2048)) (fun b hb => ?_) ?_).trans (hs 2048 5392 _ _ ?_)
    · match b with
      | ⟨0, _⟩ => rfl
      | ⟨1, _⟩ => exact absurd rfl hb
    · show 5120 + (C.val - 5120) = C.val; omega
    · show C'.val = 5392 + (C.val - 5120); omega
  · refine (concatenate_apply_piece (t := S16896x7424) (1 : Fin 2) (fourPieces (allRows a0 a1)) (four_ok _) (ix2 (⟨R.val, by omega⟩ : Fin 16896) C) 3 (show 3 < 4 from by decide) S16896x256 _ rfl rfl 7168 rfl
      (ix2 (⟨R.val, by omega⟩ : Fin 16896) (⟨C.val - 7168, by omega⟩ : Fin 256)) (fun b hb => ?_) ?_).trans (hs 256 5136 _ _ ?_)
    · match b with
      | ⟨0, _⟩ => rfl
      | ⟨1, _⟩ => exact absurd rfl hb
    · show 7168 + (C.val - 7168) = C.val; omega
    · show C'.val = 5136 + (C.val - 7168); omega

theorem biasStep_apply (bk : IVec S264x256 32) (rb : FVec Ideal S32x16 .f32) (acc : FVec Ideal S16x264x256 .f32) (b : Fin 32)
    (h : Fin 16) (R : Fin 264) (j : Fin 256) :
    biasStep bk rb acc b (ix3 h R j) = if bk (ix2 R j) = BitVec.ofNat 32 b.val then rb (ix2 b h) else acc (ix3 h R j) := by
  unfold biasStep
  rw [select_apply]
  have h1 : broadcastInDim S16x264x256 ![0, 1, 2] bcast_S1x264x256_S16x264x256_0_1_2
      (cmpi .eq (broadcastInDim S1x264x256 ![1, 2] bcast_S264x256_S1x264x256_1_2 bk)
        (broadcastInDim S1x264x256 ![] bcast_S_S1x264x256 (constantI S_ 32 (BitVec.ofNat 32 b.val)))) (ix3 h R j)
      = IntOp.cmpi .eq (bk (ix2 R j)) (BitVec.ofNat 32 b.val) := by
    refine (broadcastInDim_apply _ _ _ (ix3 h R j) (ix3 (0 : Fin 1) R j) fun a => ?_).trans ?_
    · match a with
      | ⟨0, _⟩ => rfl
      | ⟨1, _⟩ => rfl
      | ⟨2, _⟩ => rfl
    · show IntOp.cmpi .eq (broadcastInDim S1x264x256 ![1, 2] bcast_S264x256_S1x264x256_1_2 bk (ix3 (0 : Fin 1) R j)) _ = _
      rw [broadcastInDim_apply _ _ bk (ix3 (0 : Fin 1) R j) (ix2 R j) fun a => by
        match a with
        | ⟨0, _⟩ => rfl
        | ⟨1, _⟩ => rfl]
      rfl
  have h2 : broadcastInDim S16x264x256 ![0, 1, 2] bcast_S16x1x1_S16x264x256_0_1_2 (broadcastInDim S16x1x1 ![0] bcast_S16_S16x1x1_0
      (shapeCast S16 (extractStridedSlice S1x16 ![b.val, 0] rb (slices_bias b)) shapeCasts_S1x16_S16)) (ix3 h R j) = rb (ix2 b h) := by
    refine (broadcastInDim_apply _ _ _ (ix3 h R j) (ix3 h (0 : Fin 1) (0 : Fin 1)) fun a => ?_).trans ?_
    · match a with
      | ⟨0, _⟩ => rfl
      | ⟨1, _⟩ => rfl
      | ⟨2, _⟩ => rfl
    refine (broadcastInDim_apply _ _ _ (ix3 h (0 : Fin 1) (0 : Fin 1)) (ix1 h) fun a => ?_).trans ?_
    · match a with
      | ⟨0, _⟩ => rfl
    refine (shapeCast_1a_a_apply _ _ h).trans (extractStridedSlice_apply _ rb _ _ (ix2 b h) fun a => ?_)
    match a with
    | ⟨0, _⟩ => rfl
    | ⟨1, _⟩ => show h.val = 0 + h.val; omega
  rw [h1, h2]
  show Scalar.select (BitVec.ofBool (bk (ix2 R j) == BitVec.ofNat 32 b.val)) _ _ = _
  by_cases hb : bk (ix2 R j) = BitVec.ofNat 32 b.val
  · rw [if_pos hb, hb, beq_self_eq_true]; rfl
  · rw [if_neg hb, beq_eq_false_iff_ne.2 hb]; rfl

theorem foldl_step (bk : IVec S264x256 32) (rb : FVec Ideal S32x16 .f32) (h : Fin 16) (R : Fin 264) (j : Fin 256) (b0 : Fin 32)
    (hb : bk (ix2 R j) = BitVec.ofNat 32 b0.val) :
    ∀ (L : List (Fin 32)) (acc : FVec Ideal S16x264x256 .f32), (b0 ∈ L ∨ acc (ix3 h R j) = rb (ix2 b0 h)) →
      L.foldl (biasStep bk rb) acc (ix3 h R j) = rb (ix2 b0 h)
  | [], acc, hL => by rcases hL with hL | hL; exacts [absurd hL List.not_mem_nil, hL]
  | b :: L, acc, hL => by
    refine foldl_step bk rb h R j b0 hb L _ ?_
    by_cases hbb : b0 = b
    · right; rw [biasStep_apply, hb, hbb, if_pos rfl]
    · rcases hL with hL | hL
      · left; exact (List.mem_cons.1 hL).resolve_left hbb
      · right
        rw [biasStep_apply, hb, if_neg, hL]
        intro e
        have := congrArg BitVec.toNat e
        rw [BitVec.toNat_ofNat, BitVec.toNat_ofNat] at this
        exact hbb (Fin.ext (by omega))

theorem foldl_none (bk : IVec S264x256 32) (rb : FVec Ideal S32x16 .f32) (h : Fin 16) (R : Fin 264) (j : Fin 256)
    (hb : ∀ b : Fin 32, bk (ix2 R j) ≠ BitVec.ofNat 32 b.val) :
    ∀ (L : List (Fin 32)) (acc : FVec Ideal S16x264x256 .f32), L.foldl (biasStep bk rb) acc (ix3 h R j) = acc (ix3 h R j)
  | [], _ => rfl
  | b :: L, acc => by
    refine (foldl_none bk rb h R j hb L _).trans ?_
    rw [biasStep_apply, if_neg (hb b)]

theorem mem_all : ∀ b : Fin 32, b ∈ ([0, 1, 2, 3, 4, 5, 6, 7, 8, 9, 10, 11, 12, 13, 14, 15, 16, 17, 18, 19, 20, 21, 22, 23, 24, 25, 26, 27, 28, 29,
    30, 31] : List (Fin 32)) := by decide

theorem biasTable_hit (bk : IVec S264x256 32) (rb : FVec Ideal S32x16 .f32) (h : Fin 16) (R : Fin 264) (j : Fin 256) (b0 : Fin 32)
    (hb : bk (ix2 R j) = BitVec.ofNat 32 b0.val) : biasTable bk rb (ix3 h R j) = rb (ix2 b0 h) :=
  foldl_step bk rb h R j b0 hb _ _ (Or.inl (mem_all b0))

theorem biasTable_miss (bk : IVec S264x256 32) (rb : FVec Ideal S32x16 .f32) (h : Fin 16) (R : Fin 264) (j : Fin 256)
    (hb : bk (ix2 R j) = 4294967295#32) : biasTable bk rb (ix3 h R j) = ⊥ :=
  (foldl_none bk rb h R j (fun b e => by
    rw [hb] at e
    revert b; decide) _ _).trans ofBits_neg_inf

/-- The distance of query row `r` from key `j` of its window, as a word. -/
def distWord (r : Fin 128) (j : Fin 256) : BitVec 32 := BitVec.ofNat 32 r.val - (BitVec.ofNat 32 j.val - 128#32)
theorem distK_apply (r : Fin 128) (j : Fin 256) : distK (ix2 r j) = distWord r j := by
  unfold distK distWord
  refine congrArg₂ (fun a b : BitVec 32 => a - b) ?_ ?_
  · refine (broadcastInDim_apply _ _ _ (ix2 r j) (ix2 r (0 : Fin 1)) fun a => ?_).trans ?_
    · match a with
      | ⟨0, _⟩ => rfl
      | ⟨1, _⟩ => rfl
    refine (broadcastInDim_apply _ _ _ (ix2 r (0 : Fin 1)) (ix1 r) fun a => ?_).trans rfl
    match a with
    | ⟨0, _⟩ => rfl
  · refine (broadcastInDim_apply _ _ _ (ix2 r j) (ix2 (0 : Fin 1) j) fun a => ?_).trans ?_
    · match a with
      | ⟨0, _⟩ => rfl
      | ⟨1, _⟩ => rfl
    refine congrArg₂ (fun a b : BitVec 32 => a - b) ?_ rfl
    refine (broadcastInDim_apply _ _ _ (ix2 (0 : Fin 1) j) (ix1 j) fun a => ?_).trans rfl
    match a with
    | ⟨0, _⟩ => rfl

theorem distWord_in : ∀ (r : Fin 128) (j : Fin 256), r.val < j.val → j.val ≤ r.val + 128 →
    distWord r j = BitVec.ofNat 32 (r.val + 128 - j.val) := fun r j h1 h2 => by
  unfold distWord
  apply BitVec.eq_of_toNat_eq
  simp only [BitVec.toNat_sub, BitVec.toNat_ofNat]
  have := r.isLt; have := j.isLt
  omega

/-- The key may be read: inside the window, and not before the first block. -/
def readable (first : Bool) (r : Fin 128) (j : Fin 256) : Prop := r.val < j.val ∧ j.val ≤ r.val + 128 ∧ (first = true → 128 ≤ j.val)
instance (first : Bool) (r : Fin 128) (j : Fin 256) : Decidable (readable first r j) := by unfold readable; infer_instance

theorem window_of : ∀ e : Fin 383, IntOp.andi (IntOp.cmpi .sge (BitVec.ofNat 32 e.val - 127#32) 0#32) (IntOp.cmpi .slt (BitVec.ofNat 32 e.val - 127#32) 128#32)
    = if e.val < 255 ∧ 127 ≤ e.val then 1#1 else 0#1 := by decide +kernel
theorem distWord_sub (r : Fin 128) (j : Fin 256) : distWord r j = BitVec.ofNat 32 (r.val + 255 - j.val) - 127#32 := by
  unfold distWord
  apply BitVec.eq_of_toNat_eq
  simp only [BitVec.toNat_sub, BitVec.toNat_ofNat]
  have := r.isLt; have := j.isLt
  omega
theorem window_word (r : Fin 128) (j : Fin 256) :
    IntOp.andi (IntOp.cmpi .sge (distWord r j) 0#32) (IntOp.cmpi .slt (distWord r j) 128#32)
      = if r.val < j.val ∧ j.val ≤ r.val + 128 then 1#1 else 0#1 := by
  have h := window_of ⟨r.val + 255 - j.val, by omega⟩
  rw [distWord_sub, h]
  refine if_congr ?_ rfl rfl
  have := r.isLt; have := j.isLt
  show r.val + 255 - j.val < 255 ∧ 127 ≤ r.val + 255 - j.val ↔ _
  omega
theorem current_word : ∀ j : Fin 256, IntOp.cmpi .sge (BitVec.ofNat 32 j.val) 128#32 = if 128 ≤ j.val then 1#1 else 0#1 := by decide +kernel

theorem inWindow_apply (r : Fin 128) (j : Fin 256) : inWindow (ix2 r j) = if r.val < j.val ∧ j.val ≤ r.val + 128 then 1#1 else 0#1 := by
  refine Eq.trans ?_ (window_word r j)
  show IntOp.andi (IntOp.cmpi .sge (distK (ix2 r j)) 0#32) (IntOp.cmpi .slt (distK (ix2 r j)) 128#32) = _
  rw [distK_apply]
theorem inCurrent_apply (r : Fin 128) (j : Fin 256) : inCurrent (ix2 r j) = if 128 ≤ j.val then 1#1 else 0#1 := by
  refine Eq.trans ?_ (current_word j)
  unfold inCurrent
  refine (broadcastInDim_apply _ _ _ (ix2 r j) (ix2 (0 : Fin 1) j) fun a => ?_).trans ?_
  · match a with
    | ⟨0, _⟩ => rfl
    | ⟨1, _⟩ => rfl
  refine congrArg₂ (IntOp.cmpi .sge) ((broadcastInDim_apply _ _ _ (ix2 (0 : Fin 1) j) (ix1 j) fun a => ?_).trans rfl) rfl
  match a with
  | ⟨0, _⟩ => rfl

theorem bucketOf_apply (d : IVec S128x256 32) (i : S128x256.Idx) : bucketOf Ideal d i = Bucket.word (d i) := rfl

theorem maskedBucket_apply (ok : IVec S128x256 1) (d : IVec S128x256 32) (i : S128x256.Idx) :
    maskedBucket Ideal ok d i = Scalar.select (ok i) (Bucket.word (d i)) 4294967295#32 := rfl

/-- The three bands of the bucket array. -/
def threePieces (z : IVec S8x256 32) : List ((s : Shape) × (s.Idx → BitVec 32)) :=
  [⟨S128x256, maskedBucket Ideal (andi inWindow inCurrent) distK⟩, ⟨S128x256, maskedBucket Ideal inWindow distK⟩, ⟨S8x256, z⟩]

theorem three_ok (z : IVec S8x256 32) : Shape.Concatenates ((threePieces z).map (·.1)) S264x256 0 :=
  concatenates_S128x256_S128x256_S8x256_S264x256_d0

theorem bucketRows_apply (z : IVec S8x256 32) (first : Bool) (s : Fin 4) (r : Fin 128) (j : Fin 256) (hs : first = true ∧ s.val = 0 ∨ first = false ∨ 0 < s.val) :
    bucketRows Ideal z (ix2 (⟨(biasRow first s r).val, by omega⟩ : Fin 264) j)
      = if readable (first && s.val = 0) r j then Bucket.word (distWord r j) else 4294967295#32 := by
  show concatenate S264x256 0 (threePieces z) (three_ok z) _ = _
  unfold biasRow
  by_cases hf : (first && decide (s.val = 0)) = true
  · simp only [hf, if_true]
    refine (concatenate_apply_piece (t := S264x256) (0 : Fin 2) (threePieces z) (three_ok z) (ix2 (⟨r.val, by omega⟩ : Fin 264) j) 0 (show 0 < 3 from by decide) S128x256 _ rfl rfl 0 rfl
      (ix2 r j) (fun b hb => ?_) ?_).trans ?_
    · match b with
      | ⟨0, _⟩ => exact absurd rfl hb
      | ⟨1, _⟩ => rfl
    · show 0 + r.val = r.val; omega
    rw [maskedBucket_apply, distK_apply]
    show Scalar.select (IntOp.andi (inWindow (ix2 r j)) (inCurrent (ix2 r j))) _ _ = _
    rw [inWindow_apply, inCurrent_apply]
    by_cases h1 : r.val < j.val ∧ j.val ≤ r.val + 128
    · by_cases h2 : 128 ≤ j.val
      · rw [if_pos h1, if_pos h2, if_pos (show readable true r j from ⟨h1.1, h1.2, fun _ => h2⟩)]; rfl
      · rw [if_pos h1, if_neg h2, if_neg fun h : readable true r j => h2 (h.2.2 rfl)]; rfl
    · rw [if_neg h1, if_neg fun h : readable true r j => h1 ⟨h.1, h.2.1⟩]
      by_cases h2 : 128 ≤ j.val
      · rw [if_pos h2]; rfl
      · rw [if_neg h2]; rfl
  · simp only [hf]
    refine (concatenate_apply_piece (t := S264x256) (0 : Fin 2) (threePieces z) (three_ok z) (ix2 (⟨128 + r.val, by omega⟩ : Fin 264) j) 1 (show 1 < 3 from by decide) S128x256 _ rfl rfl 128 rfl
      (ix2 r j) (fun b hb => ?_) ?_).trans ?_
    · match b with
      | ⟨0, _⟩ => exact absurd rfl hb
      | ⟨1, _⟩ => rfl
    · show 128 + r.val = 128 + r.val; rfl
    rw [maskedBucket_apply, distK_apply, inWindow_apply]
    by_cases h1 : r.val < j.val ∧ j.val ≤ r.val + 128
    · rw [if_pos h1, if_pos (show readable false r j from ⟨h1.1, h1.2, fun h => absurd h (by decide)⟩)]; rfl
    · rw [if_neg h1, if_neg fun h : readable false r j => h1 ⟨h.1, h.2.1⟩]; rfl

/-- The bias of query row `r` and key `j` of its window for head `h`: the table's entry at the distance's bucket, `⊥` where the
    key may not be read. -/
def biasAt (rb : FVec Ideal S32x16 .f32) (h : Fin 16) (r : Fin 128) (j : Fin 256) : EReal :=
  rb (ix2 (⟨(Bucket.word (distWord r j)).toNat % 32, Nat.mod_lt _ (by omega)⟩ : Fin 32) h)

theorem word_in (r : Fin 128) (j : Fin 256) (h1 : r.val < j.val) (h2 : j.val ≤ r.val + 128) : (Bucket.word (distWord r j)).toNat < 32 := by
  rw [distWord_in r j h1 h2]
  exact Bucket.word_lt ⟨r.val + 128 - j.val, by omega⟩

theorem bias_apply (z : IVec S8x256 32) (rb : FVec Ideal S32x16 .f32) (first : Bool) (s : Fin 4) (h : Fin 16) (r : Fin 128) (j : Fin 256) :
    biasTable (bucketRows Ideal z) rb (ix3 h (⟨(biasRow first s r).val, by omega⟩ : Fin 264) j)
      = if readable (first && s.val = 0) r j then biasAt rb h r j else ⊥ := by
  have hb := bucketRows_apply z first s r j (by cases first <;> simp; omega)
  by_cases hr : readable (first && s.val = 0) r j
  · rw [if_pos hr] at hb ⊢
    have hw := word_in r j hr.1 hr.2.1
    refine biasTable_hit _ rb h _ j _ (hb.trans ?_)
    apply BitVec.eq_of_toNat_eq
    rw [BitVec.toNat_ofNat]
    show _ = (Bucket.word (distWord r j)).toNat % 32 % 4294967296
    omega
  · rw [if_neg hr] at hb ⊢
    exact biasTable_miss _ rb h _ j hb

end Cert.KernelIdeal.Attn
-- ==== Proof.Attended.lean ====
module
/- The attention call's result as a function of the arguments: what row `r` of block `n` of batch `b` holds at lane `d` of head
   `h`, in the order the call computes it. -/
public import proofs.«01_k».proof.Proof.HostValue
@[expose] public section
set_option maxRecDepth 65536
noncomputable section
open Idealize Idealize.ShloMosaic Idealize.ShloMosaic.ValueIdx
namespace Cert.KernelIdeal.Attn
open Cert.KernelIdeal Cert.Softmax

/-- Row `r` of block `n` of batch `b`, among all the prompts' rows. -/
def rowOf (b : Fin 4) (n : Fin 32) (r : Fin 128) : Fin 16384 := ⟨4096 * b.val + 128 * n.val + r.val, by omega⟩
/-- The row of key `j` of block `n`'s window: the block before and the block itself. The first block has none before it and
    finds itself in that place, which its bias hides. -/
def keyRow (b : Fin 4) (n : Fin 32) (j : Fin 256) : Fin 16384 :=
  ⟨4096 * b.val + (if n.val = 0 then j.val % 128 else 128 * (n.val - 1) + j.val), by split <;> omega⟩
def qCol (h : Fin 16) (l : Fin 64) : Fin 7440 := ⟨4112 + 64 * h.val + l.val, by omega⟩
def kCol (h : Fin 16) (l : Fin 64) : Fin 7440 := ⟨5136 + 64 * (h.val / 8) + l.val, by omega⟩
def vCol (h : Fin 16) (l : Fin 64) : Fin 7440 := ⟨5264 + 64 * (h.val / 8) + l.val, by omega⟩
def gCol (h : Fin 16) (l : Fin 64) : Fin 7440 := ⟨6416 + 64 * h.val + l.val, by omega⟩

variable (a0 : FVec Ideal S4x4096x7440 .f32) (a2 : FVec Ideal S16384x1024 .f32) (a3 : FVec Ideal S16 .f32) (a4 : FVec Ideal S32x16 .f32)

/-- The score of key `j`: the query scaled by an eighth first, and the bias, `⊥` where the key may not be read. -/
def keyScore (b : Fin 4) (n : Fin 32) (r : Fin 128) (h : Fin 16) (j : Fin 256) : EReal :=
  ∑ l : Fin 64, promptAt a0 (rowOf b n r) (qCol h l) * ((1 / 8 : ℝ) : EReal) * promptAt a0 (keyRow b n j) (kCol h l)
    + if readable (decide (n.val = 0)) r j then biasAt a4 h r j else ⊥

/-- The other mixer's value plus the gated attention, the weighted sum divided at the end. -/
def attended (b : Fin 4) (n : Fin 32) (r : Fin 128) (h : Fin 16) (d : Fin 64) : EReal :=
  a2 (ix2 (rowOf b n r) (headCol h d)) + Ideal.logistic (promptAt a0 (rowOf b n r) (gCol h d))
    * sumThenDiv (keyScore a0 a4 b n r h) (fun j => promptAt a0 (keyRow b n j) (vCol h d)) (a3 (ix1 h))

/-- The whole array. -/
def attendedArr : FVec Ideal S16384x1024 .f32 := fun i =>
  attended a0 a2 a3 a4 ⟨(i 0).val / 4096, by have : (i 0).val < 16384 := (i 0).isLt; omega⟩
    ⟨(i 0).val / 128 % 32, Nat.mod_lt _ (by omega)⟩ ⟨(i 0).val % 128, Nat.mod_lt _ (by omega)⟩
    ⟨(i 1).val / 64, by have : (i 1).val < 1024 := (i 1).isLt; omega⟩ ⟨(i 1).val % 64, Nat.mod_lt _ (by omega)⟩

end Cert.KernelIdeal.Attn
-- ==== Proof.Blocks.lean ====
module
/- What the launch hands each step: every input block, entry by entry, as the argument's own entry. -/
public import proofs.«01_k».proof.Proof.Attended
@[expose] public section
set_option maxRecDepth 65536
noncomputable section
open Idealize Idealize.ShloMosaic Idealize.ShloMosaic.ValueIdx Idealize.ShloMosaic.TcCoe
namespace Cert.KernelIdeal.Attn
open Cert.KernelIdeal Cert.KernelIdeal.Gen Cert.Softmax
variable (m : (ℓ : Loc nD τ sig) → Buf (Elt Ideal) ℓ)

abbrev stepB (t : Fin cfg0.N) : Fin 4 := grid0.coords t 0
abbrev stepI (t : Fin cfg0.N) : Fin 8 := grid0.coords t 1

/-- Where each window stands at a step. -/
theorem places : ∀ t : Fin cfg0.N,
    (win0_1.index t 0 = 8 * (stepB t).val + (stepI t).val ∧ win0_1.index t 1 = 4)
    ∧ (win0_2.index t 0 = 8 * (stepB t).val + (stepI t).val ∧ win0_2.index t 1 = 56)
    ∧ (win0_3.index t 0 = 32 * (stepB t).val + (4 * (stepI t).val - 1) ∧ win0_3.index t 1 = 56)
    ∧ (win0_4.index t 0 = 8 * (stepB t).val + (stepI t).val ∧ win0_4.index t 1 = 57)
    ∧ (win0_5.index t 0 = 32 * (stepB t).val + (4 * (stepI t).val - 1) ∧ win0_5.index t 1 = 57)
    ∧ (win0_6.index t 0 = 0 ∧ win0_6.index t 1 = 0 ∧ win0_6.index t 2 = 0)
    ∧ (win0_7.index t 0 = 8 * (stepB t).val + (stepI t).val ∧ win0_7.index t 1 = 6)
    ∧ (win0_8.index t 0 = 8 * (stepB t).val + (stepI t).val ∧ win0_8.index t 1 = 0)
    ∧ (win0_9.index t 0 = 8 * (stepB t).val + (stepI t).val ∧ win0_9.index t 1 = 0)
    ∧ (win0_10.index t 0 = (stepB t).val ∧ win0_10.index t 1 = 0 ∧ win0_10.index t 2 = 0)
    ∧ (win0_11.index t 0 = (stepB t).val ∧ win0_11.index t 1 = 0 ∧ win0_11.index t 2 = 0) :=
  (by decide +kernel : ∀ t : Fin grid0.N,
    (win0_1.index t 0 = 8 * (grid0.coords t 0).val + (grid0.coords t 1).val ∧ win0_1.index t 1 = 4)
    ∧ (win0_2.index t 0 = 8 * (grid0.coords t 0).val + (grid0.coords t 1).val ∧ win0_2.index t 1 = 56)
    ∧ (win0_3.index t 0 = 32 * (grid0.coords t 0).val + (4 * (grid0.coords t 1).val - 1) ∧ win0_3.index t 1 = 56)
    ∧ (win0_4.index t 0 = 8 * (grid0.coords t 0).val + (grid0.coords t 1).val ∧ win0_4.index t 1 = 57)
    ∧ (win0_5.index t 0 = 32 * (grid0.coords t 0).val + (4 * (grid0.coords t 1).val - 1) ∧ win0_5.index t 1 = 57)
    ∧ (win0_6.index t 0 = 0 ∧ win0_6.index t 1 = 0 ∧ win0_6.index t 2 = 0)
    ∧ (win0_7.index t 0 = 8 * (grid0.coords t 0).val + (grid0.coords t 1).val ∧ win0_7.index t 1 = 6)
    ∧ (win0_8.index t 0 = 8 * (grid0.coords t 0).val + (grid0.coords t 1).val ∧ win0_8.index t 1 = 0)
    ∧ (win0_9.index t 0 = 8 * (grid0.coords t 0).val + (grid0.coords t 1).val ∧ win0_9.index t 1 = 0)
    ∧ (win0_10.index t 0 = (grid0.coords t 0).val ∧ win0_10.index t 1 = 0 ∧ win0_10.index t 2 = 0)
    ∧ (win0_11.index t 0 = (grid0.coords t 0).val ∧ win0_11.index t 1 = 0 ∧ win0_11.index t 2 = 0))

/-- A block of 512 rows' row `R`, among all the prompts' rows. -/
def stepRow (t : Fin cfg0.N) (R : Fin 512) : Fin 16384 :=
  ⟨4096 * (stepB t).val + 512 * (stepI t).val + R.val, by have := (stepB t).isLt; have := (stepI t).isLt; omega⟩
/-- The row of the block of 128 just before the step's, the first of the batch at its first step. -/
def prevRow (t : Fin cfg0.N) (R : Fin 128) : Fin 16384 :=
  ⟨4096 * (stepB t).val + 128 * (4 * (stepI t).val - 1) + R.val, by have := (stepB t).isLt; have := (stepI t).isLt; omega⟩

variable (c : Dev nD)
abbrev in0 : FVec Ideal S4x4096x7440 .f32 := m ((c : Thread nD τ).loc main_arg0)
abbrev in1 : FVec Ideal S128x4x7440 .f32 := m ((c : Thread nD τ).loc main_arg1)
abbrev in2 : FVec Ideal S16384x1024 .f32 := m ((c : Thread nD τ).loc main_arg2)
abbrev in3 : FVec Ideal S16 .f32 := m ((c : Thread nD τ).loc main_arg3)
abbrev in4 : FVec Ideal S32x16 .f32 := m ((c : Thread nD τ).loc main_arg4)

/-- An entry of the packed projections, found from its coordinates. -/
theorem proj_apply (i : S16896x7424.Idx) (R : Fin 16384) (C' : Fin 7440) (hR : (i 0).val = R.val)
    (h : (4096 ≤ (i 1).val ∧ (i 1).val < 5120 ∧ C'.val = (i 1).val + 16) ∨ (5120 ≤ (i 1).val ∧ (i 1).val < 7168 ∧ C'.val = (i 1).val + 272)
      ∨ (7168 ≤ (i 1).val ∧ C'.val + 2032 = (i 1).val)) :
    packed (F := Ideal) (in0 m c) (in1 m c) i = promptAt (in0 m c) R C' := by
  have hi : i = ix2 (⟨R.val, by omega⟩ : Fin 16896) (⟨(i 1).val, (i 1).isLt⟩ : Fin 7424) := by
    funext d
    match d with
    | ⟨0, _⟩ => exact Fin.ext hR
    | ⟨1, _⟩ => rfl
  rw [hi]
  exact packed_apply _ _ R _ C' h

theorem read2 (t : Fin cfg0.N) (y : S512x128.Idx) : iblk m c 2 t y = packed (F := Ideal) (in0 m c) (in1 m c) (((cfg0.win 2).blk t).view.emb y) := by
  have e := V_packed (F := Ideal) m c
  unfold iblk
  generalize V m c = W at e ⊢
  exact congrFun e _
theorem read3 (t : Fin cfg0.N) (y : S128x128.Idx) : iblk m c 3 t y = packed (F := Ideal) (in0 m c) (in1 m c) (((cfg0.win 3).blk t).view.emb y) := by
  have e := V_packed (F := Ideal) m c
  unfold iblk
  generalize V m c = W at e ⊢
  exact congrFun e _
theorem read4 (t : Fin cfg0.N) (y : S512x128.Idx) : iblk m c 4 t y = packed (F := Ideal) (in0 m c) (in1 m c) (((cfg0.win 4).blk t).view.emb y) := by
  have e := V_packed (F := Ideal) m c
  unfold iblk
  generalize V m c = W at e ⊢
  exact congrFun e _
theorem read5 (t : Fin cfg0.N) (y : S128x128.Idx) : iblk m c 5 t y = packed (F := Ideal) (in0 m c) (in1 m c) (((cfg0.win 5).blk t).view.emb y) := by
  have e := V_packed (F := Ideal) m c
  unfold iblk
  generalize V m c = W at e ⊢
  exact congrFun e _
theorem read1 (t : Fin cfg0.N) (R : Fin 512) (C : Fin 1024) : ∃ i : S16896x7424.Idx, X0_1 m c t (ix2 R C) = packed (F := Ideal) (in0 m c) (in1 m c) i
    ∧ (i 0).val = win0_1.index t 0 * 512 + 1 * R.val ∧ (i 1).val = win0_1.index t 1 * 1024 + 1 * C.val := by
  have e := V_packed (F := Ideal) m c
  unfold X0_1 Pipeline.Window.fill
  rw [dif_pos (moved0_1 t _)]
  unfold iblk
  generalize V m c = W at e ⊢
  exact ⟨_, congrFun e _, rfl, rfl⟩
theorem read7 (t : Fin cfg0.N) (R : Fin 512) (C : Fin 1024) : ∃ i : S16896x7424.Idx, X0_7 m c t (ix2 R C) = packed (F := Ideal) (in0 m c) (in1 m c) i
    ∧ (i 0).val = win0_7.index t 0 * 512 + 1 * R.val ∧ (i 1).val = win0_7.index t 1 * 1024 + 1 * C.val := by
  have e := V_packed (F := Ideal) m c
  unfold X0_7 Pipeline.Window.fill
  rw [dif_pos (moved0_7 t _)]
  unfold iblk
  generalize V m c = W at e ⊢
  exact ⟨_, congrFun e _, rfl, rfl⟩
theorem read0 (t : Fin cfg0.N) (y : S16.Idx) : iblk m c 0 t y = in3 m c (((cfg0.win 0).blk t).view.emb y) := by
  have e := V_main_arg3 m c
  unfold iblk
  generalize V m c = W at e ⊢
  exact congrFun e _
theorem read8 (t : Fin cfg0.N) (y : S512x1024.Idx) : iblk m c 8 t y = in2 m c (((cfg0.win 8).blk t).view.emb y) := by
  have e := V_main_arg2 m c
  unfold iblk
  generalize V m c = W at e ⊢
  exact congrFun e _
theorem read6 (t : Fin cfg0.N) (h : Fin 16) (R j : Fin 256) : ∃ z : IVec S8x256 32, X0_6 m c t (ix3 h R j)
    = biasTable (bucketRows Ideal z) (in4 m c) (ix3 h (⟨R.val, by omega⟩ : Fin 264) j) := by
  obtain ⟨z, hz⟩ := V_buckets (F := Ideal) m c
  have e := V_bias (F := Ideal) m c
  have p := (places t).2.2.2.2.2.1
  generalize hW : V m c = W at e hz
  rw [hz] at e
  refine ⟨z, ?_⟩
  unfold X0_6 Pipeline.Window.fill
  rw [dif_pos (moved0_6 t _)]
  unfold iblk
  rw [hW]
  refine (congrFun e _).trans (congrArg (biasTable (bucketRows Ideal z) (in4 m c)) (funext fun d => Fin.ext ?_))
  match d with
  | ⟨0, _⟩ => show win0_6.index t 0 * 16 + 1 * h.val = h.val; omega
  | ⟨1, _⟩ => show win0_6.index t 1 * 256 + 1 * R.val = R.val; omega
  | ⟨2, _⟩ => show win0_6.index t 2 * 256 + 1 * j.val = j.val; omega

theorem q_apply (t : Fin cfg0.N) (R : Fin 512) (C : Fin 1024) (C' : Fin 7440) (hC : C'.val = 4112 + C.val) :
    X0_1 m c t (ix2 R C) = promptAt (in0 m c) (stepRow t R) C' := by
  have p := (places t).1
  obtain ⟨i, hi, h0, h1⟩ := read1 m c t R C
  refine hi.trans (proj_apply m c i _ C' ?_ (Or.inl ?_))
  · show _ = 4096 * (stepB t).val + 512 * (stepI t).val + R.val
    omega
  · omega

theorem gate_apply (t : Fin cfg0.N) (R : Fin 512) (C : Fin 1024) (C' : Fin 7440) (hC : C'.val = 6416 + C.val) :
    X0_7 m c t (ix2 R C) = promptAt (in0 m c) (stepRow t R) C' := by
  have p := (places t).2.2.2.2.2.2.1
  obtain ⟨i, hi, h0, h1⟩ := read7 m c t R C
  refine hi.trans (proj_apply m c i _ C' ?_ (Or.inr (Or.inl ?_)))
  · show _ = 4096 * (stepB t).val + 512 * (stepI t).val + R.val
    omega
  · omega

theorem kcur_apply (t : Fin cfg0.N) (R : Fin 512) (l : Fin 128) (C' : Fin 7440) (hC : C'.val = 5136 + l.val) :
    iblk m c 2 t (ix2 R l) = promptAt (in0 m c) (stepRow t R) C' := by
  have p := (places t).2.1
  refine (read2 m c t _).trans (proj_apply m c (((cfg0.win 2).blk t).view.emb (ix2 R l)) _ C' ?_ (Or.inr (Or.inr ?_)))
  · show win0_2.index t 0 * 512 + 1 * R.val = 4096 * (stepB t).val + 512 * (stepI t).val + R.val
    omega
  · show 7168 ≤ win0_2.index t 1 * 128 + 1 * l.val ∧ C'.val + 2032 = win0_2.index t 1 * 128 + 1 * l.val
    omega

theorem kprev_apply (t : Fin cfg0.N) (R l : Fin 128) (C' : Fin 7440) (hC : C'.val = 5136 + l.val) :
    iblk m c 3 t (ix2 R l) = promptAt (in0 m c) (prevRow t R) C' := by
  have p := (places t).2.2.1
  refine (read3 m c t _).trans (proj_apply m c (((cfg0.win 3).blk t).view.emb (ix2 R l)) _ C' ?_ (Or.inr (Or.inr ?_)))
  · show win0_3.index t 0 * 128 + 1 * R.val = 4096 * (stepB t).val + 128 * (4 * (stepI t).val - 1) + R.val
    omega
  · show 7168 ≤ win0_3.index t 1 * 128 + 1 * l.val ∧ C'.val + 2032 = win0_3.index t 1 * 128 + 1 * l.val
    omega

theorem vcur_apply (t : Fin cfg0.N) (R : Fin 512) (l : Fin 128) (C' : Fin 7440) (hC : C'.val = 5264 + l.val) :
    iblk m c 4 t (ix2 R l) = promptAt (in0 m c) (stepRow t R) C' := by
  have p := (places t).2.2.2.1
  refine (read4 m c t _).trans (proj_apply m c (((cfg0.win 4).blk t).view.emb (ix2 R l)) _ C' ?_ (Or.inr (Or.inr ?_)))
  · show win0_4.index t 0 * 512 + 1 * R.val = 4096 * (stepB t).val + 512 * (stepI t).val + R.val
    omega
  · show 7168 ≤ win0_4.index t 1 * 128 + 1 * l.val ∧ C'.val + 2032 = win0_4.index t 1 * 128 + 1 * l.val
    omega

theorem vprev_apply (t : Fin cfg0.N) (R l : Fin 128) (C' : Fin 7440) (hC : C'.val = 5264 + l.val) :
    iblk m c 5 t (ix2 R l) = promptAt (in0 m c) (prevRow t R) C' := by
  have p := (places t).2.2.2.2.1
  refine (read5 m c t _).trans (proj_apply m c (((cfg0.win 5).blk t).view.emb (ix2 R l)) _ C' ?_ (Or.inr (Or.inr ?_)))
  · show win0_5.index t 0 * 128 + 1 * R.val = 4096 * (stepB t).val + 128 * (4 * (stepI t).val - 1) + R.val
    omega
  · show 7168 ≤ win0_5.index t 1 * 128 + 1 * l.val ∧ C'.val + 2032 = win0_5.index t 1 * 128 + 1 * l.val
    omega

theorem sink_apply (t : Fin cfg0.N) (h : Fin 16) : iblk m c 0 t (ix1 h) = in3 m c (ix1 h) := by
  have p : win0_0.index t 0 = 0 := (by decide +kernel : ∀ t : Fin grid0.N, win0_0.index t 0 = 0) t
  refine (read0 m c t _).trans (congrArg (in3 m c) (?_ : ((cfg0.win 0).blk t).view.emb (ix1 h) = ix1 h))
  funext d; apply Fin.ext
  match d with
  | ⟨0, _⟩ => show win0_0.index t 0 * 16 + 1 * h.val = h.val; omega

theorem other_apply (t : Fin cfg0.N) (R : Fin 512) (C : Fin 1024) : iblk m c 8 t (ix2 R C) = in2 m c (ix2 (stepRow t R) C) := by
  have p := (places t).2.2.2.2.2.2.2.1
  refine (read8 m c t _).trans (congrArg (in2 m c) (?_ : ((cfg0.win 8).blk t).view.emb (ix2 R C) = ix2 (stepRow t R) C))
  funext d; apply Fin.ext
  match d with
  | ⟨0, _⟩ => show win0_8.index t 0 * 512 + 1 * R.val = 4096 * (stepB t).val + 512 * (stepI t).val + R.val; omega
  | ⟨1, _⟩ => show win0_8.index t 1 * 1024 + 1 * C.val = C.val; omega

theorem table_apply (t : Fin cfg0.N) (h : Fin 16) (first : Bool) (s : Fin 4) (r : Fin 128) (j : Fin 256) :
    X0_6 m c t (ix3 h (biasRow first s r) j) = if readable (first && s.val = 0) r j then biasAt (in4 m c) h r j else ⊥ := by
  obtain ⟨z, hz⟩ := read6 m c t h (biasRow first s r) j
  exact hz.trans (bias_apply z (in4 m c) first s h r j)

end Cert.KernelIdeal.Attn
-- ==== Proof.LastRows.lean ====
module
/- What each step leaves for the cache: the last 128 rows of its block of keys and of its block of values. -/
public import proofs.«01_k».proof.Proof.Gen.KernelIdeal.Value
public import Idealize.ShloMosaic.Lib.WholeRead
public import Idealize.ShloMosaic.Lib.ValueIdx
@[expose] public section
set_option maxRecDepth 65536
noncomputable section
open Idealize Idealize.ShloMosaic Idealize.ShloMosaic.ValueIdx
namespace Cert.KernelIdeal.Attn
open Cert.KernelIdeal Cert.KernelIdeal.Gen
variable {F : FTy → Type} [FloatOps F]

theorem hz3 : (![0, 0, 0] : Fin 3 → ℕ) = fun _ => 0 := by funext a; fin_cases a <;> rfl

/-- A block of 128 rows given a leading axis of one, at an index. -/
theorem last_rows_apply (v : Vec F S128x128 .f32) (y : S1x128x128.Idx) (r : Fin 128) (hr : r.val = (y 1).val) (l : Fin 128) (hl : l.val = (y 2).val) :
    shapeCast S1x128x128 (shapeCast S128x128 v shapeCasts_S128x128_S128x128) shapeCasts_S128x128_S1x128x128 y = v (ix2 r l) := by
  rw [shapeCast_self]
  refine shapeCast_apply v _ y _ ?_
  have h0 : (y 0).val < 1 := (y 0).isLt
  rw [Shape.rowMajor_val_three, Shape.rowMajor_val_two]
  show r.val * 128 + l.val = ((y 0).val * 128 + (y 1).val) * 128 + (y 2).val
  omega

theorem out10_apply (c : Dev nD) (i : grid0.Coords) (arg2 : Memref sig .tc .smem S16 .f32) (harg2 : arg2.IsWhole) (arg3 : Memref sig .tc .vmem S512x1024 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S512x128 .f32) (harg6 : arg6.IsWhole) (arg7 : Memref sig .tc .vmem S128x128 .f32) (harg7 : arg7.IsWhole) (arg8 : Memref sig .tc .vmem S16x256x256 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x128x128 .f32) (harg12 : arg12.IsWhole) (arg13 : Memref sig .tc .vmem S1x128x128 .f32) (harg13 : arg13.IsWhole)
    (x0 : Vec F S16 .f32) (x1 : Vec F S512x1024 .f32) (x2 : Vec F S512x128 .f32) (x3 : Vec F S128x128 .f32) (x4 : Vec F S512x128 .f32) (x5 : Vec F S128x128 .f32) (x6 : Vec F S16x256x256 .f32) (x7 : Vec F S512x1024 .f32) (x8 : Vec F S512x1024 .f32) :
    ∀ (y : S1x128x128.Idx), out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 y = x2 (ix2 (⟨384 + (y 1).val, by have : (y 1).val < 128 := (y 1).isLt; omega⟩ : Fin 512) (⟨(y 2).val, by have : (y 2).val < 128 := (y 2).isLt; omega⟩ : Fin 128)) := fun y => by
  refine (congrFun (View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)) y).trans ?_
  unfold kernelRun0_A
  dsimp only
  sl_unfold_words
  refine (congrFun (View.canon_unit_zero hz3 _ _) y).trans ?_
  unfold k0_pay2
  refine (last_rows_apply _ y _ rfl _ rfl).trans ?_
  refine (Memref.IsWhole.readAt_unread _ x2 _ _).trans ?_
  refine congrArg x2 (funext fun d => Fin.ext ?_)
  match d with
  | ⟨0, _⟩ => show 384 + 1 * (y 1).val = 384 + (y 1).val; omega
  | ⟨1, _⟩ => show 0 + 1 * (y 2).val = (y 2).val; omega

theorem out11_apply (c : Dev nD) (i : grid0.Coords) (arg2 : Memref sig .tc .smem S16 .f32) (harg2 : arg2.IsWhole) (arg3 : Memref sig .tc .vmem S512x1024 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S512x128 .f32) (harg6 : arg6.IsWhole) (arg7 : Memref sig .tc .vmem S128x128 .f32) (harg7 : arg7.IsWhole) (arg8 : Memref sig .tc .vmem S16x256x256 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x128x128 .f32) (harg12 : arg12.IsWhole) (arg13 : Memref sig .tc .vmem S1x128x128 .f32) (harg13 : arg13.IsWhole)
    (x0 : Vec F S16 .f32) (x1 : Vec F S512x1024 .f32) (x2 : Vec F S512x128 .f32) (x3 : Vec F S128x128 .f32) (x4 : Vec F S512x128 .f32) (x5 : Vec F S128x128 .f32) (x6 : Vec F S16x256x256 .f32) (x7 : Vec F S512x1024 .f32) (x8 : Vec F S512x1024 .f32) :
    ∀ (y : S1x128x128.Idx), out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 y = x4 (ix2 (⟨384 + (y 1).val, by have : (y 1).val < 128 := (y 1).isLt; omega⟩ : Fin 512) (⟨(y 2).val, by have : (y 2).val < 128 := (y 2).isLt; omega⟩ : Fin 128)) := fun y => by
  refine (congrFun (View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)) y).trans ?_
  unfold kernelRun0_A
  dsimp only
  sl_unfold_words
  refine (congrFun (View.canon_unit_zero hz3 _ _) y).trans ?_
  unfold k0_pay3
  refine (last_rows_apply _ y _ rfl _ rfl).trans ?_
  refine (Memref.IsWhole.readAt_unread _ x4 _ _).trans ?_
  refine congrArg x4 (funext fun d => Fin.ext ?_)
  match d with
  | ⟨0, _⟩ => show 384 + 1 * (y 1).val = 384 + (y 1).val; omega
  | ⟨1, _⟩ => show 0 + 1 * (y 2).val = (y 2).val; omega

end Cert.KernelIdeal.Attn
-- ==== Proof.KernelOut.lean ====
module
/- The arrays the attention call leaves, as functions of the arguments. -/
public import proofs.«01_k».proof.Proof.Blocks
public import proofs.«01_k».proof.Proof.LastRows
public import Idealize.ShloMosaic.Lib.Pipeline.ValueKit.Geometry
@[expose] public section
set_option maxRecDepth 65536
noncomputable section
open Idealize Idealize.ShloMosaic Idealize.ShloMosaic.ValueIdx Idealize.ShloMosaic.TcCoe
namespace Cert.KernelIdeal.Attn
open Cert.KernelIdeal Cert.KernelIdeal.Gen Cert.Softmax
variable (m : (ℓ : Loc nD τ sig) → Buf (Elt Ideal) ℓ) (c : Dev nD)

/-- The block of the batch that row block `s` of the step is. -/
def stepN (t : Fin cfg0.N) (s : Fin 4) : Fin 32 := ⟨4 * (stepI t).val + s.val, by have := (stepI t).isLt; omega⟩

theorem stack_apply (x3 : FVec Ideal S128x128 .f32) (x2 : FVec Ideal S512x128 .f32) (t : Fin cfg0.N) (s : Fin 4) (j : Fin 256) (l : Fin 128) (C' : Fin 7440)
    (h3 : ∀ R : Fin 128, x3 (ix2 R l) = promptAt (in0 m c) (prevRow t R) C') (h2 : ∀ R : Fin 512, x2 (ix2 R l) = promptAt (in0 m c) (stepRow t R) C') :
    stackRow x3 x2 (winRow s j) l = promptAt (in0 m c) (keyRow (stepB t) (stepN t s) j) C' := by
  unfold stackRow
  have hj := j.isLt; have hs := s.isLt
  by_cases h : (winRow s j).val < 128
  · rw [dif_pos h, h3]
    refine congrArg (fun R => promptAt (in0 m c) R C') (Fin.ext ?_)
    have h' : 128 * s.val + j.val < 128 := h
    show 4096 * (stepB t).val + 128 * (4 * (stepI t).val - 1) + (128 * s.val + j.val)
      = 4096 * (stepB t).val + if 4 * (stepI t).val + s.val = 0 then j.val % 128 else 128 * (4 * (stepI t).val + s.val - 1) + j.val
    split <;> omega
  · rw [dif_neg h, h2]
    refine congrArg (fun R => promptAt (in0 m c) R C') (Fin.ext ?_)
    have h' : ¬ 128 * s.val + j.val < 128 := h
    show 4096 * (stepB t).val + 512 * (stepI t).val + (128 * s.val + j.val - 128)
      = 4096 * (stepB t).val + if 4 * (stepI t).val + s.val = 0 then j.val % 128 else 128 * (4 * (stepI t).val + s.val - 1) + j.val
    split <;> omega

theorem stepRow_eq (t : Fin cfg0.N) (s : Fin 4) (r : Fin 128) : stepRow t (blockRow s r) = rowOf (stepB t) (stepN t s) r := by
  apply Fin.ext
  show 4096 * (stepB t).val + 512 * (stepI t).val + (128 * s.val + r.val) = 4096 * (stepB t).val + 128 * (4 * (stepI t).val + s.val) + r.val
  omega

theorem first_eq (t : Fin cfg0.N) (s : Fin 4) : (decide ((stepI t).val = 0) && decide (s.val = 0)) = decide ((stepN t s).val = 0) := by
  have e : (stepN t s).val = 4 * (stepI t).val + s.val := rfl
  rw [e]
  by_cases h1 : (stepI t).val = 0 <;> by_cases h2 : s.val = 0 <;> simp [h1, h2]

theorem block_value (t : Fin cfg0.N) (s : Fin 4) (r : Fin 128) (h : Fin 16) (d : Fin 64) :
    blockOut (decide ((stepI t).val = 0)) (iblk m c 0 t) (X0_1 m c t) (iblk m c 2 t) (iblk m c 3 t) (iblk m c 4 t) (iblk m c 5 t)
      (X0_6 m c t) (X0_7 m c t) (iblk m c 8 t) s r h d
      = attended (in0 m c) (in2 m c) (in3 m c) (in4 m c) (stepB t) (stepN t s) r h d := by
  unfold blockOut attended
  have hh := h.isLt; have hd := d.isLt
  rw [other_apply, stepRow_eq, sink_apply, gate_apply m c t _ _ (gCol h d) (by show 6416 + 64 * h.val + d.val = 6416 + (64 * h.val + d.val); omega), stepRow_eq]
  refine congrArg (fun z : EReal => _ + _ * z) (congrArg₂ (fun a b => sumThenDiv a b _) (funext fun j => ?_) (funext fun j => ?_))
  · unfold blockScore keyScore
    rw [table_apply, first_eq]
    refine congrArg (fun z : EReal => z + _) (Finset.sum_congr rfl fun l _ => ?_)
    rw [q_apply m c t _ _ (qCol h l) (by show 4112 + 64 * h.val + l.val = 4112 + (64 * h.val + l.val); omega), stepRow_eq]
    generalize promptAt (in0 m c) (rowOf (stepB t) (stepN t s) r) (qCol h l) * ((1 / 8 : ℝ) : EReal) = w
    refine congrArg (fun z : EReal => w * z) ?_
    exact stack_apply m c _ _ t s j _ (kCol h l)
      (fun R => kprev_apply m c t R _ _ (by show 5136 + 64 * (h.val / 8) + l.val = 5136 + (64 * (h.val / 8) + l.val); omega))
      (fun R => kcur_apply m c t R _ _ (by show 5136 + 64 * (h.val / 8) + l.val = 5136 + (64 * (h.val / 8) + l.val); omega))
  · exact stack_apply m c _ _ t s j _ (vCol h d)
      (fun R => vprev_apply m c t R _ _ (by show 5264 + 64 * (h.val / 8) + d.val = 5264 + (64 * (h.val / 8) + d.val); omega))
      (fun R => vcur_apply m c t R _ _ (by show 5264 + 64 * (h.val / 8) + d.val = 5264 + (64 * (h.val / 8) + d.val); omega))

theorem outs_apply (t : Fin cfg0.N) (y : S512x1024.Idx) :
    (outsAt0 m c t).1 y = attendedArr (in0 m c) (in2 m c) (in3 m c) (in4 m c) (ix2 (stepRow t (y 0)) (y 1)) := by
  have e : (outsAt0 m c t).1 = out0_A_9 c (grid0.coords t) (ms0_0 t) (hs0_0 t) (ms0_1 t) (hs0_1 t) (ms0_2 t) (hs0_2 t) (ms0_3 t) (hs0_3 t) (ms0_4 t) (hs0_4 t)
          (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
          (iblk m c 0 t) (X0_1 m c t) (iblk m c 2 t) (iblk m c 3 t) (iblk m c 4 t) (iblk m c 5 t) (X0_6 m c t) (X0_7 m c t) (iblk m c 8 t) := by
    unfold outsAt0; rfl
  rw [e, out9_canon, canon_apply (decide ((stepI t).val = 0)) _ _ _ _ _ _ _ _ _ _ rfl y]
  have h0 : (y 0).val < 512 := (y 0).isLt
  have h1 : (y 1).val < 1024 := (y 1).isLt
  unfold blockAt
  refine (block_value m c t _ _ _ _).trans ?_
  unfold attendedArr
  have hb := (stepB t).isLt; have hi := (stepI t).isLt
  have hR : (stepRow t (y 0)).val = 4096 * (stepB t).val + 512 * (stepI t).val + (y 0).val := rfl
  congr 1
  · apply Fin.ext
    show (stepB t).val = (stepRow t (y 0)).val / 4096
    omega
  · apply Fin.ext
    show 4 * (stepI t).val + (y 0).val / 128 = (stepRow t (y 0)).val / 128 % 32
    omega
  · apply Fin.ext
    show (y 0).val % 128 = (stepRow t (y 0)).val % 128
    omega

theorem final9 : (dats m 0 c).arrAt 9 cfg0.N = attendedArr (in0 m c) (in2 m c) (in3 m c) (in4 m c) := by
  refine (dats m 0 c).arrAt_eq_of_covers 9 _ (by decide +kernel) fun t _ y => ?_
  have p := (places t).2.2.2.2.2.2.2.2.1
  rw [after0_9]
  refine (outs_apply m c t _).trans (congrArg (attendedArr (in0 m c) (in2 m c) (in3 m c) (in4 m c)) ?_)
  funext d; apply Fin.ext
  match d with
  | ⟨0, _⟩ => show 4096 * (stepB t).val + 512 * (stepI t).val + (y 0).val = win0_9.index t 0 * 512 + 1 * (y 0).val; omega
  | ⟨1, _⟩ => show (y 1).val = win0_9.index t 1 * 1024 + 1 * (y 1).val; omega

/-- The last 128 rows of a batch at a band of columns. -/
def lastRows (a0 : FVec Ideal S4x4096x7440 .f32) (o : ℕ) (ho : o + 128 ≤ 7440) : FVec Ideal S4x128x128 .f32 := fun i =>
  a0 (ix3 (⟨(i 0).val, (i 0).isLt⟩ : Fin 4) (⟨3968 + (i 1).val, by have : (i 1).val < 128 := (i 1).isLt; omega⟩ : Fin 4096)
    (⟨o + (i 2).val, by have : (i 2).val < 128 := (i 2).isLt; omega⟩ : Fin 7440))

theorem last_step : ∀ t : Fin cfg0.N, ((cfg0.win 10).flush t = true → (stepI t).val = 7) ∧ ((cfg0.win 11).flush t = true → (stepI t).val = 7) :=
  (by decide +kernel : ∀ t : Fin grid0.N, ((cfg0.win 10).flush t = true → (grid0.coords t 1).val = 7) ∧ ((cfg0.win 11).flush t = true → (grid0.coords t 1).val = 7))

/-- A row of a batch's last 128, read as one of all the prompts' rows. -/
theorem lastRows_eq (a0 : FVec Ideal S4x4096x7440 .f32) (o : ℕ) (ho : o + 128 ≤ 7440) (b : Fin 4) (r l : Fin 128) (R : Fin 16384) (C : Fin 7440)
    (hR : R.val = 4096 * b.val + 3968 + r.val) (hC : C.val = o + l.val) : promptAt a0 R C = lastRows a0 o ho (ix3 b r l) := by
  have hb := b.isLt; have hr := r.isLt
  refine congrArg a0 (funext fun d => Fin.ext ?_)
  match d with
  | ⟨0, _⟩ => show R.val / 4096 = b.val; omega
  | ⟨1, _⟩ => show R.val % 4096 = 3968 + r.val; omega
  | ⟨2, _⟩ => show C.val = o + l.val; omega

/-- The block of last rows a step writes, at an index. -/
theorem outs10 (t : Fin cfg0.N) (y : S1x128x128.Idx) : (outsAt0 m c t).2.1 y = iblk m c 2 t (ix2 (⟨384 + (y 1).val, by have : (y 1).val < 128 := (y 1).isLt; omega⟩ : Fin 512) (⟨(y 2).val, by have : (y 2).val < 128 := (y 2).isLt; omega⟩ : Fin 128)) := by
  have e0 : (outsAt0 m c t).2.1 = out0_A_10 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      (iblk m c 0 t) (X0_1 m c t) (iblk m c 2 t) (iblk m c 3 t) (iblk m c 4 t) (iblk m c 5 t) (X0_6 m c t) (X0_7 m c t) (iblk m c 8 t) := by
    unfold outsAt0; rfl
  rw [e0]
  exact out10_apply (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      (iblk m c 0 t) (X0_1 m c t) (iblk m c 2 t) (iblk m c 3 t) (iblk m c 4 t) (iblk m c 5 t) (X0_6 m c t) (X0_7 m c t) (iblk m c 8 t) y

theorem final10 : (dats m 0 c).arrAt 10 cfg0.N = lastRows (in0 m c) 5136 (by omega) := by
  refine (dats m 0 c).arrAt_eq_of_covers 10 _ (by decide +kernel) fun t hf y => ?_
  have p := (places t).2.2.2.2.2.2.2.2.2.1
  have h7 := (last_step t).1 hf
  rw [after0_10]
  have h1 : (y 1).val < 128 := (y 1).isLt
  have h2 : (y 2).val < 128 := (y 2).isLt
  have h0 : (y 0).val < 1 := (y 0).isLt
  refine (outs10 m c t _).trans ((kcur_apply m c t _ _ (⟨5136 + (y 2).val, by omega⟩ : Fin 7440) rfl).trans
    ((lastRows_eq _ 5136 (by omega) (stepB t) ⟨(y 1).val, h1⟩ ⟨(y 2).val, h2⟩ _ _ ?_ rfl).trans (congrArg (lastRows (in0 m c) 5136 (by omega)) ?_)))
  · show 4096 * (stepB t).val + 512 * (stepI t).val + (384 + (y 1).val) = _
    show _ = 4096 * (stepB t).val + 3968 + (y 1).val
    omega
  · funext d; apply Fin.ext
    match d with
    | ⟨0, _⟩ => show (stepB t).val = win0_10.index t 0 * 1 + 1 * (y 0).val; omega
    | ⟨1, _⟩ => show (y 1).val = win0_10.index t 1 * 128 + 1 * (y 1).val; omega
    | ⟨2, _⟩ => show (y 2).val = win0_10.index t 2 * 128 + 1 * (y 2).val; omega

/-- The block of last rows a step writes, at an index. -/
theorem outs11 (t : Fin cfg0.N) (y : S1x128x128.Idx) : (outsAt0 m c t).2.2 y = iblk m c 4 t (ix2 (⟨384 + (y 1).val, by have : (y 1).val < 128 := (y 1).isLt; omega⟩ : Fin 512) (⟨(y 2).val, by have : (y 2).val < 128 := (y 2).isLt; omega⟩ : Fin 128)) := by
  have e0 : (outsAt0 m c t).2.2 = out0_A_11 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      (iblk m c 0 t) (X0_1 m c t) (iblk m c 2 t) (iblk m c 3 t) (iblk m c 4 t) (iblk m c 5 t) (X0_6 m c t) (X0_7 m c t) (iblk m c 8 t) := by
    unfold outsAt0; rfl
  rw [e0]
  exact out11_apply (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      (iblk m c 0 t) (X0_1 m c t) (iblk m c 2 t) (iblk m c 3 t) (iblk m c 4 t) (iblk m c 5 t) (X0_6 m c t) (X0_7 m c t) (iblk m c 8 t) y

theorem final11 : (dats m 0 c).arrAt 11 cfg0.N = lastRows (in0 m c) 5264 (by omega) := by
  refine (dats m 0 c).arrAt_eq_of_covers 11 _ (by decide +kernel) fun t hf y => ?_
  have p := (places t).2.2.2.2.2.2.2.2.2.2
  have h7 := (last_step t).2 hf
  rw [after0_11]
  have h1 : (y 1).val < 128 := (y 1).isLt
  have h2 : (y 2).val < 128 := (y 2).isLt
  have h0 : (y 0).val < 1 := (y 0).isLt
  refine (outs11 m c t _).trans ((vcur_apply m c t _ _ (⟨5264 + (y 2).val, by omega⟩ : Fin 7440) rfl).trans
    ((lastRows_eq _ 5264 (by omega) (stepB t) ⟨(y 1).val, h1⟩ ⟨(y 2).val, h2⟩ _ _ ?_ rfl).trans (congrArg (lastRows (in0 m c) 5264 (by omega)) ?_)))
  · show 4096 * (stepB t).val + 512 * (stepI t).val + (384 + (y 1).val) = _
    show _ = 4096 * (stepB t).val + 3968 + (y 1).val
    omega
  · funext d; apply Fin.ext
    match d with
    | ⟨0, _⟩ => show (stepB t).val = win0_11.index t 0 * 1 + 1 * (y 0).val; omega
    | ⟨1, _⟩ => show (y 1).val = win0_11.index t 1 * 128 + 1 * (y 1).val; omega
    | ⟨2, _⟩ => show (y 2).val = win0_11.index t 2 * 128 + 1 * (y 2).val; omega

/-- The run: the three arrays as functions of the arguments, the arguments unchanged. -/
theorem run (ρ : Dev nD → PrngReg) : θ_run defs (onTc (τ := τ) (main (F := Ideal))) ⟨m, fun _ => 0, ρ⟩ fun r => ∀ c : Dev nD,
    (r.2.mem ((c : Thread nD τ).loc main_v336_0) = attendedArr (in0 m c) (in2 m c) (in3 m c) (in4 m c)
      ∧ r.2.mem ((c : Thread nD τ).loc main_v336_1) = lastRows (in0 m c) 5136 (by omega)
      ∧ r.2.mem ((c : Thread nD τ).loc main_v336_2) = lastRows (in0 m c) 5264 (by omega))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨⟨(h c).1.trans (final9 m c), (h c).2.1.trans (final10 m c), (h c).2.2.1.trans (final11 m c)⟩, (h c).2.2.2⟩)
    (Value.run_blocks m ρ)

end Cert.KernelIdeal.Attn
-- ==== Proof.ProjText.lean ====
module
/- The second kernel program and its idealization are one text: their bodies, body tables and main functions agree. -/
public import proofs.«01_k».proof.Proof.Gen.Kernel2
public import proofs.«01_k».proof.Proof.Gen.Kernel2Ideal

@[expose] public section

set_option maxRecDepth 65536

noncomputable section

namespace Cert.Proof

open Idealize Idealize.ShloMosaic Idealize.ShloMosaic.TcCoe Idealize.SL.Sem

variable {F : FTy → Type} [FloatOps F]

/-- The two programs' bodies are one function. -/
theorem bodies_eq : @Cert.Kernel2.cc0_inproj F _ _ = @Cert.Kernel2Ideal.cc0_inproj F _ _ := rfl

/-- The two programs' tables of bodies agree label by label. -/
theorem body_tables_eq : Cert.Kernel2.defs₀ (F := F) = Cert.Kernel2Ideal.defs₀ (F := F) := by
  unfold Cert.Kernel2.defs₀ Cert.Kernel2Ideal.defs₀
  refine congrArg _ (funext fun l => ?_)
  match l with
  | 0 =>
    funext x
    exact congrFun (congrFun (congrFun (congrFun (congrFun (congrFun (congrFun (congrFun (congrFun (congrFun (congrFun (congrFun (congrFun (congrFun (congrFun (congrFun (congrFun (congrFun (congrFun (congrFun (congrFun (congrFun (congrFun bodies_eq _) _) _) _) _) _) _) _) _) _) _) _) _) _) _) _) _) _) _) _) _) _) _

/-- The two programs' full tables agree: each adds the same pipeline to its table of bodies. -/
theorem tables_eq : Cert.Kernel2.defs (F := F) = Cert.Kernel2Ideal.defs (F := F) :=
  congrArg (Pipeline.defs (Cert.Kernel2.pcfgs (F := F))) body_tables_eq

end Cert.Proof

end
-- ==== Proof.ProjCases.lean ====
module
/- The input projection's three cases: a sequence's first tile, a later prompt tile, a sample tile. -/
public import proofs.«01_k».proof.Proof.Gen.Kernel2Ideal.Skeleton
public import proofs.«01_k».proof.Proof.Gen.Kernel2Ideal.Frame
public import proofs.«01_k».proof.Proof.Gen.Kernel2Ideal.Points
public import Idealize.ShloMosaic.Lib.Pipeline.TableIdle

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := k0_cond1 i = 1#1
theorem hcond0_0 : ∀ t : Fin cfg0.N, cond0_0 (grid0.coords t) ↔ t.val < 64 :=
  (by decide +kernel : ∀ t : Fin grid0.N, cond0_0 (grid0.coords t) ↔ t.val < 64)

abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32)) 0#32) = 1#1
theorem hcond0_1 : ∀ t : Fin cfg0.N, cond0_1 (grid0.coords t) ↔ t.val % 16 = 0 :=
  (by decide +kernel : ∀ t : Fin grid0.N, cond0_1 (grid0.coords t) ↔ t.val % 16 = 0)

abbrev cond0_2 (i : grid0.Coords) : Prop := k0_cond3 i = 1#1
theorem hcond0_2 : ∀ t : Fin cfg0.N, cond0_2 (grid0.coords t) ↔ 64 ≤ t.val :=
  (by decide +kernel : ∀ t : Fin grid0.N, cond0_2 (grid0.coords t) ↔ 64 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_9_A : ∀ t : Fin cfg0.N, cond0_0 (grid0.coords t) → cond0_1 (grid0.coords t) → ¬cond0_2 (grid0.coords t) → cfg0.idle 9 (grid0.coords t) = false := by decide +kernel
theorem liveAt0_9_B : ∀ t : Fin cfg0.N, cond0_0 (grid0.coords t) → ¬cond0_1 (grid0.coords t) → ¬cond0_2 (grid0.coords t) → cfg0.idle 9 (grid0.coords t) = false := by decide +kernel
theorem idleAt0_9 : ∀ t : Fin cfg0.N, cfg0.idle 9 (grid0.coords t) = true → ¬t.val < 64 := by decide +kernel
theorem idleAt0_9_C : ∀ t : Fin cfg0.N, ¬cond0_0 (grid0.coords t) → cfg0.idle 9 (grid0.coords t) = true := by decide +kernel
theorem flushAt0_9_C : ∀ t : Fin cfg0.N, 64 ≤ t.val → (cfg0.win 9).flush t = decide (t.val = 65) := by decide +kernel
theorem freshAt0_9_C : ∀ t : Fin cfg0.N, 64 ≤ t.val → cfg0.fresh 9 t.val = false := by decide +kernel
theorem liveAt0_7_A : ∀ t : Fin cfg0.N, cond0_0 (grid0.coords t) → cond0_1 (grid0.coords t) → ¬cond0_2 (grid0.coords t) → cfg0.idle 7 (grid0.coords t) = false := by decide +kernel
theorem liveAt0_7_B : ∀ t : Fin cfg0.N, cond0_0 (grid0.coords t) → ¬cond0_1 (grid0.coords t) → ¬cond0_2 (grid0.coords t) → cfg0.idle 7 (grid0.coords t) = false := by decide +kernel
theorem liveAt0_7_C : ∀ t : Fin cfg0.N, ¬cond0_0 (grid0.coords t) → cond0_2 (grid0.coords t) → cfg0.idle 7 (grid0.coords t) = false := by decide +kernel
theorem liveAt0_8_A : ∀ t : Fin cfg0.N, cond0_0 (grid0.coords t) → cond0_1 (grid0.coords t) → ¬cond0_2 (grid0.coords t) → cfg0.idle 8 (grid0.coords t) = false := by decide +kernel
theorem liveAt0_8_B : ∀ t : Fin cfg0.N, cond0_0 (grid0.coords t) → ¬cond0_1 (grid0.coords t) → ¬cond0_2 (grid0.coords t) → cfg0.idle 8 (grid0.coords t) = false := by decide +kernel
theorem liveAt0_8_C : ∀ t : Fin cfg0.N, ¬cond0_0 (grid0.coords t) → cond0_2 (grid0.coords t) → cfg0.idle 8 (grid0.coords t) = false := by decide +kernel

abbrev VO0_7 : View sig .tc .vmem S256x7424 .f32 := (Memref.whole cc0_stg7_0 : Memref sig .tc .vmem S256x7424 .f32).view
abbrev VO0_8 : View sig .tc .vmem S256x128 .f32 := (Memref.whole cc0_stg8_0 : Memref sig .tc .vmem S256x128 .f32).view
abbrev VO0_9 : View sig .tc .vmem S1x8x3072 .f32 := (Memref.whole cc0_stg9_0 : Memref sig .tc .vmem S1x8x3072 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x7424 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x3072 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3x3072 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x7424 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x3072 .f32 := win0_9.stage (cfg0.slots t 9)
abbrev hs0_9 (t : Fin cfg0.N) : (ms0_9 t).IsWhole := hstage0_9 ((cfg0.slots t 9).cast nbuf0_9)
abbrev scM0_0 : Memref sig .tc .vmem S8x3072 .f32 := Memref.whole cc0_scratch0
abbrev VS0_0 : View sig .tc .vmem S8x3072 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Body

end
-- ==== Proof.ProjRunA.lean ====
module
/- The body run on a sequence's first tile: the carried rows are set to zero, then the tile is projected and convolved. -/

public import proofs.«01_k».proof.Proof.ProjCases

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) :
    Σ' (L7 : List (View.Piece (Elt F) S256x7424 .f32)), Σ' (L8 : List (View.Piece (Elt F) S256x128 .f32)), Σ' (L9 : List (View.Piece (Elt F) S1x8x3072 .f32)), { LS0 : List (View.Piece (Elt F) S8x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS0

end Cert.Kernel2Ideal.Body

end
-- ==== Proof.ProjRunB.lean ====
module
/- The body run on a later prompt tile: the tile is projected and convolved over the carried rows. -/

public import proofs.«01_k».proof.Proof.ProjCases

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) :
    Σ' (L7 : List (View.Piece (Elt F) S256x7424 .f32)), Σ' (L8 : List (View.Piece (Elt F) S256x128 .f32)), Σ' (L9 : List (View.Piece (Elt F) S1x8x3072 .f32)), { LS0 : List (View.Piece (Elt F) S8x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS0

end Cert.Kernel2Ideal.Body

end
-- ==== Proof.ProjRunC.lean ====
module
/- The body run on a sample tile: the tile is projected. -/

public import proofs.«01_k».proof.Proof.ProjCases

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : ¬cond0_0 i) (hc2 : cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) :
    Σ' (L7 : List (View.Piece (Elt F) S256x7424 .f32)), Σ' (L8 : List (View.Piece (Elt F) S256x128 .f32)), { LS0 : List (View.Piece (Elt F) S8x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg11 fullShare xs0) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11) K } := by
  refine ⟨?_, ?_, [], fun E K => ?run⟩
  case run =>
    simp only [cc0_inproj_eq_skeleton]; unfold cc0_inproj_skel
    simp only [k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
    sl_exec (disch := first | sl_exact hc0 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; isplitr; · ipureintro; exact harg11.read_unread _
    iexact HS0

end Cert.Kernel2Ideal.Body

end
-- ==== Proof.ProjFrame.lean ====
module
/- The input projection's proof data, body obligation, run and frame. -/

public import proofs.«01_k».proof.Proof.ProjRunA
public import proofs.«01_k».proof.Proof.ProjRunB
public import proofs.«01_k».proof.Proof.ProjRunC
public import Idealize.ShloMosaic.Lib.Claim

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (y : S256x7424.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).1 ![256, 256] (by sl_kernel_rfl) y

def out0_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) : Vec F S256x7424 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).1)

theorem cover0_A_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.1 S256x128.size (by sl_kernel_rfl) y

def out0_A_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) : Vec F S256x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.1)

theorem cover0_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (y : S1x8x3072.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.1 S1x8x3072.size (by sl_kernel_rfl) y

def out0_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) : Vec F S1x8x3072 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.1)

theorem scover0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (y : S8x3072.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.2.1 (by sl_whole_mem) y

def sout0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) : Vec F S8x3072 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.2.1)

theorem cover0_B_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) (y : S256x7424.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).1 ![256, 256] (by sl_kernel_rfl) y

def out0_B_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) : Vec F S256x7424 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).1)

theorem cover0_B_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) (y : S256x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).2.1 S256x128.size (by sl_kernel_rfl) y

def out0_B_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) : Vec F S256x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).2.1)

theorem cover0_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) (y : S1x8x3072.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).2.2.1 S1x8x3072.size (by sl_kernel_rfl) y

def out0_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) : Vec F S1x8x3072 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).2.2.1)

theorem scover0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) (y : S8x3072.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).2.2.2.1 S8x512.size (by sl_kernel_rfl) y

def sout0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) : Vec F S8x3072 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0).2.2.2.1)

theorem cover0_C_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : ¬cond0_0 i) (hc2 : cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) (y : S256x7424.Idx) :
    ∃ pc ∈ (kernelRun0_C c i arg1 harg1 arg2 harg2 arg3 harg3 arg4 harg4 arg5 harg5 arg6 harg6 arg7 harg7 arg8 harg8 arg9 harg9 arg10 harg10 arg11 harg11 hc0 hc2 x0 x1 x2 x3 x4 x5 x6 xs0).1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 hc0 hc2 x0 x1 x2 x3 x4 x5 x6 xs0).1 ![256, 256] (by sl_kernel_rfl) y

def out0_C_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : ¬cond0_0 i) (hc2 : cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) : Vec F S256x7424 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc2 x0 x1 x2 x3 x4 x5 x6 xs0).1)

theorem cover0_C_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : ¬cond0_0 i) (hc2 : cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) (y : S256x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc2 x0 x1 x2 x3 x4 x5 x6 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc2 x0 x1 x2 x3 x4 x5 x6 xs0).2.1 S256x128.size (by sl_kernel_rfl) y

def out0_C_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : ¬cond0_0 i) (hc2 : cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) : Vec F S256x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc2 x0 x1 x2 x3 x4 x5 x6 xs0).2.1)

def sout0_C_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : ¬cond0_0 i) (hc2 : cond0_2 i)
    (x0 : Vec F S256x1024 .f32) (x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) : Vec F S8x3072 .f32 := xs0

def outsAt0 (c : Dev nD) : (n : ℕ) → n < cfg0.N → Vec F S256x7424 .f32 × Vec F S256x128 .f32 × Vec F S1x8x3072 .f32 × Vec F S8x3072 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) < 64 then
      if h1 : (n + 1) % 16 = 0 then
        if h2 : 64 ≤ (n + 1) then
          False.elim (by have hN : n + 1 < 66 := lt_of_lt_of_eq hn (show cfg0.N = 66 from N_0); omega)
        else
          (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
      else
        if h2 : 64 ≤ (n + 1) then
          False.elim (by have hN : n + 1 < 66 := lt_of_lt_of_eq hn (show cfg0.N = 66 from N_0); omega)
        else
          (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2)
    else
      if h2 : 64 ≤ (n + 1) then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2, (outsAt0 c n (Nat.lt_of_succ_lt hn)).2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2)
      else
        False.elim (by have hN : n + 1 < 66 := lt_of_lt_of_eq hn (show cfg0.N = 66 from N_0); omega)

theorem outsAt0_A (c : Dev nD) (t : Fin cfg0.N) (h0 : t.val < 64) (h1 : t.val % 16 = 0) (h2 : ¬64 ≤ t.val) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans ((dif_neg h2).trans rfl))

theorem outsAt0_B (c : Dev nD) (t : Fin cfg0.N) (h0 : t.val < 64) (h1 : ¬t.val % 16 = 0) (h2 : ¬64 ≤ t.val) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2) := by
  obtain ⟨n, hn⟩ := t
  cases n with
  | zero => exact (by exfalso; (try dsimp only at h1); exact absurd (Nat.zero_mod _) h1)
  | succ n => exact (dif_pos h0).trans ((dif_neg h1).trans ((dif_neg h2).trans rfl))

theorem outsAt0_C (c : Dev nD) (t : Fin cfg0.N) (h0 : ¬t.val < 64) (h2 : 64 ≤ t.val) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2, (outsAt0 m c (t.val - 1) (Nat.lt_of_le_of_lt (Nat.sub_le _ _) t.isLt)).2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2) := by
  obtain ⟨n, hn⟩ := t
  cases n with
  | zero => exact (by exfalso; (try dsimp only at h0); exact by omega)
  | succ n => exact (dif_neg h0).trans ((dif_pos h2).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem carry9 (c : Dev nD) (t : Fin cfg0.N) (h2 : 64 ≤ t.val) :
    (outsAt0 m c t.val t.isLt).2.2.1 = (outsAt0 m c (t.val - 1) (Nat.lt_of_le_of_lt (Nat.sub_le _ _) t.isLt)).2.2.1 :=
  congrArg (fun p => p.2.2.1) (outsAt0_C m c t (by omega) h2)

theorem before9_C (c : Dev nD) (t : Fin cfg0.N) (h2 : 64 ≤ t.val) (d) :
    (dats m 0 c).before 9 t d = (dats m 0 c).after 9 t := by
  have hz : t.val ≠ 0 := by omega
  have e := (dats m 0 c).before_out_traj 9 rfl (fun _ _ => rfl) (fun n h0 hidle hfresh => by
    have hI := idleAt0_9 n hidle
    rw [after0_9, after0_9]
    exact carry9 m c n (by omega)) t.val t rfl d
  rw [freshAt0_9_C t h2] at e
  rw [e, after0_9, after0_9]
  exact (carry9 m c t h2).symm

theorem leaves9_C (c : Dev nD) (t : Fin cfg0.N) (h2 : 64 ≤ t.val) (d) :
    owns (c : Thread nD τ) (ms0_9 t) fullShare ((dats m 0 c).before 9 t d) ⊢ (dats m 0 c).leavesExact 9 t := by
  have hi := idleAt0_9_C t (fun h => by have := (hcond0_0 t).mp h; omega)
  by_cases h : t.val = 65
  · rw [show (dats m 0 c).leavesExact 9 t = owns (c : Thread nD τ) (ms0_9 t) fullShare ((dats m 0 c).after 9 t) from by
      unfold Dat.leavesExact; rw [hi, flushAt0_9_C t h2, decide_eq_true h]]
    rw [before9_C m c t h2 d]
  · rw [(dats m 0 c).leavesExact_idle 9 t hi ((flushAt0_9_C t h2).trans (decide_eq_false h))]
    iintro H
    iexists d
    iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 66 := lt_of_lt_of_eq t.isLt (show cfg0.N = 66 from N_0)
  by_cases h0 : t.val < 64
  · by_cases h1 : t.val % 16 = 0
    · by_cases h2 : 64 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7_A t ((hcond0_0 t).mpr h0) ((hcond0_1 t).mpr h1) (fun h => h2 ((hcond0_2 t).mp h))], after0_7]
        rw [show (dats m 0 c).leavesExact 8 t = owns (c : Thread nD τ) (ms0_8 t) fullShare ((dats m 0 c).after 8 t) from by
      unfold Dat.leavesExact; rw [liveAt0_8_A t ((hcond0_0 t).mpr h0) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h))], after0_9]
        by_cases hz : t.val = 0
        · rw [PhiS_castSucc m c t, PhiS_zero m c _ _ hz, PhiA0_eq]
          rw [outsAt0_A m c t h0 h1 h2]
          unfold out0_A_7 out0_A_8 out0_A_9 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [HS0]; · iexact HS0
          iintro ⟨H0, H1, H2, H3, H4, H5, H6, ⟨%e7, H7⟩, ⟨%e8, H8⟩, ⟨%e9, H9⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _)
        · rw [PhiS_castSucc m c t, PhiS_pos m c _ _ hz]
          rw [outsAt0_A m c t h0 h1 h2]
          unfold out0_A_7 out0_A_8 out0_A_9 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [HS0]; · iexists _; iexact HS0
          iintro ⟨H0, H1, H2, H3, H4, H5, H6, ⟨%e7, H7⟩, ⟨%e8, H8⟩, ⟨%e9, H9⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _)
    · by_cases h2 : 64 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7_B t ((hcond0_0 t).mpr h0) (fun h => h1 ((hcond0_1 t).mp h)) (fun h => h2 ((hcond0_2 t).mp h))], after0_7]
        rw [show (dats m 0 c).leavesExact 8 t = owns (c : Thread nD τ) (ms0_8 t) fullShare ((dats m 0 c).after 8 t) from by
      unfold Dat.leavesExact; rw [liveAt0_8_B t ((hcond0_0 t).mpr h0) (fun h => h1 ((hcond0_1 t).mp h)) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_B t ((hcond0_0 t).mpr h0) (fun h => h1 ((hcond0_1 t).mp h)) (fun h => h2 ((hcond0_2 t).mp h))], after0_9]
        by_cases hz : t.val = 0
        · exfalso; have hN : t.val < 66 := lt_of_lt_of_eq t.isLt (show cfg0.N = 66 from N_0); omega
        · rw [PhiS_castSucc m c t, PhiS_pos m c _ _ hz]
          rw [outsAt0_B m c t h0 h1 h2]
          unfold out0_B_7 out0_B_8 out0_B_9 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [HS0]; · iexact HS0
          iintro ⟨H0, H1, H2, H3, H4, H5, H6, ⟨%e7, H7⟩, ⟨%e8, H8⟩, ⟨%e9, H9⟩, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _)
  · by_cases h2 : 64 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_2 t).mpr h2)], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_2 t).mpr h2)], after0_8]
      by_cases hz : t.val = 0
      · exfalso; have hN : t.val < 66 := lt_of_lt_of_eq t.isLt (show cfg0.N = 66 from N_0); omega
      · rw [PhiS_castSucc m c t, PhiS_pos m c _ _ hz]
        rw [outsAt0_C m c t h0 h2]
        unfold out0_C_7 out0_C_8 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_2 t).mpr h2) (iblk m c 0 t) (iblk m c 1 t) (iblk m c 2 t) (iblk m c 3 t) (iblk m c 4 t) (iblk m c 5 t) (iblk m c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _)
        ihave H9 := leaves9_C m c t h2 d9 $$ H9
        iexact H9
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 66 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2Ideal.Body

end
-- ==== Proof.ProjTile.lean ====
module
/- The arrays one run of the input projection's body leaves, as lists of stored blocks. -/
public import proofs.«01_k».proof.Proof.ProjFrame
public import Idealize.ShloMosaic.Lib.WholeRead
public import Idealize.ShloMosaic.Lib.ValueLayout
public import Idealize.ShloMosaic.Lib.ValueLayoutCasts
@[expose] public section
set_option maxRecDepth 65536
noncomputable section
open Idealize Idealize.ShloMosaic Idealize.ShloMosaic.ValueIdx Idealize.ShloMosaic.TcCoe Idealize.ShloMosaic.Tactic
namespace Cert.Kernel2Ideal.Body
open Cert.Kernel2Ideal Cert.Kernel2Ideal.Gen
variable {F : FTy → Type} [FloatOps F]

/-- A load of a whole array through a rectangle. -/
def ldx {S : Shape} {e : EltTy} (X : S.Idx → Elt F e) (B : LoadRect S) : B.shape.Idx → Elt F e := fun x => X (B.idx x)

/-- The columns moved down by `s` rows, the first rows taken from the eight carried ones. -/
def shifted (s : BitVec 32) (cur : FVec F S256x512 .f32) (prev : Vec F S8x512 .f32) : FVec F S256x512 .f32 :=
  concatenate S256x512 0 [⟨S8x512, select (cmpi .slt (iota .tc S8x512 32 [0] iota_S8x512_d0_w32) (broadcast S8x512 s))
    (dynamicRotate 0 s none prev rotates_S8x512_d0)
    (extractStridedSlice S8x512 ![0, 0] (dynamicRotate 0 s none cur rotates_S256x512_d0) slices_S256x512_o0_0_S8x512)⟩,
    ⟨S248x512, extractStridedSlice S248x512 ![8, 0] (dynamicRotate 0 s none cur rotates_S256x512_d0) slices_S256x512_o8_0_S248x512⟩]
    concatenates_S8x512_S248x512_S256x512_d0

/-- The four-tap convolution of one block of columns. -/
def conv4 (cur : FVec F S256x512 .f32) (prev : Vec F S8x512 .f32) (k3 k2 k1 k0 : Vec F S1x512 .f32) : FVec F S256x512 .f32 :=
  addf (addf (addf (mulf cur (broadcastTo S256x512 k3 broadcasts_S1x512_S256x512))
    (mulf (shifted 1#32 cur prev) (broadcastTo S256x512 k2 broadcasts_S1x512_S256x512)))
    (mulf (shifted 2#32 cur prev) (broadcastTo S256x512 k1 broadcasts_S1x512_S256x512)))
    (mulf (shifted 3#32 cur prev) (broadcastTo S256x512 k0 broadcasts_S1x512_S256x512))

/-- `a` times its sigmoid, the sigmoid as half a hyperbolic tangent plus a half. -/
def act (a : FVec F S256x512 .f32) : FVec F S256x512 .f32 :=
  mulf a (addf (mulf (broadcast S256x512 (Scalar.ofBits .f32 0x3F000000#32))
    (tanh (mulf (broadcast S256x512 (Scalar.ofBits .f32 0x3F000000#32)) a))) (broadcast S256x512 (Scalar.ofBits .f32 0x3F000000#32)))

theorem inb_w : ∀ (p : Fin 14) (a : Fin 2), (![0, 512 * p.val] : Fin 2 → Nat) a + S1024x512.size a ≤ S1024x7424.size a := by decide +kernel
theorem inb_o : ∀ (p : Fin 14) (a : Fin 2), (![0, 512 * p.val] : Fin 2 → Nat) a + S256x512.size a ≤ S256x7424.size a := by decide +kernel
theorem inb_s : ∀ (p : Fin 6) (a : Fin 2), (![0, 512 * p.val] : Fin 2 → Nat) a + S8x512.size a ≤ S8x3072.size a := by decide +kernel
theorem inb_k : ∀ (r : Fin 4) (p : Fin 6) (a : Fin 2), (![r.val, 512 * p.val] : Fin 2 → Nat) a + S1x512.size a ≤ S4x3072.size a := by decide +kernel

/-- Block `p` of 512 columns of the projected tile. -/
def cols (h : FVec F S256x1024 .bf16) (x3 : Vec F S1024x7424 .bf16) (p : Fin 14) : FVec F S256x512 .f32 :=
  k0_pay7 h (ldx x3 (Rect.unit (s := S1024x7424) ![0, 512 * p.val] S1024x512.size (inb_w p)).toLoadRect)

/-- The store of block `p` of the columns, as projected. -/
def plainPiece (h : FVec F S256x1024 .bf16) (x3 : Vec F S1024x7424 .bf16) (p : Fin 14) : View.Piece (Elt F) S256x7424 .f32 :=
  ⟨Rect.unit (s := S256x7424) ![0, 512 * p.val] S256x512.size (inb_o p), cols h x3 p⟩
/-- The store of the last 256 columns. -/
def lastPiece (h : FVec F S256x1024 .bf16) (x3 : Vec F S1024x7424 .bf16) : View.Piece (Elt F) S256x7424 .f32 :=
  ⟨Rect.unit (s := S256x7424) ![0, 7168] S256x256.size inb_S256x7424_S256x256_0_7168,
    k0_pay1 h (ldx x3 (Rect.unit (s := S1024x7424) ![0, 7168] S1024x256.size inb_S1024x7424_S1024x256_0_7168).toLoadRect)⟩
/-- One row of taps of block `p`. -/
def taps (x5 : Vec F S4x3072 .f32) (r : Fin 4) (p : Fin 6) : Vec F S1x512 .f32 :=
  ldx x5 (Rect.unit (s := S4x3072) ![r.val, 512 * p.val] S1x512.size (inb_k r p)).toLoadRect
/-- The store of block `p` of the convolved columns. -/
def convPiece (h : FVec F S256x1024 .bf16) (x3 : Vec F S1024x7424 .bf16) (x5 : Vec F S4x3072 .f32) (prev : Fin 6 → Vec F S8x512 .f32)
    (p : Fin 6) : View.Piece (Elt F) S256x7424 .f32 :=
  ⟨Rect.unit (s := S256x7424) ![0, 512 * p.val] S256x512.size (inb_o (p.castLE (by decide))),
    act (conv4 (cols h x3 (p.castLE (by decide))) (prev p) (taps x5 3 p) (taps x5 2 p) (taps x5 1 p) (taps x5 0 p))⟩
/-- The store of block `p` of the tile's last eight rows. -/
def carryPiece (h : FVec F S256x1024 .bf16) (x3 : Vec F S1024x7424 .bf16) (p : Fin 6) : View.Piece (Elt F) S8x3072 .f32 :=
  ⟨Rect.unit (s := S8x3072) ![0, 512 * p.val] S8x512.size (inb_s p), k0_pay11 (cols h x3 (p.castLE (by decide)))⟩

/-- All stores of a prompt tile's columns, the last first. -/
def promptPieces (h : FVec F S256x1024 .bf16) (x3 : Vec F S1024x7424 .bf16) (x5 : Vec F S4x3072 .f32) (prev : Fin 6 → Vec F S8x512 .f32) :
    List (View.Piece (Elt F) S256x7424 .f32) :=
  [lastPiece h x3, plainPiece h x3 13, plainPiece h x3 12, plainPiece h x3 11, convPiece h x3 x5 prev 5, plainPiece h x3 10, convPiece h x3 x5 prev 4,
    plainPiece h x3 9, convPiece h x3 x5 prev 3, plainPiece h x3 8, convPiece h x3 x5 prev 2, plainPiece h x3 7, convPiece h x3 x5 prev 1,
    plainPiece h x3 6, convPiece h x3 x5 prev 0]
/-- All stores of a sample tile's columns, the last first. -/
def samplePieces (h : FVec F S256x1024 .bf16) (x3 : Vec F S1024x7424 .bf16) : List (View.Piece (Elt F) S256x7424 .f32) :=
  lastPiece h x3 :: [13, 12, 11, 10, 9, 8, 7, 6, 5, 4, 3, 2, 1, 0].map (plainPiece h x3)

/-- The blocks stored before block `p`, the last first. -/
def below : Fin 7 → List (Fin 6) := ![[], [0], [1, 0], [2, 1, 0], [3, 2, 1, 0], [4, 3, 2, 1, 0], [5, 4, 3, 2, 1, 0]]
/-- The two stores that begin a sequence: zeros, and over them the three rows before it. -/
def startPieces (x6 : Vec F S1x3x3072 .f32) : List (View.Piece (Elt F) S8x3072 .f32) :=
  [⟨Rect.unit (s := S8x3072) ![5, 0] S3x3072.size inb_S8x3072_S3x3072_5_0,
      k0_pay4 (ldx x6 (Rect.unit (s := S1x3x3072) ![0, 0, 0] S1x3x3072.size inb_S1x3x3072_S1x3x3072_0_0_0).toLoadRect)⟩,
    ⟨Rect.unit (s := S8x3072) ![0, 0] S8x3072.size inb_S8x3072_S8x3072_0_0, k0_pay3⟩]
/-- The carried rows before block `p` of a sequence's first tile. -/
def started (h : FVec F S256x1024 .bf16) (x3 : Vec F S1024x7424 .bf16) (x6 : Vec F S1x3x3072 .f32) (p : Fin 7) :
    List (View.Piece (Elt F) S8x3072 .f32) := (below p).map (carryPiece h x3) ++ startPieces x6

/-- The normalized rows of a tile. -/
def normed (x : Vec F S256x1024 .f32) (x2 : Vec F S1x1024 .f32) : FVec F S256x1024 .bf16 :=
  k0_pay5 (ldx x (Rect.unit (s := S256x1024) ![0, 0] S256x1024.size inb_S256x1024_S256x1024_0_0).toLoadRect)
    (ldx x2 (Rect.unit (s := S1x1024) ![0, 0] S1x1024.size inb_S1x1024_S1x1024_0_0).toLoadRect)
/-- The store of the small projection. -/
def smallPiece (x : Vec F S256x1024 .f32) (x2 : Vec F S1x1024 .f32) (x4 : Vec F S1024x128 .bf16) : View.Piece (Elt F) S256x128 .f32 :=
  ⟨Rect.unit (s := S256x128) ![0, 0] S256x128.size inb_S256x128_S256x128_0_0,
    k0_pay6 (ldx x (Rect.unit (s := S256x1024) ![0, 0] S256x1024.size inb_S256x1024_S256x1024_0_0).toLoadRect)
      (ldx x2 (Rect.unit (s := S1x1024) ![0, 0] S1x1024.size inb_S1x1024_S1x1024_0_0).toLoadRect)
      (ldx x4 (Rect.unit (s := S1024x128) ![0, 0] S1024x128.size inb_S1024x128_S1024x128_0_0).toLoadRect)⟩
/-- The store of the eight rows handed out. -/
def tailPiece (L : List (View.Piece (Elt F) S8x3072 .f32)) : View.Piece (Elt F) S1x8x3072 .f32 :=
  ⟨Rect.unit (s := S1x8x3072) ![0, 0, 0] S1x8x3072.size inb_S1x8x3072_S1x8x3072_0_0_0,
    k0_pay2 (ldx (View.canon L) (Rect.unit (s := S8x3072) ![0, 0] S8x3072.size inb_S8x3072_S8x3072_0_0).toLoadRect)⟩

theorem ldx_unread {κ : Kind} {sp : Space} {S : Shape} {e : EltTy} {m : Memref sig κ sp S e} (h : m.IsWhole) (X : S.Idx → Elt F e)
    (B : LoadRect S) : View.readAt (Elt F) m.view B (h.unread X) = ldx X B := funext fun x => h.readAt_unread X B x
theorem ldx_readCov {κ : Kind} {sp : Space} {S : Shape} {e : EltTy} (v : View sig κ sp S e) (L : List (View.Piece (Elt F) S e))
    (B : LoadRect S) : v.readCov L B = ldx (View.canon L) B := View.readCov_eq_canon' v L B

set_option maxHeartbeats 4000000 in
theorem out0_A_7_canon (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i) (x0 x1 : Vec F S256x1024 .f32) (x2 : Vec F S1x1024 .f32) (x3 : Vec F S1024x7424 .bf16) (x4 : Vec F S1024x128 .bf16) (x5 : Vec F S4x3072 .f32) (x6 : Vec F S1x3x3072 .f32) :
    out0_A_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6
      = View.canon (promptPieces (normed x0 x2) x3 x5 (fun p => ldx (View.canon (started (normed x0 x2) x3 x6 p.castSucc)) (Rect.unit (s := S8x3072) ![0, 512 * p.val] S8x512.size (inb_s p)).toLoadRect)) := by
  refine (View.read_writes_eq_canon _ _ _ (cover0_A_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6)).trans ?_
  unfold kernelRun0_A
  dsimp only
  sl_unfold_words
  simp only [ldx_unread, ldx_readCov]
  rfl

set_option maxHeartbeats 4000000 in
theorem out0_A_8_canon (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i) (x0 x1 : Vec F S256x1024 .f32) (x2 : Vec F S1x1024 .f32) (x3 : Vec F S1024x7424 .bf16) (x4 : Vec F S1024x128 .bf16) (x5 : Vec F S4x3072 .f32) (x6 : Vec F S1x3x3072 .f32) :
    out0_A_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6
      = View.canon ([smallPiece x0 x2 x4]) := by
  refine (View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6)).trans ?_
  unfold kernelRun0_A
  dsimp only
  sl_unfold_words
  simp only [ldx_unread, ldx_readCov]
  rfl

set_option maxHeartbeats 4000000 in
theorem out0_A_9_canon (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i) (x0 x1 : Vec F S256x1024 .f32) (x2 : Vec F S1x1024 .f32) (x3 : Vec F S1024x7424 .bf16) (x4 : Vec F S1024x128 .bf16) (x5 : Vec F S4x3072 .f32) (x6 : Vec F S1x3x3072 .f32) :
    out0_A_9 c i arg1 harg1 arg2 harg2 arg3 harg3 arg4 harg4 arg5 harg5 arg6 harg6 arg7 harg7 arg8 harg8 arg9 harg9 arg10 harg10 arg11 harg11 hc0 hc1 hc2 x0 x1 x2 x3 x4 x5 x6
      = View.canon ([tailPiece (started (normed x0 x2) x3 x6 6)]) := by
  refine (View.read_writes_eq_canon _ _ _ (cover0_A_9 c i arg1 harg1 arg2 harg2 arg3 harg3 arg4 harg4 arg5 harg5 arg6 harg6 arg7 harg7 arg8 harg8 arg9 harg9 arg10 harg10 arg11 harg11 hc0 hc1 hc2 x0 x1 x2 x3 x4 x5 x6)).trans ?_
  unfold kernelRun0_A
  dsimp only
  sl_unfold_words
  simp only [ldx_unread, ldx_readCov]
  rfl

set_option maxHeartbeats 4000000 in
theorem sout0_A_0_canon (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : cond0_1 i) (hc2 : ¬cond0_2 i) (x0 x1 : Vec F S256x1024 .f32) (x2 : Vec F S1x1024 .f32) (x3 : Vec F S1024x7424 .bf16) (x4 : Vec F S1024x128 .bf16) (x5 : Vec F S4x3072 .f32) (x6 : Vec F S1x3x3072 .f32) :
    sout0_A_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6
      = View.canon (started (normed x0 x2) x3 x6 6) := by
  refine (View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6)).trans ?_
  unfold kernelRun0_A
  dsimp only
  sl_unfold_words
  simp only [ldx_unread, ldx_readCov]
  rfl

set_option maxHeartbeats 4000000 in
theorem out0_B_7_canon (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i) (x0 x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) :
    out0_B_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0
      = View.canon (promptPieces (normed x0 x2) x3 x5 (fun p => ldx xs0 (Rect.unit (s := S8x3072) ![0, 512 * p.val] S8x512.size (inb_s p)).toLoadRect)) := by
  refine (View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0)).trans ?_
  unfold kernelRun0_B
  dsimp only
  sl_unfold_words
  simp only [ldx_unread, ldx_readCov]
  rfl

set_option maxHeartbeats 4000000 in
theorem out0_B_8_canon (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i) (x0 x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) :
    out0_B_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0
      = View.canon ([smallPiece x0 x2 x4]) := by
  refine (View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0)).trans ?_
  unfold kernelRun0_B
  dsimp only
  sl_unfold_words
  simp only [ldx_unread, ldx_readCov]
  rfl

set_option maxHeartbeats 4000000 in
theorem out0_B_9_canon (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i) (x0 x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) :
    out0_B_9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0
      = View.canon ([tailPiece ((below 6).map (carryPiece (normed x0 x2) x3))]) := by
  refine (View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0)).trans ?_
  unfold kernelRun0_B
  dsimp only
  sl_unfold_words
  simp only [ldx_unread, ldx_readCov]
  rfl

set_option maxHeartbeats 4000000 in
theorem sout0_B_0_canon (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : cond0_0 i) (hc1 : ¬cond0_1 i) (hc2 : ¬cond0_2 i) (x0 x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) :
    sout0_B_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0
      = View.canon ((below 6).map (carryPiece (normed x0 x2) x3)) := by
  refine (View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0)).trans ?_
  unfold kernelRun0_B
  dsimp only
  sl_unfold_words
  simp only [ldx_unread, ldx_readCov]
  rfl

set_option maxHeartbeats 4000000 in
theorem out0_C_7_canon (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : ¬cond0_0 i) (hc2 : cond0_2 i) (x0 x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) :
    out0_C_7 c i arg1 harg1 arg2 harg2 arg3 harg3 arg4 harg4 arg5 harg5 arg6 harg6 arg7 harg7 arg8 harg8 arg9 harg9 arg10 harg10 arg11 harg11 hc0 hc2 x0 x1 x2 x3 x4 x5 x6 xs0
      = View.canon (samplePieces (normed x1 x2) x3) := by
  refine (View.read_writes_eq_canon _ _ _ (cover0_C_7 c i arg1 harg1 arg2 harg2 arg3 harg3 arg4 harg4 arg5 harg5 arg6 harg6 arg7 harg7 arg8 harg8 arg9 harg9 arg10 harg10 arg11 harg11 hc0 hc2 x0 x1 x2 x3 x4 x5 x6 xs0)).trans ?_
  unfold kernelRun0_C
  dsimp only
  sl_unfold_words
  simp only [ldx_unread, ldx_readCov]
  rfl

set_option maxHeartbeats 4000000 in
theorem out0_C_8_canon (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S1024x128 .bf16) (harg5 : arg5.IsWhole) (arg6 : Memref sig .tc .vmem S4x3072 .f32) (harg6 : arg6.IsWhole) (arg7 : Memref sig .tc .vmem S1x3x3072 .f32) (harg7 : arg7.IsWhole) (arg8 : Memref sig .tc .vmem S256x7424 .f32) (harg8 : arg8.IsWhole) (arg9 : Memref sig .tc .vmem S256x128 .f32) (harg9 : arg9.IsWhole) (arg10 : Memref sig .tc .vmem S1x8x3072 .f32) (harg10 : arg10.IsWhole) (arg11 : Memref sig .tc .vmem S8x3072 .f32) (harg11 : arg11.IsWhole) (hc0 : ¬cond0_0 i) (hc2 : cond0_2 i) (x0 x1 : Vec F S256x1024 .f32) (x2 : Vec F S1x1024 .f32) (x3 : Vec F S1024x7424 .bf16) (x4 : Vec F S1024x128 .bf16) (x5 : Vec F S4x3072 .f32) (x6 : Vec F S1x3x3072 .f32) (xs0 : Vec F S8x3072 .f32) :
    out0_C_8 c i arg1 harg1 arg2 harg2 arg3 harg3 arg4 harg4 arg5 harg5 arg6 harg6 arg7 harg7 arg8 harg8 arg9 harg9 arg10 harg10 arg11 harg11 hc0 hc2 x0 x1 x2 x3 x4 x5 x6 xs0
      = View.canon ([smallPiece x1 x2 x4]) := by
  refine (View.read_writes_eq_canon _ _ _ (cover0_C_8 c i arg1 harg1 arg2 harg2 arg3 harg3 arg4 harg4 arg5 harg5 arg6 harg6 arg7 harg7 arg8 harg8 arg9 harg9 arg10 harg10 arg11 harg11 hc0 hc2 x0 x1 x2 x3 x4 x5 x6 xs0)).trans ?_
  unfold kernelRun0_C
  dsimp only
  sl_unfold_words
  simp only [ldx_unread, ldx_readCov]
  rfl

end Cert.Kernel2Ideal.Body
-- ==== Proof.ProjValue.lean ====
module
/- The stored blocks of the input projection, entry by entry: normalized rows times weight columns, the
   convolution with the rows carried from the tile before, and the activation. -/
public import proofs.«01_k».proof.Proof.ProjTile
public import proofs.«01_k».proof.Proof.BlockValue
@[expose] public section
set_option maxRecDepth 65536
noncomputable section
open Idealize Idealize.ShloMosaic Idealize.ShloMosaic.ValueIdx Idealize.ShloMosaic.TcCoe Idealize.ShloMosaic.Tactic
namespace Cert.Kernel2Ideal.Body
open Cert.Kernel2Ideal Cert.Kernel2Ideal.Gen
open Cert.KernelIdeal.Attn (half_tanh ofBits_half)

/-- Entry `k` of the row `f` divided by its root mean square and multiplied by `w`. -/
def normRow (f w : Fin 1024 → EReal) (k : Fin 1024) : EReal :=
  f k * Ideal.rsqrt (Ideal.div (∑ l, f l * f l) (Ideal.ofBits .f32 0x44800000#32) + Ideal.ofBits .f32 0x358637BD#32) * w k
/-- The normalized row times a weight column. -/
def projRow (f w col : Fin 1024 → EReal) : EReal := ∑ k, normRow f w k * col k

theorem normed_apply (x : Vec Ideal S256x1024 .f32) (x2 : Vec Ideal S1x1024 .f32) (r : Fin 256) (k : Fin 1024) :
    normed (F := Ideal) x x2 (ix2 r k) = normRow (fun l => x (ix2 r l)) (fun l => x2 (ix2 0 l)) k := by
  have hx : ldx (F := Ideal) x (Rect.unit (s := S256x1024) ![0, 0] S256x1024.size inb_S256x1024_S256x1024_0_0).toLoadRect = x :=
    funext fun y => congrArg x (funext fun a => Fin.ext (by
    match a with
    | ⟨0, h0⟩ => show 0 + 1 * (y ⟨0, h0⟩).val = (y ⟨0, h0⟩).val; omega
    | ⟨1, h0⟩ => show 0 + 1 * (y ⟨1, h0⟩).val = (y ⟨1, h0⟩).val; omega))
  have h2 : ldx (F := Ideal) x2 (Rect.unit (s := S1x1024) ![0, 0] S1x1024.size inb_S1x1024_S1x1024_0_0).toLoadRect = x2 :=
    funext fun y => congrArg x2 (funext fun a => Fin.ext (by
    match a with
    | ⟨0, h0⟩ => show 0 + 1 * (y ⟨0, h0⟩).val = (y ⟨0, h0⟩).val; omega
    | ⟨1, h0⟩ => show 0 + 1 * (y ⟨1, h0⟩).val = (y ⟨1, h0⟩).val; omega))
  unfold normed
  rw [hx, h2]
  unfold k0_pay5 normRow
  dsimp only
  rw [shapeCast_self, shapeCast_self, truncf_apply]
  show (x (ix2 r k) * broadcastTo S256x1024 _ _ (ix2 r k)) * broadcastTo S256x1024 x2 _ (ix2 r k) = _
  refine congrArg₂ (· * ·) (congrArg (x (ix2 r k) * ·) ?_) ?_
  · refine (broadcastTo_apply _ _ (ix2 r k) (ix2 r (0 : Fin 1)) fun a => ?_).trans ?_
    · match a with
      | ⟨0, _⟩ => rfl
      | ⟨1, _⟩ => rfl
    show Ideal.rsqrt (Ideal.div (shapeCast S256x1 _ _ (ix2 r (0 : Fin 1))) _ + _) = _
    rw [shapeCast_a_a1_apply]
    refine congrArg (fun z => Ideal.rsqrt (Ideal.div z (Ideal.ofBits .f32 0x44800000#32) + Ideal.ofBits .f32 0x358637BD#32)) ?_
    refine (Ideal.multiReduction_add_single (mulf x x) _ reduces_S256x1024_S256 _ _ (ix1 r)).trans (Finset.sum_congr rfl fun j _ => ?_)
    refine (congrArg (mulf (F := Ideal) (s := S256x1024) (φ := .f32) x x) (?_ : _ = ix2 r j)).trans rfl
    funext a; match a with
    | ⟨0, _⟩ => rfl
    | ⟨1, _⟩ => rfl
  · refine broadcastTo_apply _ _ (ix2 r k) (ix2 (0 : Fin 1) k) fun a => ?_
    match a with
    | ⟨0, _⟩ => rfl
    | ⟨1, _⟩ => rfl

/-- Column `c` of the big projection, one row. -/
def colAt (p : Fin 14) (j : Fin 512) : Fin 7424 := ⟨512 * p.val + j.val, by omega⟩

theorem cols_apply (h : FVec Ideal S256x1024 .bf16) (x3 : Vec Ideal S1024x7424 .bf16) (p : Fin 14) (r : Fin 256) (j : Fin 512) :
    cols (F := Ideal) h x3 p (ix2 r j) = ∑ k : Fin 1024, h (ix2 r k) * x3 (ix2 k (colAt p j)) := by
  unfold cols k0_pay7
  dsimp only
  rw [shapeCast_self]
  refine (Ideal.matmul_plain_apply none h _ _ r j).trans ?_
  rw [constant_apply, Ideal.ofBits_zero_f32, zero_add]
  refine Finset.sum_congr rfl fun k _ => congrArg (h (ix2 r k) * ·) (congrArg x3 (funext fun a => Fin.ext ?_))
  match a with
  | ⟨0, _⟩ => show 0 + 1 * k.val = k.val; omega
  | ⟨1, _⟩ => show 512 * p.val + 1 * j.val = 512 * p.val + j.val; omega

theorem last_apply (h : FVec Ideal S256x1024 .bf16) (x3 : Vec Ideal S1024x7424 .bf16) (r : Fin 256) (j : Fin 256) :
    (lastPiece (F := Ideal) h x3).2 (ix2 r j) = ∑ k : Fin 1024, h (ix2 r k) * x3 (ix2 k ⟨7168 + j.val, by omega⟩) := by
  show k0_pay1 (F := Ideal) h _ (ix2 r j) = _
  unfold k0_pay1
  dsimp only
  rw [shapeCast_self]
  refine (Ideal.matmul_plain_apply none h _ _ r j).trans ?_
  rw [constant_apply, Ideal.ofBits_zero_f32, zero_add]
  refine Finset.sum_congr rfl fun k _ => congrArg (h (ix2 r k) * ·) (congrArg x3 (funext fun a => Fin.ext ?_))
  match a with
  | ⟨0, _⟩ => show 0 + 1 * k.val = k.val; omega
  | ⟨1, _⟩ => show 7168 + 1 * j.val = 7168 + j.val; omega

theorem small_apply (x : Vec Ideal S256x1024 .f32) (x2 : Vec Ideal S1x1024 .f32) (x4 : Vec Ideal S1024x128 .bf16) (r : Fin 256) (j : Fin 128) :
    (smallPiece (F := Ideal) x x2 x4).2 (ix2 r j) = ∑ k : Fin 1024, normed (F := Ideal) x x2 (ix2 r k) * x4 (ix2 k j) := by
  show k0_pay6 (F := Ideal) _ _ _ (ix2 r j) = _
  unfold k0_pay6
  dsimp only
  rw [shapeCast_self]
  refine (Ideal.matmul_plain_apply none (normed (F := Ideal) x x2) _ _ r j).trans ?_
  rw [constant_apply, Ideal.ofBits_zero_f32, zero_add]
  refine Finset.sum_congr rfl fun k _ => congrArg (normed (F := Ideal) x x2 (ix2 r k) * ·) (congrArg x4 (funext fun a => Fin.ext ?_))
  match a with
  | ⟨0, _⟩ => show 0 + 1 * k.val = k.val; omega
  | ⟨1, _⟩ => show 0 + 1 * j.val = j.val; omega

/-- The value `n` rows above row `r`, continued into the eight rows before the tile. -/
def above (cur : Fin 256 → EReal) (prev : Fin 8 → EReal) (n : ℕ) (r : Fin 256) : EReal :=
  if h : r.val < n ∧ n < 8 then prev ⟨8 + r.val - n, by omega⟩ else cur ⟨r.val - n, by omega⟩

theorem slt_rows (n : ℕ) (hn : n = 1 ∨ n = 2 ∨ n = 3) (r : Fin 8) :
    (BitVec.ofNat 32 r.val).slt (BitVec.ofNat 32 n) = decide (r.val < n) := by
  rcases hn with rfl | rfl | rfl <;> revert r <;> decide +kernel

theorem stack_rows (A : FVec Ideal S8x512 .f32) (B : FVec Ideal S248x512 .f32) (r : Fin 256) (j : Fin 512) :
    concatenate S256x512 0 [⟨S8x512, A⟩, ⟨S248x512, B⟩] concatenates_S8x512_S248x512_S256x512_d0 (ix2 r j)
      = if h : r.val < 8 then A (ix2 (⟨r.val, h⟩ : Fin 8) j) else B (ix2 (⟨r.val - 8, by omega⟩ : Fin 248) j) := by
  by_cases h : r.val < 8
  · rw [dif_pos h]
    refine concatenate_pair_apply_left (0 : Fin 2) A B _ (ix2 r j) rfl (ix2 (⟨r.val, h⟩ : Fin 8) j) fun b => ?_
    match b with
    | ⟨0, _⟩ => rfl
    | ⟨1, _⟩ => rfl
  · rw [dif_neg h]
    refine concatenate_pair_apply_right (0 : Fin 2) A B _ (ix2 r j) rfl rfl (ix2 (⟨r.val - 8, by omega⟩ : Fin 248) j) (fun b hb => ?_) ?_
    · match b with
      | ⟨0, _⟩ => exact absurd rfl hb
      | ⟨1, _⟩ => rfl
    · show r.val - 8 + 8 = r.val; omega

theorem shifted_apply (n : ℕ) (hn : n = 1 ∨ n = 2 ∨ n = 3) (cur : FVec Ideal S256x512 .f32) (prev : Vec Ideal S8x512 .f32) (r : Fin 256) (j : Fin 512) :
    shifted (F := Ideal) (BitVec.ofNat 32 n) cur prev (ix2 r j) = above (fun r => cur (ix2 r j)) (fun s => prev (ix2 s j)) n r := by
  have hm : (BitVec.ofNat 32 n).toNat = n := by rcases hn with rfl | rfl | rfl <;> rfl
  have h4 : 1 ≤ n ∧ n < 4 := by omega
  have hcur : ∀ q : Fin 256, n ≤ q.val → dynamicRotate (0 : Fin 2) (BitVec.ofNat 32 n) none cur rotates_S256x512_d0 (ix2 q j) = cur (ix2 ⟨q.val - n, by omega⟩ j) := by
    intro q hq
    refine dynamicRotate_apply (0 : Fin 2) _ cur _ (ix2 q j) _ fun b => ?_
    match b with
    | ⟨0, _⟩ => show q.val - n = (q.val + 256 - (BitVec.ofNat 32 n).toNat % 256) % 256; rw [hm]; omega
    | ⟨1, _⟩ => rfl
  have hcut : ∀ (o : ℕ) (R : ℕ) (hs : S256x512.Slices ![o, 0] ⟨2, ![R, 512]⟩) (x : FVec Ideal S256x512 .f32) (q : Fin R) (ho : o + q.val < 256),
      extractStridedSlice ⟨2, ![R, 512]⟩ ![o, 0] x hs (ix2 q j) = x (ix2 ⟨o + q.val, ho⟩ j) := by
    intro o R hs x q ho
    refine extractStridedSlice_apply _ _ hs (ix2 q j) (ix2 ⟨o + q.val, ho⟩ j) fun b => ?_
    match b with
    | ⟨0, _⟩ => rfl
    | ⟨1, _⟩ => exact (Nat.zero_add _).symm
  unfold shifted
  rw [stack_rows]
  by_cases h : r.val < 8
  · rw [dif_pos h]
    rw [select_apply]
    have hc : cmpi .slt (iota .tc S8x512 32 [0] iota_S8x512_d0_w32) (broadcast S8x512 (BitVec.ofNat 32 n)) (ix2 (⟨r.val, h⟩ : Fin 8) j)
        = if r.val < n then 1#1 else 0#1 := by
      show BitVec.ofBool ((iota .tc S8x512 32 [0] iota_S8x512_d0_w32 (ix2 (⟨r.val, h⟩ : Fin 8) j)).slt (BitVec.ofNat 32 n)) = _
      rw [iota_single_apply]
      refine (congrArg BitVec.ofBool (slt_rows n hn ⟨r.val, h⟩)).trans ?_
      by_cases hr : r.val < n
      · rw [if_pos hr, decide_eq_true hr]; rfl
      · rw [if_neg hr, decide_eq_false hr]; rfl
    rw [hc]
    unfold above
    by_cases hr : r.val < n
    · rw [if_pos hr, select_one, dif_pos ⟨hr, by omega⟩]
      refine dynamicRotate_apply (0 : Fin 2) _ prev _ (ix2 (⟨r.val, h⟩ : Fin 8) j) _ fun b => ?_
      match b with
      | ⟨0, _⟩ => show 8 + r.val - n = (r.val + 8 - (BitVec.ofNat 32 n).toNat % 8) % 8; rw [hm]; omega
      | ⟨1, _⟩ => rfl
    · rw [if_neg hr, select_zero, dif_neg (fun hh => hr hh.1)]
      refine (hcut 0 8 slices_S256x512_o0_0_S8x512 _ (⟨r.val, h⟩ : Fin 8) (by show 0 + r.val < 256; omega)).trans ?_
      refine (hcur _ (by show n ≤ 0 + r.val; omega)).trans (congrArg (fun q => cur (ix2 q j)) (Fin.ext ?_))
      show 0 + r.val - n = r.val - n; omega
  · rw [dif_neg h]
    unfold above
    rw [dif_neg (show ¬(r.val < n ∧ n < 8) by omega)]
    refine (hcut 8 248 slices_S256x512_o8_0_S248x512 _ (⟨r.val - 8, by omega⟩ : Fin 248) (by show 8 + (r.val - 8) < 256; omega)).trans ?_
    refine (hcur _ (by show n ≤ 8 + (r.val - 8); omega)).trans (congrArg (fun q => cur (ix2 q j)) (Fin.ext ?_))
    show 8 + (r.val - 8) - n = r.val - n; omega

/-- The four-tap sum at row `r`. -/
def convRow (cur : Fin 256 → EReal) (prev : Fin 8 → EReal) (w : Fin 4 → EReal) (r : Fin 256) : EReal :=
  cur r * w 3 + above cur prev 1 r * w 2 + above cur prev 2 r * w 1 + above cur prev 3 r * w 0

theorem conv4_apply (cur : FVec Ideal S256x512 .f32) (prev : Vec Ideal S8x512 .f32) (k : Fin 4 → Vec Ideal S1x512 .f32) (r : Fin 256) (j : Fin 512) :
    conv4 (F := Ideal) cur prev (k 3) (k 2) (k 1) (k 0) (ix2 r j)
      = convRow (fun r => cur (ix2 r j)) (fun s => prev (ix2 s j)) (fun i => k i (ix2 0 j)) r := by
  have hb : ∀ x : Vec Ideal S1x512 .f32, broadcastTo S256x512 x broadcasts_S1x512_S256x512 (ix2 r j) = x (ix2 0 j) := fun x =>
    broadcastTo_apply _ _ (ix2 r j) (ix2 (0 : Fin 1) j) fun a => by
      match a with
      | ⟨0, _⟩ => rfl
      | ⟨1, _⟩ => rfl
  unfold conv4 convRow
  rw [addf_apply, addf_apply, addf_apply, mulf_apply, mulf_apply, mulf_apply, mulf_apply, hb, hb, hb, hb,
    shifted_apply 1 (.inl rfl), shifted_apply 2 (.inr (.inl rfl)), shifted_apply 3 (.inr (.inr rfl))]

/-- `a` times its sigmoid. -/
def silu (a : EReal) : EReal := a * Ideal.logistic a

theorem act_apply (a : FVec Ideal S256x512 .f32) (i : S256x512.Idx) : act (F := Ideal) a i = silu (a i) := by
  show a i * (Ideal.ofBits .f32 0x3F000000#32 * Ideal.tanh (Ideal.ofBits .f32 0x3F000000#32 * a i) + Ideal.ofBits .f32 0x3F000000#32) = _
  rw [ofBits_half, half_tanh]
  rfl

theorem taps_apply (x5 : Vec Ideal S4x3072 .f32) (i : Fin 4) (p : Fin 6) (j : Fin 512) :
    taps (F := Ideal) x5 i p (ix2 0 j) = x5 (ix2 i (⟨512 * p.val + j.val, by omega⟩ : Fin 3072)) :=
  congrArg x5 (funext fun a => Fin.ext (by
    match a with
    | ⟨0, _⟩ => show i.val + 1 * 0 = i.val; omega
    | ⟨1, _⟩ => show 512 * p.val + 1 * j.val = 512 * p.val + j.val; omega))

theorem carry_apply (h : FVec Ideal S256x1024 .bf16) (x3 : Vec Ideal S1024x7424 .bf16) (p : Fin 6) (s : Fin 8) (j : Fin 512) :
    (carryPiece (F := Ideal) h x3 p).2 (ix2 s j) = cols (F := Ideal) h x3 (p.castLE (by decide)) (ix2 (⟨248 + s.val, by omega⟩ : Fin 256) j) := by
  show k0_pay11 (F := Ideal) (cols (F := Ideal) h x3 (p.castLE (by decide))) (ix2 s j) = _
  unfold k0_pay11
  rw [shapeCast_self]
  refine extractStridedSlice_apply _ _ _ (ix2 s j) _ fun b => ?_
  match b with
  | ⟨0, _⟩ => rfl
  | ⟨1, _⟩ => exact (Nat.zero_add _).symm

/-- One entry of the tile as projected. -/
def pre (h : FVec Ideal S256x1024 .bf16) (x3 : Vec Ideal S1024x7424 .bf16) (r : Fin 256) (c : Fin 7424) : EReal :=
  ∑ k : Fin 1024, h (ix2 r k) * x3 (ix2 k c)

/-- One entry of a prompt tile's block: the first 3072 columns convolved and activated, the others as projected. -/
def promptTile (h : FVec Ideal S256x1024 .bf16) (x3 : Vec Ideal S1024x7424 .bf16) (x5 : Vec Ideal S4x3072 .f32) (Z : Fin 8 → Fin 3072 → EReal)
    (r : Fin 256) (c : Fin 7424) : EReal :=
  if hc : c.val < 3072 then
    silu (convRow (fun r => pre h x3 r c) (fun s => Z s ⟨c.val, hc⟩) (fun i => x5 (ix2 i (⟨c.val, hc⟩ : Fin 3072))) r)
  else pre h x3 r c

end Cert.Kernel2Ideal.Body
-- ==== Proof.ProjBlocks.lean ====
module
/- The arrays one step of the input projection leaves, entry by entry. -/
public import proofs.«01_k».proof.Proof.ProjValue
public import Idealize.ShloMosaic.Lib.Pipeline.CanonAppend
@[expose] public section
set_option maxRecDepth 65536
noncomputable section
open Idealize Idealize.ShloMosaic Idealize.ShloMosaic.ValueIdx Idealize.ShloMosaic.TcCoe Idealize.ShloMosaic.Tactic
namespace Cert.Kernel2Ideal.Body
open Cert.Kernel2Ideal Cert.Kernel2Ideal.Gen

section
variable (h : FVec Ideal S256x1024 .bf16) (x3 : Vec Ideal S1024x7424 .bf16) (x5 : Vec Ideal S4x3072 .f32) (prev : Fin 6 → Vec Ideal S8x512 .f32)
variable (Z : Fin 8 → Fin 3072 → EReal)

theorem lt256 (y : S256x7424.Idx) : (y 0).val < 256 := (y 0).isLt
theorem lt7424 (y : S256x7424.Idx) : (y 1).val < 7424 := (y 1).isLt
theorem pre_congr (r r' : Fin 256) (c c' : Fin 7424) (hr : r.val = r'.val) (hc : c.val = c'.val) : pre h x3 r c = pre h x3 r' c' := by
  rw [Fin.ext hr, Fin.ext hc]

theorem plain_eq (p : Fin 14) (x : S256x512.Idx) : (plainPiece (F := Ideal) h x3 p).2 x = pre h x3 (x 0) (colAt p (x 1)) := by
  have e : x = ix2 (x 0) (x 1) := by funext a; match a with | ⟨0, _⟩ => rfl | ⟨1, _⟩ => rfl
  exact (congrArg (cols (F := Ideal) h x3 p) e).trans (cols_apply h x3 p (x 0) (x 1))

theorem conv_eq (hprev : ∀ p s j, prev p (ix2 s j) = Z s ⟨512 * p.val + j.val, by omega⟩) (p : Fin 6) (x : S256x512.Idx) :
    (convPiece (F := Ideal) h x3 x5 prev p).2 x = promptTile h x3 x5 Z (x 0) (colAt (p.castLE (by decide)) (x 1)) := by
  have e : x = ix2 (x 0) (x 1) := by funext a; match a with | ⟨0, _⟩ => rfl | ⟨1, _⟩ => rfl
  have hp := p.isLt
  have hx : (x 1).val < 512 := (x 1).isLt
  have hc : (colAt (p.castLE (by decide)) (x 1)).val < 3072 := by show 512 * p.val + (x 1).val < 3072; omega
  unfold promptTile
  rw [dif_pos hc]
  show act (F := Ideal) (conv4 (F := Ideal) (cols (F := Ideal) h x3 (p.castLE (by decide))) (prev p) (taps (F := Ideal) x5 3 p) (taps (F := Ideal) x5 2 p)
    (taps (F := Ideal) x5 1 p) (taps (F := Ideal) x5 0 p)) x = _
  rw [act_apply]
  refine congrArg silu ?_
  refine (congrArg _ e).trans ?_
  refine (conv4_apply (cols (F := Ideal) h x3 (p.castLE (by decide))) (prev p) (fun i => taps (F := Ideal) x5 i p) (x 0) (x 1)).trans ?_
  have e1 : (fun r => cols (F := Ideal) h x3 (p.castLE (by decide)) (ix2 r (x 1))) = fun r => pre h x3 r (colAt (p.castLE (by decide)) (x 1)) :=
    funext fun r => cols_apply h x3 _ r (x 1)
  have e2 : (fun s => prev p (ix2 s (x 1))) = fun s => Z s ⟨(colAt (p.castLE (by decide)) (x 1)).val, hc⟩ := funext fun s => hprev p s (x 1)
  have e3 : (fun i => taps (F := Ideal) x5 i p (ix2 0 (x 1))) = fun i => x5 (ix2 i (⟨(colAt (p.castLE (by decide)) (x 1)).val, hc⟩ : Fin 3072)) :=
    funext fun i => taps_apply x5 i p (x 1)
  rw [e1, e2, e3]

/-- A prompt tile's block as one function. -/
def promptFn (y : S256x7424.Idx) : EReal := promptTile h x3 x5 Z ⟨(y 0).val, lt256 y⟩ ⟨(y 1).val, lt7424 y⟩
/-- A sample tile's block as one function. -/
def sampleFn (y : S256x7424.Idx) : EReal := pre h x3 ⟨(y 0).val, lt256 y⟩ ⟨(y 1).val, lt7424 y⟩

theorem sample_last (x : S256x256.Idx) : (lastPiece (F := Ideal) h x3).2 x = sampleFn h x3 ((lastPiece (F := Ideal) h x3).1.emb x) := by
  have e : x = ix2 (x 0) (x 1) := by funext a; match a with | ⟨0, _⟩ => rfl | ⟨1, _⟩ => rfl
  refine (congrArg (lastPiece (F := Ideal) h x3).2 e).trans ((last_apply h x3 (x 0) (x 1)).trans ?_)
  exact pre_congr h x3 (x 0) _ _ _ (by show (x 0).val = 0 + 1 * (x 0).val; omega) (by show 7168 + (x 1).val = 7168 + 1 * (x 1).val; omega)
theorem sample_plain (p : Fin 14) (x : S256x512.Idx) :
    (plainPiece (F := Ideal) h x3 p).2 x = sampleFn h x3 ((plainPiece (F := Ideal) h x3 p).1.emb x) :=
  (plain_eq h x3 p x).trans (pre_congr h x3 (x 0) _ _ _ (by show (x 0).val = 0 + 1 * (x 0).val; omega)
    (by show 512 * p.val + (x 1).val = 512 * p.val + 1 * (x 1).val; omega))
theorem prompt_wide (y : S256x7424.Idx) (hy : ¬(y 1).val < 3072) : promptFn h x3 x5 Z y = sampleFn h x3 y := dif_neg hy
theorem prompt_last (x : S256x256.Idx) : (lastPiece (F := Ideal) h x3).2 x = promptFn h x3 x5 Z ((lastPiece (F := Ideal) h x3).1.emb x) :=
  (sample_last h x3 x).trans (prompt_wide h x3 x5 Z _ (by show ¬(7168 + 1 * (x 1).val < 3072); omega)).symm
theorem prompt_plain (p : Fin 14) (hp : 6 ≤ p.val) (x : S256x512.Idx) :
    (plainPiece (F := Ideal) h x3 p).2 x = promptFn h x3 x5 Z ((plainPiece (F := Ideal) h x3 p).1.emb x) :=
  (sample_plain h x3 p x).trans (prompt_wide h x3 x5 Z _ (by show ¬(512 * p.val + 1 * (x 1).val < 3072); omega)).symm
theorem prompt_conv (hprev : ∀ p s j, prev p (ix2 s j) = Z s ⟨512 * p.val + j.val, by omega⟩) (p : Fin 6) (x : S256x512.Idx) :
    (convPiece (F := Ideal) h x3 x5 prev p).2 x = promptFn h x3 x5 Z ((convPiece (F := Ideal) h x3 x5 prev p).1.emb x) := by
  refine (conv_eq h x3 x5 prev Z hprev p x).trans ?_
  unfold promptFn
  refine congrArg₂ (promptTile h x3 x5 Z) (Fin.ext ?_) (Fin.ext ?_)
  · show (x 0).val = 0 + 1 * (x 0).val; omega
  · show 512 * p.val + (x 1).val = 512 * p.val + 1 * (x 1).val; omega

theorem conv_mem (p : Fin 6) : convPiece (F := Ideal) h x3 x5 prev p ∈ promptPieces (F := Ideal) h x3 x5 prev := by
  match p with
  | 0 => simp only [promptPieces, List.mem_cons, true_or, or_true]
  | 1 => simp only [promptPieces, List.mem_cons, true_or, or_true]
  | 2 => simp only [promptPieces, List.mem_cons, true_or, or_true]
  | 3 => simp only [promptPieces, List.mem_cons, true_or, or_true]
  | 4 => simp only [promptPieces, List.mem_cons, true_or, or_true]
  | 5 => simp only [promptPieces, List.mem_cons, true_or, or_true]
theorem plain_mem (p : Fin 14) (hp : 6 ≤ p.val) : plainPiece (F := Ideal) h x3 p ∈ promptPieces (F := Ideal) h x3 x5 prev := by
  match p, hp with
  | 6, _ => simp only [promptPieces, List.mem_cons, true_or, or_true]
  | 7, _ => simp only [promptPieces, List.mem_cons, true_or, or_true]
  | 8, _ => simp only [promptPieces, List.mem_cons, true_or, or_true]
  | 9, _ => simp only [promptPieces, List.mem_cons, true_or, or_true]
  | 10, _ => simp only [promptPieces, List.mem_cons, true_or, or_true]
  | 11, _ => simp only [promptPieces, List.mem_cons, true_or, or_true]
  | 12, _ => simp only [promptPieces, List.mem_cons, true_or, or_true]
  | 13, _ => simp only [promptPieces, List.mem_cons, true_or, or_true]

theorem plain_set (p : Fin 14) (y : S256x7424.Idx) (hy : 512 * p.val ≤ (y 1).val ∧ (y 1).val < 512 * p.val + 512) :
    y ∈ (plainPiece (F := Ideal) h x3 p).1.set :=
  (Rect.mem_set_unit (inb := inb_o p)).mpr fun a => match a with
    | ⟨0, _⟩ => ⟨Nat.zero_le _, by show (y 0).val < 0 + 256; have := lt256 y; omega⟩
    | ⟨1, _⟩ => hy
theorem last_set (y : S256x7424.Idx) (hy : 7168 ≤ (y 1).val) : y ∈ (lastPiece (F := Ideal) h x3).1.set :=
  (Rect.mem_set_unit (inb := inb_S256x7424_S256x256_0_7168)).mpr fun a => match a with
    | ⟨0, _⟩ => ⟨Nat.zero_le _, by show (y 0).val < 0 + 256; have := lt256 y; omega⟩
    | ⟨1, _⟩ => ⟨hy, by show (y 1).val < 7168 + 256; have := lt7424 y; omega⟩

theorem prompt_canon (hprev : ∀ p s j, prev p (ix2 s j) = Z s ⟨512 * p.val + j.val, by omega⟩) (y : S256x7424.Idx) :
    View.canon (promptPieces (F := Ideal) h x3 x5 prev) y = promptFn h x3 x5 Z y := by
  have hy := lt7424 y
  refine View.canon_apply_of_pieces (Val := Elt Ideal) (S := S256x7424) (e := .f32) (promptFn h x3 x5 Z) _ (fun p hp => ?_) y ?_
  · simp only [promptPieces, List.mem_cons, List.not_mem_nil, or_false] at hp
    rcases hp with rfl | rfl | rfl | rfl | rfl | rfl | rfl | rfl | rfl | rfl | rfl | rfl | rfl | rfl | rfl
    · exact prompt_last h x3 x5 Z
    · exact prompt_plain h x3 x5 Z 13 (by decide)
    · exact prompt_plain h x3 x5 Z 12 (by decide)
    · exact prompt_plain h x3 x5 Z 11 (by decide)
    · exact prompt_conv h x3 x5 prev Z hprev 5
    · exact prompt_plain h x3 x5 Z 10 (by decide)
    · exact prompt_conv h x3 x5 prev Z hprev 4
    · exact prompt_plain h x3 x5 Z 9 (by decide)
    · exact prompt_conv h x3 x5 prev Z hprev 3
    · exact prompt_plain h x3 x5 Z 8 (by decide)
    · exact prompt_conv h x3 x5 prev Z hprev 2
    · exact prompt_plain h x3 x5 Z 7 (by decide)
    · exact prompt_conv h x3 x5 prev Z hprev 1
    · exact prompt_plain h x3 x5 Z 6 (by decide)
    · exact prompt_conv h x3 x5 prev Z hprev 0
  · by_cases h1 : (y 1).val < 3072
    · exact ⟨_, conv_mem h x3 x5 prev ⟨(y 1).val / 512, by omega⟩, plain_set h x3 ⟨(y 1).val / 512, by omega⟩ y (by
        show 512 * ((y 1).val / 512) ≤ (y 1).val ∧ (y 1).val < 512 * ((y 1).val / 512) + 512; omega)⟩
    · by_cases h2 : (y 1).val < 7168
      · exact ⟨_, plain_mem h x3 x5 prev ⟨(y 1).val / 512, by omega⟩ (by show 6 ≤ (y 1).val / 512; omega), plain_set h x3 ⟨(y 1).val / 512, by omega⟩ y (by
          show 512 * ((y 1).val / 512) ≤ (y 1).val ∧ (y 1).val < 512 * ((y 1).val / 512) + 512; omega)⟩
      · exact ⟨_, List.mem_cons_self, last_set h x3 y (by omega)⟩

theorem all_mem : ∀ p : Fin 14, p ∈ ([13, 12, 11, 10, 9, 8, 7, 6, 5, 4, 3, 2, 1, 0] : List (Fin 14)) := by decide

theorem sample_canon (y : S256x7424.Idx) : View.canon (samplePieces (F := Ideal) h x3) y = sampleFn h x3 y := by
  have hy := lt7424 y
  refine View.canon_apply_of_pieces (Val := Elt Ideal) (S := S256x7424) (e := .f32) (sampleFn h x3) _ (fun p hp => ?_) y ?_
  · rcases List.mem_cons.mp hp with rfl | hp
    · exact sample_last h x3
    · obtain ⟨q, _, rfl⟩ := List.mem_map.mp hp
      exact sample_plain h x3 q
  · by_cases h2 : (y 1).val < 7168
    · exact ⟨_, List.mem_cons_of_mem _ (List.mem_map_of_mem (all_mem ⟨(y 1).val / 512, by omega⟩)), plain_set h x3 ⟨(y 1).val / 512, by omega⟩ y (by
        show 512 * ((y 1).val / 512) ≤ (y 1).val ∧ (y 1).val < 512 * ((y 1).val / 512) + 512; omega)⟩
    · exact ⟨_, List.mem_cons_self, last_set h x3 y (by omega)⟩

/-- The tile's last eight rows as one function. -/
def carryFn (y : S8x3072.Idx) : EReal :=
  pre h x3 ⟨248 + (y 0).val, by have : (y 0).val < 8 := (y 0).isLt; omega⟩ ⟨(y 1).val, by have : (y 1).val < 3072 := (y 1).isLt; omega⟩

theorem carry_eq (p : Fin 6) (x : S8x512.Idx) : (carryPiece (F := Ideal) h x3 p).2 x = carryFn h x3 ((carryPiece (F := Ideal) h x3 p).1.emb x) := by
  have e : x = ix2 (x 0) (x 1) := by funext a; match a with | ⟨0, _⟩ => rfl | ⟨1, _⟩ => rfl
  refine (congrArg (carryPiece (F := Ideal) h x3 p).2 e).trans ((carry_apply h x3 p (x 0) (x 1)).trans ((cols_apply h x3 _ _ _).trans ?_))
  exact pre_congr h x3 _ _ _ _ (by show 248 + (x 0).val = 248 + (0 + 1 * (x 0).val); omega) (by show 512 * p.val + (x 1).val = 512 * p.val + 1 * (x 1).val; omega)

theorem carry_mem_iff (p : Fin 6) (y : S8x3072.Idx) :
    y ∈ (carryPiece (F := Ideal) h x3 p).1.set ↔ 512 * p.val ≤ (y 1).val ∧ (y 1).val < 512 * p.val + 512 :=
  ⟨fun hy => (Rect.mem_set_unit (inb := inb_s p)).mp hy (1 : Fin 2), fun hy => (Rect.mem_set_unit (inb := inb_s p)).mpr fun a => match a with
    | ⟨0, _⟩ => ⟨Nat.zero_le _, by show (y 0).val < 0 + 8; have : (y 0).val < 8 := (y 0).isLt; omega⟩
    | ⟨1, _⟩ => hy⟩

theorem all_below : ∀ p : Fin 6, p ∈ below 6 := by decide
theorem below_lt : ∀ p : Fin 6, ∀ q ∈ below p.castSucc, q.val < p.val := by decide

theorem carried_canon (L : List (View.Piece (Elt Ideal) S8x3072 .f32)) (y : S8x3072.Idx) :
    View.canon ((below 6).map (carryPiece (F := Ideal) h x3) ++ L) y = carryFn h x3 y := by
  have hy : (y 1).val < 3072 := (y 1).isLt
  refine View.canon_append_of_pieces (Val := Elt Ideal) (S := S8x3072) (e := .f32) (carryFn h x3) L _ (fun p hp => ?_) y ?_
  · obtain ⟨q, _, rfl⟩ := List.mem_map.mp hp
    exact carry_eq h x3 q
  · exact ⟨_, List.mem_map_of_mem (all_below ⟨(y 1).val / 512, by omega⟩), (carry_mem_iff h x3 _ y).mpr (by
        show 512 * ((y 1).val / 512) ≤ (y 1).val ∧ (y 1).val < 512 * ((y 1).val / 512) + 512; omega)⟩

theorem start_canon (x6 : Vec Ideal S1x3x3072 .f32) (h6 : ∀ i, x6 i = 0) (y : S8x3072.Idx) : View.canon (startPieces (F := Ideal) x6) y = (0 : EReal) := by
  refine View.canon_apply_of_pieces (Val := Elt Ideal) (S := S8x3072) (e := .f32) (fun _ => (0 : EReal)) _ (fun p hp => ?_) y ?_
  · simp only [startPieces, List.mem_cons, List.not_mem_nil, or_false] at hp
    rcases hp with rfl | rfl
    · intro x
      show k0_pay4 (F := Ideal) (ldx x6 (Rect.unit (s := S1x3x3072) ![0, 0, 0] S1x3x3072.size inb_S1x3x3072_S1x3x3072_0_0_0).toLoadRect) x = (0 : EReal)
      unfold k0_pay4
      dsimp only
      rw [shapeCast_self]
      exact h6 _
    · intro x
      show k0_pay3 (F := Ideal) x = (0 : EReal)
      unfold k0_pay3
      rw [shapeCast_self]
      exact Ideal.ofBits_zero_f32
  · exact ⟨_, List.mem_cons_of_mem _ List.mem_cons_self, (Rect.mem_set_unit (inb := inb_S8x3072_S8x3072_0_0)).mpr fun a => match a with
      | ⟨0, _⟩ => ⟨Nat.zero_le _, by show (y 0).val < 0 + 8; have : (y 0).val < 8 := (y 0).isLt; omega⟩
      | ⟨1, _⟩ => ⟨Nat.zero_le _, by show (y 1).val < 0 + 3072; have : (y 1).val < 3072 := (y 1).isLt; omega⟩⟩

theorem canon_skip (L : List (View.Piece (Elt Ideal) S8x3072 .f32)) (y : S8x3072.Idx) : ∀ l : List (Fin 6),
    (∀ q ∈ l, ¬(512 * q.val ≤ (y 1).val ∧ (y 1).val < 512 * q.val + 512)) →
      View.canon (l.map (carryPiece (F := Ideal) h x3) ++ L) y = View.canon L y
  | [], _ => rfl
  | q :: l, hl => (View.canon_cons_of_not_mem _ _ (fun hm => hl q List.mem_cons_self ((carry_mem_iff h x3 q y).mp hm))).trans
      (canon_skip L y l fun q' hq' => hl q' (List.mem_cons_of_mem _ hq'))

theorem started_zero (x6 : Vec Ideal S1x3x3072 .f32) (h6 : ∀ i, x6 i = 0) (p : Fin 6) (y : S8x3072.Idx) (hy : 512 * p.val ≤ (y 1).val) :
    View.canon (started (F := Ideal) h x3 x6 p.castSucc) y = (0 : EReal) := by
  unfold started
  refine (canon_skip h x3 _ y _ fun q hq => ?_).trans (start_canon x6 h6 y)
  have := below_lt p q hq
  omega

theorem out_rows (v : Vec Ideal S8x3072 .f32) (b : Fin 1) (s : Fin 8) (c : Fin 3072) : k0_pay2 (F := Ideal) v (ix3 b s c) = v (ix2 s c) := by
  unfold k0_pay2
  refine shapeCast_apply _ _ (ix3 b s c) (ix2 s c) ?_
  rewrite [Shape.rowMajor_val_three, Shape.rowMajor_val_two]
  show s.val * 3072 + c.val = (b.val * 8 + s.val) * 3072 + c.val
  have := b.isLt
  omega

theorem tail_canon (L : List (View.Piece (Elt Ideal) S8x3072 .f32)) (s : Fin 8) (c : Fin 3072) :
    View.canon ([tailPiece (F := Ideal) L]) (ix3 (0 : Fin 1) s c) = View.canon L (ix2 s c) := by
  refine View.canon_apply_of_pieces (Val := Elt Ideal) (S := S1x8x3072) (e := .f32) (fun y => View.canon L (ix2 (y 1) (y 2))) _ (fun p hp => ?_) _ ?_
  · rcases List.mem_singleton.mp hp with rfl
    intro x
    have e : x = ix3 (x 0) (x 1) (x 2) := by funext a; match a with | ⟨0, _⟩ => rfl | ⟨1, _⟩ => rfl | ⟨2, _⟩ => rfl
    refine (congrArg (k0_pay2 (F := Ideal) (ldx (View.canon L) (Rect.unit (s := S8x3072) ![0, 0] S8x3072.size inb_S8x3072_S8x3072_0_0).toLoadRect)) e).trans
      ((out_rows _ (x 0) (x 1) (x 2)).trans ?_)
    · refine congrArg (View.canon L) (funext fun a => Fin.ext ?_)
      match a with
      | ⟨0, _⟩ => show 0 + 1 * (x 1).val = 0 + 1 * (x 1).val; rfl
      | ⟨1, _⟩ => show 0 + 1 * (x 2).val = 0 + 1 * (x 2).val; rfl
  · exact ⟨_, List.mem_cons_self, (Rect.mem_set_unit (inb := inb_S1x8x3072_S1x8x3072_0_0_0)).mpr fun a => match a with
      | ⟨0, _⟩ => ⟨Nat.zero_le _, by show 0 < 0 + 1; omega⟩
      | ⟨1, _⟩ => ⟨Nat.zero_le _, by show s.val < 0 + 8; have := s.isLt; omega⟩
      | ⟨2, _⟩ => ⟨Nat.zero_le _, by show c.val < 0 + 3072; have := c.isLt; omega⟩⟩
end

/-- The small projection's block. -/
theorem small_canon (x : Vec Ideal S256x1024 .f32) (x2 : Vec Ideal S1x1024 .f32) (x4 : Vec Ideal S1024x128 .bf16) (r : Fin 256) (c : Fin 128) :
    View.canon ([smallPiece (F := Ideal) x x2 x4]) (ix2 r c) = ∑ k : Fin 1024, normed (F := Ideal) x x2 (ix2 r k) * x4 (ix2 k c) := by
  refine (View.canon_apply_of_pieces (Val := Elt Ideal) (S := S256x128) (e := .f32) (fun y => (smallPiece (F := Ideal) x x2 x4).2 y) _ (fun p hp => ?_) _ ?_).trans
    (small_apply x x2 x4 r c)
  · rcases List.mem_singleton.mp hp with rfl
    intro y
    refine congrArg (smallPiece (F := Ideal) x x2 x4).2 (funext fun a => Fin.ext ?_)
    match a with
    | ⟨0, h0⟩ => show (y ⟨0, h0⟩).val = 0 + 1 * (y ⟨0, h0⟩).val; omega
    | ⟨1, h0⟩ => show (y ⟨1, h0⟩).val = 0 + 1 * (y ⟨1, h0⟩).val; omega
  · exact ⟨_, List.mem_cons_self, (Rect.mem_set_unit (inb := inb_S256x128_S256x128_0_0)).mpr fun a => match a with
      | ⟨0, _⟩ => ⟨Nat.zero_le _, by show r.val < 0 + 256; have := r.isLt; omega⟩
      | ⟨1, _⟩ => ⟨Nat.zero_le _, by show c.val < 0 + 128; have := c.isLt; omega⟩⟩

end Cert.Kernel2Ideal.Body
-- ==== Proof.ProjArrays.lean ====
module
/- The arrays the input projection reads, and the arrays it should leave, as functions of the arguments. -/
public import proofs.«01_k».proof.Proof.ProjBlocks
public import Idealize.ShloMosaic.Lib.StableHlo.RunRead
@[expose] public section
set_option maxRecDepth 65536
noncomputable section
open Idealize Idealize.ShloMosaic Idealize.ShloMosaic.ValueIdx Idealize.ShloMosaic.TcCoe Idealize.ShloMosaic.Tactic
namespace Cert.Kernel2Ideal.Body
open Cert.Kernel2Ideal Cert.Kernel2Ideal.Gen

/-- A row of all the prompts' rows. -/
def rowP (a0 : FVec Ideal S4x4096x1024 .f32) (R : Fin 16384) (l : Fin 1024) : EReal :=
  a0 (ix3 (⟨R.val / 4096, by omega⟩ : Fin 4) (⟨R.val % 4096, by omega⟩ : Fin 4096) l)
/-- A row of all the samples' rows. -/
def rowS (a1 : FVec Ideal S128x4x1024 .f32) (Q : Fin 512) (l : Fin 1024) : EReal :=
  a1 (ix3 (⟨Q.val / 4, by omega⟩ : Fin 128) (⟨Q.val % 4, by omega⟩ : Fin 4) l)
/-- The weight column that a packed column is. -/
def colOf (c : Fin 7424) : Fin 7440 :=
  ⟨if c.val < 4096 then c.val else if c.val < 5120 then c.val + 16 else if c.val < 7168 then c.val + 272 else c.val - 2032, by split_ifs <;> omega⟩
/-- Column `C` of the projection of prompt row `R`. -/
def projP (a0 : FVec Ideal S4x4096x1024 .f32) (a2 : FVec Ideal S1024x7440 .f32) (a4 : FVec Ideal S1024 .f32) (R : Fin 16384) (C : Fin 7440) : EReal :=
  projRow (rowP a0 R) (fun l => a4 (ix1 l)) (fun k => a2 (ix2 k C))
/-- Column `C` of the projection of sample row `Q`. -/
def projS (a1 : FVec Ideal S128x4x1024 .f32) (a2 : FVec Ideal S1024x7440 .f32) (a4 : FVec Ideal S1024 .f32) (Q : Fin 512) (C : Fin 7440) : EReal :=
  projRow (rowS a1 Q) (fun l => a4 (ix1 l)) (fun k => a2 (ix2 k C))
/-- The projection `n` positions earlier in the same sequence, 0 before its beginning. -/
def back (a0 : FVec Ideal S4x4096x1024 .f32) (a2 : FVec Ideal S1024x7440 .f32) (a4 : FVec Ideal S1024 .f32) (n : ℕ) (R : Fin 16384) (C : Fin 7440) : EReal :=
  if R.val % 4096 < n then 0 else projP a0 a2 a4 ⟨R.val - n, by omega⟩ C
/-- The four-tap causal convolution at prompt row `R`. -/
def convP (a0 : FVec Ideal S4x4096x1024 .f32) (a2 : FVec Ideal S1024x7440 .f32) (a3 : FVec Ideal S4x3072 .f32) (a4 : FVec Ideal S1024 .f32)
    (R : Fin 16384) (c : Fin 3072) : EReal :=
  projP a0 a2 a4 R ⟨c.val, by omega⟩ * a3 (ix2 3 c) + back a0 a2 a4 1 R ⟨c.val, by omega⟩ * a3 (ix2 2 c)
    + back a0 a2 a4 2 R ⟨c.val, by omega⟩ * a3 (ix2 1 c) + back a0 a2 a4 3 R ⟨c.val, by omega⟩ * a3 (ix2 0 c)

/-- Row `R` of the prompts' packed projections. -/
def packP (a0 : FVec Ideal S4x4096x1024 .f32) (a2 : FVec Ideal S1024x7440 .f32) (a3 : FVec Ideal S4x3072 .f32) (a4 : FVec Ideal S1024 .f32)
    (R : Fin 16384) (c : Fin 7424) : EReal :=
  if hc : c.val < 3072 then silu (convP a0 a2 a3 a4 R ⟨c.val, hc⟩) else projP a0 a2 a4 R (colOf c)
/-- The packed projections. -/
def packArr (a0 : FVec Ideal S4x4096x1024 .f32) (a1 : FVec Ideal S128x4x1024 .f32) (a2 : FVec Ideal S1024x7440 .f32) (a3 : FVec Ideal S4x3072 .f32)
    (a4 : FVec Ideal S1024 .f32) : FVec Ideal S16896x7424 .f32 := fun i =>
  if h : (i 0).val < 16384 then packP a0 a2 a3 a4 ⟨(i 0).val, h⟩ ⟨(i 1).val, (i 1).isLt⟩
  else projS a1 a2 a4 ⟨(i 0).val - 16384, by have : (i 0).val < 16896 := (i 0).isLt; omega⟩ (colOf ⟨(i 1).val, (i 1).isLt⟩)
/-- The small projection, sixteen columns and zeros. -/
def smallArr (a0 : FVec Ideal S4x4096x1024 .f32) (a1 : FVec Ideal S128x4x1024 .f32) (a2 : FVec Ideal S1024x7440 .f32)
    (a4 : FVec Ideal S1024 .f32) : FVec Ideal S16896x128 .f32 := fun i =>
  if hc : (i 1).val < 16 then
    if h : (i 0).val < 16384 then projP a0 a2 a4 ⟨(i 0).val, h⟩ ⟨4096 + (i 1).val, by omega⟩
    else projS a1 a2 a4 ⟨(i 0).val - 16384, by have : (i 0).val < 16896 := (i 0).isLt; omega⟩ ⟨4096 + (i 1).val, by omega⟩
  else 0
/-- The last eight rows of each sequence, before the convolution. -/
def tailArr (a0 : FVec Ideal S4x4096x1024 .f32) (a2 : FVec Ideal S1024x7440 .f32) (a4 : FVec Ideal S1024 .f32) : FVec Ideal S4x8x3072 .f32 := fun i =>
  projP a0 a2 a4 ⟨4096 * (i 0).val + 4088 + (i 1).val, by have : (i 0).val < 4 := (i 0).isLt; have : (i 1).val < 8 := (i 1).isLt; omega⟩
    ⟨(i 2).val, by have : (i 2).val < 3072 := (i 2).isLt; omega⟩

section
variable {F : FTy → Type} [FloatOps F]
/-- The weight columns in packed order: four bands. -/
def bands (a2 : FVec F S1024x7440 .f32) : List ((s : Shape) × (s.Idx → F .f32)) :=
  [⟨S1024x4096, extractStridedSlice S1024x4096 ![0, 0] a2 slices_S1024x7440_S1024x4096_0_0⟩,
    ⟨S1024x1024, extractStridedSlice S1024x1024 ![0, 4112] a2 slices_S1024x7440_S1024x1024_0_4112⟩,
    ⟨S1024x2048, extractStridedSlice S1024x2048 ![0, 5392] a2 slices_S1024x7440_S1024x2048_0_5392⟩,
    ⟨S1024x256, extractStridedSlice S1024x256 ![0, 5136] a2 slices_S1024x7440_S1024x256_0_5136⟩]
theorem bands_ok (a2 : FVec F S1024x7440 .f32) : Shape.Concatenates ((bands a2).map (·.1)) S1024x7424 1 :=
  concatenates_S1024x4096_S1024x1024_S1024x2048_S1024x256_S1024x7424_d1
/-- The big weight. -/
def wBig (a2 : FVec F S1024x7440 .f32) : FVec F S1024x7424 .bf16 := truncf .bf16 (concatenate S1024x7424 1 (bands a2) (bands_ok a2)) bitsLt_bf16_f32
/-- The small weight. -/
def wSmall (a2 : FVec F S1024x7440 .f32) : FVec F S1024x128 .bf16 :=
  truncf .bf16 (pad S1024x128 ![0, 0] ![0, 112] ![0, 0] (extractStridedSlice S1024x16 ![0, 4096] a2 slices_S1024x7440_S1024x16_0_4096)
    (sitofp .f32 (constantI S_ 32 0#32) : FVec F S_ .f32) pads_S1024x16_S1024x128_000_01120 h_S_) bitsLt_bf16_f32

variable (m : (ℓ : Loc nD τ sig) → Buf (Elt F) ℓ)
theorem V_xp (c : Dev nD) : V m c main_v0 = shapeCast S16384x1024 (m ((c : Thread nD τ).loc main_arg0)) shapeCasts_S4x4096x1024_S16384x1024 := by
  after_reads_simp
  rfl
theorem V_xs (c : Dev nD) : V m c main_v1 = shapeCast S512x1024 (m ((c : Thread nD τ).loc main_arg1)) shapeCasts_S128x4x1024_S512x1024 := by
  after_reads_simp
  rfl
theorem V_nw (c : Dev nD) : V m c main_v12 = shapeCast S1x1024 (m ((c : Thread nD τ).loc main_arg4)) shapeCasts_S1024_S1x1024 := by
  after_reads_simp
  rfl
theorem V_wBig (c : Dev nD) : V m c main_v7 = wBig (m ((c : Thread nD τ).loc main_arg2)) := by
  after_reads_simp
  rfl
theorem V_wSmall (c : Dev nD) : V m c main_v10 = wSmall (m ((c : Thread nD τ).loc main_arg2)) := by
  after_reads_simp
  rfl
theorem V_hist (c : Dev nD) : V m c main_v11 = broadcastInDim S4x3x3072 ![] bcast_S_S4x3x3072 (constant (F := F) S_ .f32 0x00000000#32) := by
  after_reads_simp
end

theorem xp_apply (a0 : FVec Ideal S4x4096x1024 .f32) (R : Fin 16384) (l : Fin 1024) :
    shapeCast S16384x1024 a0 shapeCasts_S4x4096x1024_S16384x1024 (ix2 R l) = rowP a0 R l := by
  refine shapeCast_apply a0 _ (ix2 R l) _ ?_
  rw [Shape.rowMajor_val_three, Shape.rowMajor_val_two]
  show (R.val / 4096 * 4096 + R.val % 4096) * 1024 + l.val = R.val * 1024 + l.val
  omega
theorem xs_apply (a1 : FVec Ideal S128x4x1024 .f32) (Q : Fin 512) (l : Fin 1024) :
    shapeCast S512x1024 a1 shapeCasts_S128x4x1024_S512x1024 (ix2 Q l) = rowS a1 Q l := by
  refine shapeCast_apply a1 _ (ix2 Q l) _ ?_
  rw [Shape.rowMajor_val_three, Shape.rowMajor_val_two]
  show (Q.val / 4 * 4 + Q.val % 4) * 1024 + l.val = Q.val * 1024 + l.val
  omega
theorem nw_apply (a4 : FVec Ideal S1024 .f32) (u : Fin 1) (l : Fin 1024) :
    shapeCast S1x1024 a4 shapeCasts_S1024_S1x1024 (ix2 u l) = a4 (ix1 l) := by
  refine shapeCast_apply a4 _ (ix2 u l) (ix1 l) ?_
  rw [Shape.rowMajor_val_one, Shape.rowMajor_val_two]
  show l.val = u.val * 1024 + l.val
  have := u.isLt; omega

theorem wBig_apply (a2 : FVec Ideal S1024x7440 .f32) (k : Fin 1024) (C : Fin 7424) : wBig (F := Ideal) a2 (ix2 k C) = a2 (ix2 k (colOf C)) := by
  show concatenate S1024x7424 1 (bands (F := Ideal) a2) (bands_ok a2) _ = _
  have hs : ∀ (n o : ℕ) (hsl : S1024x7440.Slices ![0, o] ⟨2, ![1024, n]⟩) (c : Fin n), (colOf C).val = o + c.val →
      extractStridedSlice ⟨2, ![1024, n]⟩ ![0, o] a2 hsl (ix2 k c) = a2 (ix2 k (colOf C)) := fun n o hsl c hc => by
    refine extractStridedSlice_apply _ _ hsl _ (ix2 k (colOf C)) fun b => ?_
    match b with
    | ⟨0, _⟩ => show k.val = 0 + k.val; omega
    | ⟨1, _⟩ => exact hc
  have hc : (colOf C).val = if C.val < 4096 then C.val else if C.val < 5120 then C.val + 16 else if C.val < 7168 then C.val + 272 else C.val - 2032 := rfl
  by_cases h1 : C.val < 4096
  · rw [if_pos h1] at hc
    refine (concatenate_apply_piece (t := S1024x7424) (1 : Fin 2) (bands (F := Ideal) a2) (bands_ok a2) (ix2 k C) 0 (show 0 < 4 from by decide) S1024x4096 _ rfl rfl 0 rfl
      (ix2 k (⟨C.val, h1⟩ : Fin 4096)) (fun b hb => ?_) ?_).trans (hs 4096 0 _ _ ?_)
    · match b with
      | ⟨0, _⟩ => rfl
      | ⟨1, _⟩ => exact absurd rfl hb
    · show 0 + C.val = C.val; omega
    · show (colOf C).val = 0 + C.val; omega
  rw [if_neg h1] at hc
  by_cases h2 : C.val < 5120
  · rw [if_pos h2] at hc
    refine (concatenate_apply_piece (t := S1024x7424) (1 : Fin 2) (bands (F := Ideal) a2) (bands_ok a2) (ix2 k C) 1 (show 1 < 4 from by decide) S1024x1024 _ rfl rfl 4096 rfl
      (ix2 k (⟨C.val - 4096, by omega⟩ : Fin 1024)) (fun b hb => ?_) ?_).trans (hs 1024 4112 _ _ ?_)
    · match b with
      | ⟨0, _⟩ => rfl
      | ⟨1, _⟩ => exact absurd rfl hb
    · show 4096 + (C.val - 4096) = C.val; omega
    · show (colOf C).val = 4112 + (C.val - 4096); omega
  rw [if_neg h2] at hc
  by_cases h3 : C.val < 7168
  · rw [if_pos h3] at hc
    refine (concatenate_apply_piece (t := S1024x7424) (1 : Fin 2) (bands (F := Ideal) a2) (bands_ok a2) (ix2 k C) 2 (show 2 < 4 from by decide) S1024x2048 _ rfl rfl 5120 rfl
      (ix2 k (⟨C.val - 5120, by omega⟩ : Fin 2048)) (fun b hb => ?_) ?_).trans (hs 2048 5392 _ _ ?_)
    · match b with
      | ⟨0, _⟩ => rfl
      | ⟨1, _⟩ => exact absurd rfl hb
    · show 5120 + (C.val - 5120) = C.val; omega
    · show (colOf C).val = 5392 + (C.val - 5120); omega
  · rw [if_neg h3] at hc
    refine (concatenate_apply_piece (t := S1024x7424) (1 : Fin 2) (bands (F := Ideal) a2) (bands_ok a2) (ix2 k C) 3 (show 3 < 4 from by decide) S1024x256 _ rfl rfl 7168 rfl
      (ix2 k (⟨C.val - 7168, by omega⟩ : Fin 256)) (fun b hb => ?_) ?_).trans (hs 256 5136 _ _ ?_)
    · match b with
      | ⟨0, _⟩ => rfl
      | ⟨1, _⟩ => exact absurd rfl hb
    · show 7168 + (C.val - 7168) = C.val; omega
    · show (colOf C).val = 5136 + (C.val - 7168); omega

theorem wSmall_apply (a2 : FVec Ideal S1024x7440 .f32) (k : Fin 1024) (j : Fin 128) :
    wSmall (F := Ideal) a2 (ix2 k j) = if h : j.val < 16 then a2 (ix2 k (⟨4096 + j.val, by omega⟩ : Fin 7440)) else 0 := by
  show pad S1024x128 ![0, 0] ![0, 112] ![0, 0] (extractStridedSlice S1024x16 ![0, 4096] a2 slices_S1024x7440_S1024x16_0_4096)
    (sitofp .f32 (constantI S_ 32 0#32) : FVec Ideal S_ .f32) pads_S1024x16_S1024x128_000_01120 h_S_ (ix2 k j) = _
  by_cases h : j.val < 16
  · rw [dif_pos h]
    refine (pad_apply_of_inside ![0, 0] ![0, 112] ![0, 0] _ _ _ _ (ix2 k j) (ix2 k (⟨j.val, h⟩ : Fin 16)) fun a => ?_).trans ?_
    · match a with
      | ⟨0, _⟩ => show k.val = 0 + k.val * (0 + 1); omega
      | ⟨1, _⟩ => show j.val = 0 + j.val * (0 + 1); omega
    · refine extractStridedSlice_apply _ _ _ _ (ix2 k (⟨4096 + j.val, by omega⟩ : Fin 7440)) fun b => ?_
      match b with
      | ⟨0, _⟩ => show k.val = 0 + k.val; omega
      | ⟨1, _⟩ => rfl
  · rw [dif_neg h]
    refine (pad_apply_of_not_inside (s := S1024x16) (t := S1024x128) ![0, 0] ![0, 112] ![0, 0] _ _ pads_S1024x16_S1024x128_000_01120 _ (ix2 k j) (1 : Fin 2) (fun hh => h ?_)).trans ?_
    · have := hh.2.2
      have e : (j.val - 0) / (0 + 1) < 16 := this
      omega
    · show (((0#32 : BitVec 32).toInt : ℝ) : EReal) = 0
      simp

end Cert.Kernel2Ideal.Body
-- ==== Proof.ProjOut.lean ====
module
/- The arrays the input projection leaves, as functions of the arguments. -/
public import proofs.«01_k».proof.Proof.ProjArrays
public import Idealize.ShloMosaic.Lib.Pipeline.ValueKit.Geometry
@[expose] public section
set_option maxRecDepth 65536
noncomputable section
open Idealize Idealize.ShloMosaic Idealize.ShloMosaic.ValueIdx Idealize.ShloMosaic.TcCoe Idealize.ShloMosaic.Tactic
namespace Cert.Kernel2Ideal.Body
open Cert.Kernel2Ideal Cert.Kernel2Ideal.Gen
variable (m : (ℓ : Loc nD τ sig) → Buf (Elt Ideal) ℓ) (c : Dev nD)

abbrev in0 : FVec Ideal S4x4096x1024 .f32 := m ((c : Thread nD τ).loc main_arg0)
abbrev in1 : FVec Ideal S128x4x1024 .f32 := m ((c : Thread nD τ).loc main_arg1)
abbrev in2 : FVec Ideal S1024x7440 .f32 := m ((c : Thread nD τ).loc main_arg2)
abbrev in3 : FVec Ideal S4x3072 .f32 := m ((c : Thread nD τ).loc main_arg3)
abbrev in4 : FVec Ideal S1024 .f32 := m ((c : Thread nD τ).loc main_arg4)

theorem lt66 (t : Fin cfg0.N) : t.val < 66 := lt_of_lt_of_eq t.isLt N_0

/-- Where each window stands at a step. -/
theorem places : ∀ t : Fin cfg0.N,
    (win0_0.index t 0 = min t.val 63 ∧ win0_0.index t 1 = 0) ∧ (win0_1.index t 0 = t.val - 64 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_7.index t 0 = t.val ∧ win0_7.index t 1 = 0) ∧ (win0_8.index t 0 = t.val ∧ win0_8.index t 1 = 0)
    ∧ (win0_9.index t 0 = min t.val 63 / 16 ∧ win0_9.index t 1 = 0 ∧ win0_9.index t 2 = 0) :=
  (by decide +kernel : ∀ t : Fin grid0.N,
    (win0_0.index t 0 = min t.val 63 ∧ win0_0.index t 1 = 0) ∧ (win0_1.index t 0 = t.val - 64 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_7.index t 0 = t.val ∧ win0_7.index t 1 = 0) ∧ (win0_8.index t 0 = t.val ∧ win0_8.index t 1 = 0)
    ∧ (win0_9.index t 0 = min t.val 63 / 16 ∧ win0_9.index t 1 = 0 ∧ win0_9.index t 2 = 0))

/-- A prompt tile's row among all the prompts' rows. -/
def tileRow (t : Fin cfg0.N) (r : Fin 256) : Fin 16384 := ⟨256 * min t.val 63 + r.val, by omega⟩
/-- A sample tile's row among all the samples' rows. -/
def sampleRow (t : Fin cfg0.N) (r : Fin 256) : Fin 512 := ⟨256 * (t.val - 64) + r.val, by have := lt66 t; omega⟩

theorem read0 (t : Fin cfg0.N) (r : Fin 256) (l : Fin 1024) : iblk m c 0 t (ix2 r l) = rowP (in0 m c) (tileRow t r) l := by
  have e : V m c main_v0 = _ := V_xp (F := Ideal) m c
  have p := (places t).1
  refine Eq.trans (b := shapeCast S16384x1024 (in0 m c) shapeCasts_S4x4096x1024_S16384x1024 (ix2 (tileRow t r) l)) ?_ (xp_apply _ _ _)
  unfold iblk
  generalize V m c = W at e ⊢
  refine (congrFun e _).trans (congrArg _ (funext fun a => Fin.ext ?_))
  match a with
  | ⟨0, _⟩ => show win0_0.index t 0 * 256 + 1 * r.val = 256 * min t.val 63 + r.val; omega
  | ⟨1, _⟩ => show win0_0.index t 1 * 1024 + 1 * l.val = l.val; omega
theorem read1 (t : Fin cfg0.N) (r : Fin 256) (l : Fin 1024) : iblk m c 1 t (ix2 r l) = rowS (in1 m c) (sampleRow t r) l := by
  have e : V m c main_v1 = _ := V_xs (F := Ideal) m c
  have p := (places t).2.1
  refine Eq.trans (b := shapeCast S512x1024 (in1 m c) shapeCasts_S128x4x1024_S512x1024 (ix2 (sampleRow t r) l)) ?_ (xs_apply _ _ _)
  unfold iblk
  generalize V m c = W at e ⊢
  refine (congrFun e _).trans (congrArg _ (funext fun a => Fin.ext ?_))
  match a with
  | ⟨0, _⟩ => show win0_1.index t 0 * 256 + 1 * r.val = 256 * (t.val - 64) + r.val; omega
  | ⟨1, _⟩ => show win0_1.index t 1 * 1024 + 1 * l.val = l.val; omega
theorem read2 (t : Fin cfg0.N) (l : Fin 1024) : iblk m c 2 t (ix2 (0 : Fin 1) l) = in4 m c (ix1 l) := by
  have e : V m c main_v12 = _ := V_nw (F := Ideal) m c
  have p := (places t).2.2.1
  refine Eq.trans (b := shapeCast S1x1024 (in4 m c) shapeCasts_S1024_S1x1024 (ix2 0 l)) ?_ (nw_apply _ _ _)
  unfold iblk
  generalize V m c = W at e ⊢
  refine (congrFun e _).trans (congrArg _ (funext fun a => Fin.ext ?_))
  match a with
  | ⟨0, _⟩ => show win0_2.index t 0 * 1 + 1 * 0 = 0; omega
  | ⟨1, _⟩ => show win0_2.index t 1 * 1024 + 1 * l.val = l.val; omega
theorem read3 (t : Fin cfg0.N) (k : Fin 1024) (C : Fin 7424) : iblk m c 3 t (ix2 k C) = in2 m c (ix2 k (colOf C)) := by
  have e : V m c main_v7 = _ := V_wBig (F := Ideal) m c
  have p := (places t).2.2.2.1
  refine Eq.trans (b := wBig (F := Ideal) (in2 m c) (ix2 k C)) ?_ (wBig_apply _ _ _)
  unfold iblk
  generalize V m c = W at e ⊢
  refine (congrFun e _).trans (congrArg _ (funext fun a => Fin.ext ?_))
  match a with
  | ⟨0, _⟩ => show win0_3.index t 0 * 1024 + 1 * k.val = k.val; omega
  | ⟨1, _⟩ => show win0_3.index t 1 * 7424 + 1 * C.val = C.val; omega
theorem read4 (t : Fin cfg0.N) (k : Fin 1024) (j : Fin 128) :
    iblk m c 4 t (ix2 k j) = if h : j.val < 16 then in2 m c (ix2 k (⟨4096 + j.val, by omega⟩ : Fin 7440)) else (0 : EReal) := by
  have e : V m c main_v10 = _ := V_wSmall (F := Ideal) m c
  have p := (places t).2.2.2.2.1
  refine Eq.trans (b := wSmall (F := Ideal) (in2 m c) (ix2 k j)) ?_ (wSmall_apply _ _ _)
  unfold iblk
  generalize V m c = W at e ⊢
  refine (congrFun e _).trans (congrArg _ (funext fun a => Fin.ext ?_))
  match a with
  | ⟨0, _⟩ => show win0_4.index t 0 * 1024 + 1 * k.val = k.val; omega
  | ⟨1, _⟩ => show win0_4.index t 1 * 128 + 1 * j.val = j.val; omega
theorem read5 (t : Fin cfg0.N) (k : Fin 4) (j : Fin 3072) : iblk m c 5 t (ix2 k j) = in3 m c (ix2 k j) := by
  have e : V m c main_arg3 = _ := V_main_arg3 (F := Ideal) m c
  have p := (places t).2.2.2.2.2.1
  unfold iblk
  generalize V m c = W at e ⊢
  refine (congrFun e _).trans (congrArg _ (funext fun a => Fin.ext ?_))
  match a with
  | ⟨0, _⟩ => show win0_5.index t 0 * 4 + 1 * k.val = k.val; omega
  | ⟨1, _⟩ => show win0_5.index t 1 * 3072 + 1 * j.val = j.val; omega
theorem read6 (t : Fin cfg0.N) (y : S1x3x3072.Idx) : iblk m c 6 t y = (0 : EReal) := by
  have e : V m c main_v11 = _ := V_hist (F := Ideal) m c
  unfold iblk
  generalize V m c = W at e ⊢
  exact (congrFun e _).trans Ideal.ofBits_zero_f32

theorem pre_prompt (t : Fin cfg0.N) (r : Fin 256) (C : Fin 7424) :
    pre (normed (F := Ideal) (iblk m c 0 t) (iblk m c 2 t)) (iblk m c 3 t) r C = projP (in0 m c) (in2 m c) (in4 m c) (tileRow t r) (colOf C) := by
  unfold pre projP projRow
  refine Finset.sum_congr rfl fun k _ => ?_
  rw [normed_apply (iblk m c 0 t) (iblk m c 2 t) r k]
  refine congrArg₂ (· * ·) (congrArg₂ (fun f w => normRow f w k) (funext fun l => read0 m c t r l) (funext fun l => read2 m c t l)) (read3 m c t k C)
theorem pre_sample (t : Fin cfg0.N) (r : Fin 256) (C : Fin 7424) :
    pre (normed (F := Ideal) (iblk m c 1 t) (iblk m c 2 t)) (iblk m c 3 t) r C = projS (in1 m c) (in2 m c) (in4 m c) (sampleRow t r) (colOf C) := by
  unfold pre projS projRow
  refine Finset.sum_congr rfl fun k _ => ?_
  rw [normed_apply (iblk m c 1 t) (iblk m c 2 t) r k]
  refine congrArg₂ (· * ·) (congrArg₂ (fun f w => normRow f w k) (funext fun l => read1 m c t r l) (funext fun l => read2 m c t l)) (read3 m c t k C)

theorem sum_zero_right (f : Fin 1024 → EReal) : ∑ k, f k * 0 = 0 := Finset.sum_eq_zero fun k _ => mul_zero _

theorem small_prompt (t : Fin cfg0.N) (r : Fin 256) (j : Fin 128) :
    ∑ k : Fin 1024, normed (F := Ideal) (iblk m c 0 t) (iblk m c 2 t) (ix2 r k) * iblk m c 4 t (ix2 k j)
      = if h : j.val < 16 then projP (in0 m c) (in2 m c) (in4 m c) (tileRow t r) ⟨4096 + j.val, by omega⟩ else 0 := by
  by_cases h : j.val < 16
  · rw [dif_pos h]
    unfold projP projRow
    refine Finset.sum_congr rfl fun k _ => ?_
    rw [normed_apply (iblk m c 0 t) (iblk m c 2 t) r k]
    exact congrArg₂ (· * ·) (congrArg₂ (fun f w => normRow f w k) (funext fun l => read0 m c t r l) (funext fun l => read2 m c t l))
      ((read4 m c t k j).trans (dif_pos h))
  · rw [dif_neg h]
    exact (Finset.sum_congr rfl fun k _ => congrArg (fun z : EReal => _ * z) ((read4 m c t k j).trans (dif_neg h))).trans (sum_zero_right _)
theorem small_sample (t : Fin cfg0.N) (r : Fin 256) (j : Fin 128) :
    ∑ k : Fin 1024, normed (F := Ideal) (iblk m c 1 t) (iblk m c 2 t) (ix2 r k) * iblk m c 4 t (ix2 k j)
      = if h : j.val < 16 then projS (in1 m c) (in2 m c) (in4 m c) (sampleRow t r) ⟨4096 + j.val, by omega⟩ else 0 := by
  by_cases h : j.val < 16
  · rw [dif_pos h]
    unfold projS projRow
    refine Finset.sum_congr rfl fun k _ => ?_
    rw [normed_apply (iblk m c 1 t) (iblk m c 2 t) r k]
    exact congrArg₂ (· * ·) (congrArg₂ (fun f w => normRow f w k) (funext fun l => read1 m c t r l) (funext fun l => read2 m c t l))
      ((read4 m c t k j).trans (dif_pos h))
  · rw [dif_neg h]
    exact (Finset.sum_congr rfl fun k _ => congrArg (fun z : EReal => _ * z) ((read4 m c t k j).trans (dif_neg h))).trans (sum_zero_right _)

end Cert.Kernel2Ideal.Body
-- ==== Proof.ProjFinal.lean ====
module
/- What each step leaves and the arrays at the end. -/
public import proofs.«01_k».proof.Proof.ProjOut
@[expose] public section
set_option maxRecDepth 65536
noncomputable section
open Idealize Idealize.ShloMosaic Idealize.ShloMosaic.ValueIdx Idealize.ShloMosaic.TcCoe Idealize.ShloMosaic.Tactic
open Idealize.SL.Sem
namespace Cert.Kernel2Ideal.Body
open Cert.Kernel2Ideal Cert.Kernel2Ideal.Gen
section
variable {A B C D : Type} {x : A × B × C × D} {a : A} {b : B} {k : C} {d : D}
theorem first_of (h : x = (a, b, k, d)) : x.1 = a := by rw [h]
theorem second_of (h : x = (a, b, k, d)) : x.2.1 = b := by rw [h]
theorem third_of (h : x = (a, b, k, d)) : x.2.2.1 = k := by rw [h]
theorem fourth_of (h : x = (a, b, k, d)) : x.2.2.2 = d := by rw [h]
end

variable (m : (ℓ : Loc nD τ sig) → Buf (Elt Ideal) ℓ) (c : Dev nD)

set_option maxHeartbeats 4000000 in
theorem outs_A_7 (t : Fin cfg0.N) (h0 : t.val < 64) (h1 : t.val % 16 = 0) (h2 : ¬64 ≤ t.val) : (outsAt0 m c t.val t.isLt).1 = View.canon (promptPieces (F := Ideal) (normed (F := Ideal) (iblk m c 0 t) (iblk m c 2 t)) (iblk m c 3 t) (iblk m c 5 t) (fun p => ldx (View.canon (started (F := Ideal) (normed (F := Ideal) (iblk m c 0 t) (iblk m c 2 t)) (iblk m c 3 t) (iblk m c 6 t) p.castSucc)) (Rect.unit (s := S8x3072) ![0, 512 * p.val] S8x512.size (inb_s p)).toLoadRect)) :=
  (first_of (outsAt0_A m c t h0 h1 h2)).trans (out0_A_7_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t))
set_option maxHeartbeats 4000000 in
theorem outs_A_8 (t : Fin cfg0.N) (h0 : t.val < 64) (h1 : t.val % 16 = 0) (h2 : ¬64 ≤ t.val) : (outsAt0 m c t.val t.isLt).2.1 = View.canon ([smallPiece (F := Ideal) (iblk m c 0 t) (iblk m c 2 t) (iblk m c 4 t)]) :=
  (second_of (outsAt0_A m c t h0 h1 h2)).trans (out0_A_8_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t))
set_option maxHeartbeats 4000000 in
theorem outs_A_9 (t : Fin cfg0.N) (h0 : t.val < 64) (h1 : t.val % 16 = 0) (h2 : ¬64 ≤ t.val) : (outsAt0 m c t.val t.isLt).2.2.1 = View.canon ([tailPiece (F := Ideal) (started (F := Ideal) (normed (F := Ideal) (iblk m c 0 t) (iblk m c 2 t)) (iblk m c 3 t) (iblk m c 6 t) 6)]) :=
  (third_of (outsAt0_A m c t h0 h1 h2)).trans (out0_A_9_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t))
set_option maxHeartbeats 4000000 in
theorem outs_A_0 (t : Fin cfg0.N) (h0 : t.val < 64) (h1 : t.val % 16 = 0) (h2 : ¬64 ≤ t.val) : (outsAt0 m c t.val t.isLt).2.2.2 = View.canon (started (F := Ideal) (normed (F := Ideal) (iblk m c 0 t) (iblk m c 2 t)) (iblk m c 3 t) (iblk m c 6 t) 6) :=
  (fourth_of (outsAt0_A m c t h0 h1 h2)).trans (sout0_A_0_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t))
set_option maxHeartbeats 4000000 in
theorem outs_B_7 (t : Fin cfg0.N) (h0 : t.val < 64) (h1 : ¬t.val % 16 = 0) (h2 : ¬64 ≤ t.val) : (outsAt0 m c t.val t.isLt).1 = View.canon (promptPieces (F := Ideal) (normed (F := Ideal) (iblk m c 0 t) (iblk m c 2 t)) (iblk m c 3 t) (iblk m c 5 t) (fun p => ldx (outsAt0 m c (t.val - 1) (Nat.lt_of_le_of_lt (Nat.sub_le _ _) t.isLt)).2.2.2 (Rect.unit (s := S8x3072) ![0, 512 * p.val] S8x512.size (inb_s p)).toLoadRect)) :=
  (first_of (outsAt0_B m c t h0 h1 h2)).trans (out0_B_7_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2)
set_option maxHeartbeats 4000000 in
theorem outs_B_8 (t : Fin cfg0.N) (h0 : t.val < 64) (h1 : ¬t.val % 16 = 0) (h2 : ¬64 ≤ t.val) : (outsAt0 m c t.val t.isLt).2.1 = View.canon ([smallPiece (F := Ideal) (iblk m c 0 t) (iblk m c 2 t) (iblk m c 4 t)]) :=
  (second_of (outsAt0_B m c t h0 h1 h2)).trans (out0_B_8_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2)
set_option maxHeartbeats 4000000 in
theorem outs_B_9 (t : Fin cfg0.N) (h0 : t.val < 64) (h1 : ¬t.val % 16 = 0) (h2 : ¬64 ≤ t.val) : (outsAt0 m c t.val t.isLt).2.2.1 = View.canon ([tailPiece (F := Ideal) ((below 6).map (carryPiece (F := Ideal) (normed (F := Ideal) (iblk m c 0 t) (iblk m c 2 t)) (iblk m c 3 t)))]) :=
  (third_of (outsAt0_B m c t h0 h1 h2)).trans (out0_B_9_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2)
set_option maxHeartbeats 4000000 in
theorem outs_B_0 (t : Fin cfg0.N) (h0 : t.val < 64) (h1 : ¬t.val % 16 = 0) (h2 : ¬64 ≤ t.val) : (outsAt0 m c t.val t.isLt).2.2.2 = View.canon ((below 6).map (carryPiece (F := Ideal) (normed (F := Ideal) (iblk m c 0 t) (iblk m c 2 t)) (iblk m c 3 t))) :=
  (fourth_of (outsAt0_B m c t h0 h1 h2)).trans (sout0_B_0_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2)
set_option maxHeartbeats 4000000 in
theorem outs_C_7 (t : Fin cfg0.N) (h0 : ¬t.val < 64) (h2 : 64 ≤ t.val) : (outsAt0 m c t.val t.isLt).1 = View.canon (samplePieces (F := Ideal) (normed (F := Ideal) (iblk m c 1 t) (iblk m c 2 t)) (iblk m c 3 t)) :=
  (first_of (outsAt0_C m c t h0 h2)).trans (out0_C_7_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2)
set_option maxHeartbeats 4000000 in
theorem outs_C_8 (t : Fin cfg0.N) (h0 : ¬t.val < 64) (h2 : 64 ≤ t.val) : (outsAt0 m c t.val t.isLt).2.1 = View.canon ([smallPiece (F := Ideal) (iblk m c 1 t) (iblk m c 2 t) (iblk m c 4 t)]) :=
  (second_of (outsAt0_C m c t h0 h2)).trans (out0_C_8_canon c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2)

/-- The carried rows after a prompt tile: its last eight rows. -/
theorem carried (t : Fin cfg0.N) (h0 : t.val < 64) (s : Fin 8) (j : Fin 3072) :
    (outsAt0 m c t.val t.isLt).2.2.2 (ix2 s j)
      = projP (in0 m c) (in2 m c) (in4 m c) (tileRow t ⟨248 + s.val, by omega⟩) (colOf ⟨j.val, by omega⟩) := by
  refine Eq.trans (b := carryFn (normed (F := Ideal) (iblk m c 0 t) (iblk m c 2 t)) (iblk m c 3 t) (ix2 s j)) ?_ (pre_prompt m c t _ _)
  by_cases h1 : t.val % 16 = 0
  · rw [outs_A_0 m c t h0 h1 (by omega)]
    exact carried_canon (normed (F := Ideal) (iblk m c 0 t) (iblk m c 2 t)) (iblk m c 3 t) _ (ix2 s j)
  · rw [outs_B_0 m c t h0 h1 (by omega)]
    refine Eq.trans ?_ (carried_canon (normed (F := Ideal) (iblk m c 0 t) (iblk m c 2 t)) (iblk m c 3 t) [] (ix2 s j))
    rw [List.append_nil]

/-- The rows handed out at a step. -/
theorem handed_prompt (t : Fin cfg0.N) (h0 : t.val < 64) (s : Fin 8) (j : Fin 3072) :
    (outsAt0 m c t.val t.isLt).2.2.1 (ix3 (0 : Fin 1) s j)
      = projP (in0 m c) (in2 m c) (in4 m c) (tileRow t ⟨248 + s.val, by omega⟩) (colOf ⟨j.val, by omega⟩) := by
  refine Eq.trans (b := carryFn (normed (F := Ideal) (iblk m c 0 t) (iblk m c 2 t)) (iblk m c 3 t) (ix2 s j)) ?_ (pre_prompt m c t _ _)
  by_cases h1 : t.val % 16 = 0
  · rw [outs_A_9 m c t h0 h1 (by omega), tail_canon]
    exact carried_canon (normed (F := Ideal) (iblk m c 0 t) (iblk m c 2 t)) (iblk m c 3 t) _ (ix2 s j)
  · rw [outs_B_9 m c t h0 h1 (by omega), tail_canon]
    refine Eq.trans ?_ (carried_canon (normed (F := Ideal) (iblk m c 0 t) (iblk m c 2 t)) (iblk m c 3 t) [] (ix2 s j))
    rw [List.append_nil]

theorem tileRow_val (t : Fin cfg0.N) (r : Fin 256) : (tileRow t r).val = 256 * min t.val 63 + r.val := rfl

theorem handed (t : Fin cfg0.N) (s : Fin 8) (j : Fin 3072) :
    (outsAt0 m c t.val t.isLt).2.2.1 (ix3 (0 : Fin 1) s j)
      = projP (in0 m c) (in2 m c) (in4 m c) (tileRow t ⟨248 + s.val, by omega⟩) (colOf ⟨j.val, by omega⟩) := by
  have step : ∀ t : Fin cfg0.N, 64 ≤ t.val → ∀ t' : Fin cfg0.N, t'.val = t.val - 1 →
      (outsAt0 m c t'.val t'.isLt).2.2.1 (ix3 (0 : Fin 1) s j)
        = projP (in0 m c) (in2 m c) (in4 m c) (tileRow t' ⟨248 + s.val, by omega⟩) (colOf ⟨j.val, by omega⟩) →
      (outsAt0 m c t.val t.isLt).2.2.1 (ix3 (0 : Fin 1) s j)
        = projP (in0 m c) (in2 m c) (in4 m c) (tileRow t ⟨248 + s.val, by omega⟩) (colOf ⟨j.val, by omega⟩) := by
    intro t ht t' e hv
    obtain ⟨n', hn'⟩ := t'
    have e : n' = t.val - 1 := e
    subst e
    refine (congrFun (carry9 m c t ht) _).trans (hv.trans ?_)
    refine congrArg (fun R => projP (in0 m c) (in2 m c) (in4 m c) R (colOf ⟨j.val, by omega⟩)) (Fin.ext ?_)
    rw [tileRow_val, tileRow_val]
    show 256 * min (t.val - 1) 63 + _ = _
    omega
  have hN : cfg0.N = 66 := N_0
  by_cases h0 : t.val < 64
  · exact handed_prompt m c t h0 s j
  have h64 := step ⟨64, by omega⟩ (le_refl 64) ⟨63, by omega⟩ rfl (handed_prompt m c ⟨63, by omega⟩ (by show 63 < 64; omega) s j)
  have ht := lt66 t
  by_cases h1 : t.val = 64
  · have e : t = ⟨64, by omega⟩ := Fin.ext h1
    rw [e]; exact h64
  · exact step t (by omega) ⟨64, by omega⟩ (by show 64 = t.val - 1; omega) h64

/-- The eight rows before a prompt tile: zeros at a sequence's beginning. -/
def before (t : Fin cfg0.N) (s : Fin 8) (j : Fin 3072) : EReal :=
  if t.val % 16 = 0 then 0 else projP (in0 m c) (in2 m c) (in4 m c) ⟨256 * min (t.val - 1) 63 + (248 + s.val), by omega⟩ (colOf ⟨j.val, by omega⟩)

theorem above_eq (t : Fin cfg0.N) (h0 : t.val < 64) (j : Fin 3072) (n : ℕ) (hn : n < 4) (r : Fin 256) :
    above (fun r => projP (in0 m c) (in2 m c) (in4 m c) (tileRow t r) (colOf ⟨j.val, by omega⟩)) (fun s => before m c t s j) n r
      = back (in0 m c) (in2 m c) (in4 m c) n (tileRow t r) ⟨j.val, by omega⟩ := by
  have hr := r.isLt
  have hv : (tileRow t r).val = 256 * t.val + r.val := by rw [tileRow_val]; omega
  have hcol : colOf ⟨j.val, by omega⟩ = (⟨j.val, by omega⟩ : Fin 7440) := Fin.ext (by
    show (if j.val < 4096 then j.val else _) = j.val
    rw [if_pos (by omega)])
  unfold above back before
  rw [hcol]
  by_cases h : r.val < n
  · rw [dif_pos ⟨h, by omega⟩]
    by_cases h1 : t.val % 16 = 0
    · exact (if_pos h1).trans (if_pos (by omega)).symm
    · refine (if_neg h1).trans (Eq.trans ?_ (if_neg (by omega)).symm)
      refine congrArg (fun R => projP (in0 m c) (in2 m c) (in4 m c) R (⟨j.val, by omega⟩ : Fin 7440)) (Fin.ext ?_)
      show 256 * min (t.val - 1) 63 + (248 + (8 + r.val - n)) = (tileRow t r).val - n
      omega
  · rw [dif_neg (by omega), if_neg (by omega)]
    refine congrArg (fun R => projP (in0 m c) (in2 m c) (in4 m c) R (⟨j.val, by omega⟩ : Fin 7440)) (Fin.ext ?_)
    rw [tileRow_val]
    show 256 * min t.val 63 + (r.val - n) = (tileRow t r).val - n
    omega

theorem prompt_tile (t : Fin cfg0.N) (h0 : t.val < 64) (r : Fin 256) (C : Fin 7424) :
    promptTile (normed (F := Ideal) (iblk m c 0 t) (iblk m c 2 t)) (iblk m c 3 t) (iblk m c 5 t) (before m c t) r C = packP (in0 m c) (in2 m c) (in3 m c) (in4 m c) (tileRow t r) C := by
  unfold promptTile packP
  by_cases hC : C.val < 3072
  · rw [dif_pos hC, dif_pos hC]
    refine congrArg silu ?_
    have e1 : (fun r => pre (normed (F := Ideal) (iblk m c 0 t) (iblk m c 2 t)) (iblk m c 3 t) r C) = fun r => projP (in0 m c) (in2 m c) (in4 m c) (tileRow t r) (colOf ⟨(⟨C.val, hC⟩ : Fin 3072).val, by omega⟩) :=
      funext fun r => pre_prompt m c t r C
    have e3 : (fun i => iblk m c 5 t (ix2 i (⟨C.val, hC⟩ : Fin 3072))) = fun i => in3 m c (ix2 i (⟨C.val, hC⟩ : Fin 3072)) := funext fun i => read5 m c t i _
    have hcol : colOf C = (⟨C.val, by omega⟩ : Fin 7440) := Fin.ext (by
      show (if C.val < 4096 then C.val else _) = C.val
      rw [if_pos (by omega)])
    rw [e1, e3]
    unfold convRow convP
    rw [above_eq m c t h0 ⟨C.val, hC⟩ 1 (by decide) r, above_eq m c t h0 ⟨C.val, hC⟩ 2 (by decide) r, above_eq m c t h0 ⟨C.val, hC⟩ 3 (by decide) r]
    refine congrArg (fun z : EReal => z * _ + _ + _ + _) ?_
    exact congrArg (projP (in0 m c) (in2 m c) (in4 m c) (tileRow t r)) hcol
  · rw [dif_neg hC, dif_neg hC]
    exact pre_prompt m c t r C

theorem packed_prompt (t : Fin cfg0.N) (h0 : t.val < 64) (y : S256x7424.Idx) :
    (outsAt0 m c t.val t.isLt).1 y = packP (in0 m c) (in2 m c) (in3 m c) (in4 m c) (tileRow t ⟨(y 0).val, lt256 y⟩) ⟨(y 1).val, lt7424 y⟩ := by
  refine Eq.trans ?_ (prompt_tile m c t h0 _ _)
  by_cases h1 : t.val % 16 = 0
  · rw [outs_A_7 m c t h0 h1 (by omega)]
    refine prompt_canon (normed (F := Ideal) (iblk m c 0 t) (iblk m c 2 t)) (iblk m c 3 t) (iblk m c 5 t) _ (before m c t) (fun p s j => ?_) y
    refine (started_zero (normed (F := Ideal) (iblk m c 0 t) (iblk m c 2 t)) (iblk m c 3 t) (iblk m c 6 t) (read6 m c t) p _ ?_).trans (if_pos h1).symm
    show 512 * p.val ≤ 512 * p.val + 1 * j.val
    omega
  · rw [outs_B_7 m c t h0 h1 (by omega)]
    refine prompt_canon (normed (F := Ideal) (iblk m c 0 t) (iblk m c 2 t)) (iblk m c 3 t) (iblk m c 5 t) _ (before m c t) (fun p s j => ?_) y
    unfold before
    rw [if_neg h1]
    have hp := p.isLt
    have e := carried m c ⟨t.val - 1, Nat.lt_of_le_of_lt (Nat.sub_le _ _) t.isLt⟩ (by show t.val - 1 < 64; omega) s ⟨512 * p.val + j.val, by omega⟩
    refine Eq.trans (congrArg (outsAt0 m c (t.val - 1) (Nat.lt_of_le_of_lt (Nat.sub_le _ _) t.isLt)).2.2.2 (funext fun a => Fin.ext ?_)) (e.trans ?_)
    · match a with
      | ⟨0, _⟩ => show 0 + 1 * s.val = s.val; omega
      | ⟨1, _⟩ => show 512 * p.val + 1 * j.val = 512 * p.val + j.val; omega
    · rfl

theorem packed_sample (t : Fin cfg0.N) (h0 : ¬t.val < 64) (y : S256x7424.Idx) :
    (outsAt0 m c t.val t.isLt).1 y = projS (in1 m c) (in2 m c) (in4 m c) (sampleRow t ⟨(y 0).val, lt256 y⟩) (colOf ⟨(y 1).val, lt7424 y⟩) := by
  rw [outs_C_7 m c t h0 (by omega)]
  exact (sample_canon (normed (F := Ideal) (iblk m c 1 t) (iblk m c 2 t)) (iblk m c 3 t) y).trans (pre_sample m c t _ _)

theorem final7 : (dats m 0 c).arrAt 7 cfg0.N = packArr (in0 m c) (in1 m c) (in2 m c) (in3 m c) (in4 m c) := by
  refine (dats m 0 c).arrAt_eq_of_covers 7 _ (by decide +kernel) fun t _ y => ?_
  have p := (places t).2.2.2.2.2.2.1
  have ht := lt66 t
  rw [after0_7]
  have y0 : (y 0).val < 256 := (y 0).isLt
  have e : (((cfg0.win 7).blk t).view.emb y) = ix2 (⟨256 * t.val + (y 0).val, by omega⟩ : Fin 16896) (⟨(y 1).val, (y 1).isLt⟩ : Fin 7424) := by
    funext d; apply Fin.ext
    match d with
    | ⟨0, _⟩ => show win0_7.index t 0 * 256 + 1 * (y 0).val = 256 * t.val + (y 0).val; omega
    | ⟨1, _⟩ => show win0_7.index t 1 * 7424 + 1 * (y 1).val = (y 1).val; omega
  refine Eq.trans ?_ (congrArg (packArr (in0 m c) (in1 m c) (in2 m c) (in3 m c) (in4 m c)) e.symm)
  unfold packArr
  by_cases h0 : t.val < 64
  · refine (packed_prompt m c t h0 y).trans ?_
    rw [dif_pos (show 256 * t.val + (y 0).val < 16384 by omega)]
    refine congrArg (fun R => packP (in0 m c) (in2 m c) (in3 m c) (in4 m c) R _) (Fin.ext ?_)
    show 256 * min t.val 63 + (y 0).val = 256 * t.val + (y 0).val
    omega
  · refine (packed_sample m c t h0 y).trans ?_
    rw [dif_neg (show ¬256 * t.val + (y 0).val < 16384 by omega)]
    refine congrArg (fun R => projS (in1 m c) (in2 m c) (in4 m c) R _) (Fin.ext ?_)
    show 256 * (t.val - 64) + (y 0).val = 256 * t.val + (y 0).val - 16384
    omega

theorem small_block (t : Fin cfg0.N) (r : Fin 256) (j : Fin 128) :
    (outsAt0 m c t.val t.isLt).2.1 (ix2 r j)
      = smallArr (in0 m c) (in1 m c) (in2 m c) (in4 m c) (ix2 (⟨256 * t.val + r.val, by have := lt66 t; omega⟩ : Fin 16896) j) := by
  have hr := r.isLt
  unfold smallArr
  by_cases h0 : t.val < 64
  · have e : (outsAt0 m c t.val t.isLt).2.1 = View.canon [smallPiece (F := Ideal) (iblk m c 0 t) (iblk m c 2 t) (iblk m c 4 t)] := by
      by_cases h1 : t.val % 16 = 0
      · exact outs_A_8 m c t h0 h1 (by omega)
      · exact outs_B_8 m c t h0 h1 (by omega)
    rw [e]
    refine (small_canon _ _ _ r j).trans ((small_prompt m c t r j).trans ?_)
    by_cases hj : j.val < 16
    · rw [dif_pos hj]
      refine Eq.trans ?_ (dif_pos hj).symm
      refine Eq.trans ?_ (dif_pos (show 256 * t.val + r.val < 16384 by omega)).symm
      refine congrArg (fun R => projP (in0 m c) (in2 m c) (in4 m c) R _) (Fin.ext ?_)
      show 256 * min t.val 63 + r.val = 256 * t.val + r.val
      omega
    · rw [dif_neg hj]
      refine Eq.trans ?_ (dif_neg hj).symm
      rfl
  · rw [outs_C_8 m c t h0 (by omega)]
    refine (small_canon _ _ _ r j).trans ((small_sample m c t r j).trans ?_)
    by_cases hj : j.val < 16
    · rw [dif_pos hj]
      refine Eq.trans ?_ (dif_pos hj).symm
      refine Eq.trans ?_ (dif_neg (show ¬256 * t.val + r.val < 16384 by omega)).symm
      refine congrArg (fun R => projS (in1 m c) (in2 m c) (in4 m c) R _) (Fin.ext ?_)
      show 256 * (t.val - 64) + r.val = 256 * t.val + r.val - 16384
      omega
    · rw [dif_neg hj]
      refine Eq.trans ?_ (dif_neg hj).symm
      rfl

theorem final8 : (dats m 0 c).arrAt 8 cfg0.N = smallArr (in0 m c) (in1 m c) (in2 m c) (in4 m c) := by
  refine (dats m 0 c).arrAt_eq_of_covers 8 _ (by decide +kernel) fun t _ y => ?_
  have p := (places t).2.2.2.2.2.2.2.1
  have ht := lt66 t
  rw [after0_8]
  have ey : y = ix2 (⟨(y 0).val, (y 0).isLt⟩ : Fin 256) (⟨(y 1).val, (y 1).isLt⟩ : Fin 128) := by
    funext d
    match d with
    | ⟨0, _⟩ => rfl
    | ⟨1, _⟩ => rfl
  refine (congrArg (outsAt0 m c t.val t.isLt).2.1 ey).trans ((small_block m c t _ _).trans (congrArg (smallArr (in0 m c) (in1 m c) (in2 m c) (in4 m c)) ?_))
  funext d; apply Fin.ext
  match d with
  | ⟨0, _⟩ => show 256 * t.val + (y 0).val = win0_8.index t 0 * 256 + 1 * (y 0).val; omega
  | ⟨1, _⟩ => show (y 1).val = win0_8.index t 1 * 128 + 1 * (y 1).val; omega

theorem ends9 : ∀ t : Fin cfg0.N, (cfg0.win 9).flush t = true → min t.val 63 % 16 = 15 :=
  (by decide +kernel : ∀ t : Fin grid0.N, (cfg0.win 9).flush t = true → min t.val 63 % 16 = 15)

theorem final9 : (dats m 0 c).arrAt 9 cfg0.N = tailArr (in0 m c) (in2 m c) (in4 m c) := by
  refine (dats m 0 c).arrAt_eq_of_covers 9 _ (by decide +kernel) fun t hf y => ?_
  have p := (places t).2.2.2.2.2.2.2.2
  have ht := lt66 t
  have h15 := ends9 t hf
  rw [after0_9]
  have y0 : (y 0).val < 1 := (y 0).isLt
  have y1 : (y 1).val < 8 := (y 1).isLt
  have y2 : (y 2).val < 3072 := (y 2).isLt
  have ey : y = ix3 (0 : Fin 1) (⟨(y 1).val, y1⟩ : Fin 8) (⟨(y 2).val, y2⟩ : Fin 3072) := by
    funext d; apply Fin.ext
    match d with
    | ⟨0, _⟩ => show (y 0).val = 0; omega
    | ⟨1, _⟩ => rfl
    | ⟨2, _⟩ => rfl
  have e : (((cfg0.win 9).blk t).view.emb y) = ix3 (⟨min t.val 63 / 16, by omega⟩ : Fin 4) (⟨(y 1).val, y1⟩ : Fin 8) (⟨(y 2).val, y2⟩ : Fin 3072) := by
    funext d; apply Fin.ext
    match d with
    | ⟨0, _⟩ => show win0_9.index t 0 * 1 + 1 * (y 0).val = min t.val 63 / 16; omega
    | ⟨1, _⟩ => show win0_9.index t 1 * 8 + 1 * (y 1).val = (y 1).val; omega
    | ⟨2, _⟩ => show win0_9.index t 2 * 3072 + 1 * (y 2).val = (y 2).val; omega
  refine (congrArg (outsAt0 m c t.val t.isLt).2.2.1 ey).trans ((handed m c t _ _).trans (Eq.trans ?_ (congrArg (tailArr (in0 m c) (in2 m c) (in4 m c)) e.symm)))
  unfold tailArr
  refine congrArg₂ (projP (in0 m c) (in2 m c) (in4 m c)) (Fin.ext ?_) (Fin.ext ?_)
  · show 256 * min t.val 63 + (248 + (y 1).val) = 4096 * (min t.val 63 / 16) + 4088 + (y 1).val
    omega
  · show (if (y 2).val < 4096 then (y 2).val else _) = (y 2).val
    rw [if_pos (by omega)]

/-- The run: the three arrays as functions of the arguments, the arguments unchanged. -/
theorem run (ρ : Dev nD → PrngReg) : θ_run defs (onTc (τ := τ) (main (F := Ideal))) ⟨m, fun _ => 0, ρ⟩ fun r => ∀ c : Dev nD,
    (r.2.mem ((c : Thread nD τ).loc main_v13_0) = packArr (in0 m c) (in1 m c) (in2 m c) (in3 m c) (in4 m c)
      ∧ r.2.mem ((c : Thread nD τ).loc main_v13_1) = smallArr (in0 m c) (in1 m c) (in2 m c) (in4 m c)
      ∧ r.2.mem ((c : Thread nD τ).loc main_v13_2) = tailArr (in0 m c) (in2 m c) (in4 m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨⟨((h.1 c).1 7).trans (final7 m c), ((h.1 c).1 8).trans (final8 m c), ((h.1 c).1 9).trans (final9 m c)⟩, h.2 c⟩)
    (θ_run_and (run_main m ρ) (unchanged m ρ))

end Cert.Kernel2Ideal.Body
-- ==== Proof.RefParts.lean ====
module
/- The reference's arrays of queries, keys and values, read at an index. -/
public import proofs.«01_k».proof.Proof.Attended
public import proofs.«01_k».proof.Proof.Gen.ReferenceIdeal.Read
public import Idealize.ShloMosaic.Lib.ValueIdxRank6
@[expose] public section
set_option maxRecDepth 65536
noncomputable section
namespace Cert.ReferenceIdeal.Attn
open Cert.ReferenceIdeal Cert.ReferenceIdeal.Gen Cert.ReferenceIdeal.Read
open Cert.KernelIdeal.Attn (promptAt rowOf keyRow qCol kCol vCol gCol readable distWord window_word biasAt headCol)
open Idealize Idealize.ShloMosaic Idealize.ShloMosaic.ValueIdx Idealize.ShloMosaic.TcCoe

/-- The query head of a key head and a place in its group. -/
def hd (g : Fin 2) (u : Fin 8) : Fin 16 := ⟨8 * g.val + u.val, by omega⟩

/-- The queries before the reshape to blocks. -/
theorem v11_at (x0 : FVec Ideal S4x4096x7440 .f32) (b : Fin 4) (L : Fin 4096) (g : Fin 2) (u : Fin 8) (l : Fin 64) (C : Fin 7440)
    (hC : C.val = 4112 + (512 * g.val + 64 * u.val + l.val)) :
    val_main_v11 (F := Ideal) x0 (ix5 b L g u l) = x0 (ix3 b L C) := by
  have hb := b.isLt; have hL := L.isLt; have hg := g.isLt; have hu := u.isLt; have hl := l.isLt
  have e1 : idx_main_v11 (ix5 b L g u l) = ix3 b L (⟨512 * g.val + 64 * u.val + l.val, by omega⟩ : Fin 1024) := by
    funext a; apply Fin.ext
    match a with
    | ⟨0, _⟩ => show ((((b.val * 4096 + L.val) * 2 + g.val) * 8 + u.val) * 64 + l.val) / 4194304 = b.val; omega
    | ⟨1, _⟩ => show ((((b.val * 4096 + L.val) * 2 + g.val) * 8 + u.val) * 64 + l.val) / 1024 % 4096 = L.val; omega
    | ⟨2, _⟩ => show ((((b.val * 4096 + L.val) * 2 + g.val) * 8 + u.val) * 64 + l.val) % 1024 = 512 * g.val + 64 * u.val + l.val; omega
  rw [val_main_v11_apply, e1]
  unfold val_main_v6
  refine extractStridedSlice_apply _ _ slices_S4x4096x7440_S4x4096x1024_0_0_4112 _ (ix3 b L C) fun a => ?_
  match a with
  | ⟨0, _⟩ => show b.val = 0 + b.val; omega
  | ⟨1, _⟩ => show L.val = 0 + L.val; omega
  | ⟨2, _⟩ => exact hC

theorem promptAt_row (x0 : FVec Ideal S4x4096x7440 .f32) (b : Fin 4) (n : Fin 32) (r : Fin 128) (C : Fin 7440) :
    promptAt x0 (rowOf b n r) C = x0 (ix3 b (⟨128 * n.val + r.val, by omega⟩ : Fin 4096) C) := by
  have hb := b.isLt; have hn := n.isLt; have hr := r.isLt
  unfold promptAt
  have e0 : (⟨(rowOf b n r).val / 4096, by have := (rowOf b n r).isLt; omega⟩ : Fin 4) = b := by
    apply Fin.ext; show (4096 * b.val + 128 * n.val + r.val) / 4096 = b.val; omega
  have e1 : (⟨(rowOf b n r).val % 4096, by omega⟩ : Fin 4096) = ⟨128 * n.val + r.val, by omega⟩ := by
    apply Fin.ext; show (4096 * b.val + 128 * n.val + r.val) % 4096 = 128 * n.val + r.val; omega
  rw [e0, e1]

theorem v14_apply (x0 : FVec Ideal S4x4096x7440 .f32) (b : Fin 4) (n : Fin 32) (r : Fin 128) (g : Fin 2) (u : Fin 8) (l : Fin 64) :
    val_main_v14 (F := Ideal) x0 (ix6 b n r g u l) = promptAt x0 (rowOf b n r) (qCol (hd g u) l) := by
  have hb := b.isLt; have hn := n.isLt; have hr := r.isLt; have hg := g.isLt; have hu := u.isLt; have hl := l.isLt
  unfold val_main_v14
  rw [promptAt_row]
  refine (shapeCast_apply _ shapeCasts_S4x4096x2x8x64_S4x32x128x2x8x64 (ix6 b n r g u l)
    (ix5 b (⟨128 * n.val + r.val, by omega⟩ : Fin 4096) g u l) ?_).trans (v11_at x0 b _ g u l _ ?_)
  · rw [Shape.rowMajor_val_five, Shape.rowMajor_val_six]
    show (((b.val * 4096 + (128 * n.val + r.val)) * 2 + g.val) * 8 + u.val) * 64 + l.val
      = ((((b.val * 32 + n.val) * 128 + r.val) * 2 + g.val) * 8 + u.val) * 64 + l.val
    omega
  · unfold qCol hd; dsimp only; omega

/-- Keys or values in blocks: a slice of 128 columns seen as two heads of 64. -/
theorem heads_at (x0 : FVec Ideal S4x4096x7440 .f32) (o : ℕ) (hs : S4x4096x7440.Slices ![0, 0, o] S4x4096x128) (b : Fin 4) (n : Fin 32) (r : Fin 128) (g : Fin 2) (l : Fin 64) (C : Fin 7440)
    (hC : C.val = o + (64 * g.val + l.val)) :
    shapeCast S4x32x128x2x64 (shapeCast S4x4096x2x64 (extractStridedSlice S4x4096x128 ![0, 0, o] x0 hs) shapeCasts_S4x4096x128_S4x4096x2x64)
      shapeCasts_S4x4096x2x64_S4x32x128x2x64 (ix5 b n r g l) = promptAt x0 (rowOf b n r) C := by
  have hb := b.isLt; have hn := n.isLt; have hr := r.isLt; have hg := g.isLt; have hl := l.isLt
  rw [promptAt_row]
  refine (shapeCast_apply _ shapeCasts_S4x4096x2x64_S4x32x128x2x64 (ix5 b n r g l)
    (ix4 b (⟨128 * n.val + r.val, by omega⟩ : Fin 4096) g l) ?_).trans
    ((shapeCast_apply _ shapeCasts_S4x4096x128_S4x4096x2x64 _ (ix3 b (⟨128 * n.val + r.val, by omega⟩ : Fin 4096) (⟨64 * g.val + l.val, by omega⟩ : Fin 128)) ?_).trans
      (extractStridedSlice_apply _ _ hs _ (ix3 b (⟨128 * n.val + r.val, by omega⟩ : Fin 4096) C) fun a => ?_))
  · rw [Shape.rowMajor_val_four, Shape.rowMajor_val_five]
    show ((b.val * 4096 + (128 * n.val + r.val)) * 2 + g.val) * 64 + l.val = (((b.val * 32 + n.val) * 128 + r.val) * 2 + g.val) * 64 + l.val
    omega
  · rw [Shape.rowMajor_val_three, Shape.rowMajor_val_four]
    show (b.val * 4096 + (128 * n.val + r.val)) * 128 + (64 * g.val + l.val) = ((b.val * 4096 + (128 * n.val + r.val)) * 2 + g.val) * 64 + l.val
    omega
  · match a with
    | ⟨0, _⟩ => show b.val = 0 + b.val; omega
    | ⟨1, _⟩ => show 128 * n.val + r.val = 0 + (128 * n.val + r.val); omega
    | ⟨2, _⟩ => exact hC

theorem v15_apply (x0 : FVec Ideal S4x4096x7440 .f32) (b : Fin 4) (n : Fin 32) (r : Fin 128) (g : Fin 2) (u : Fin 8) (l : Fin 64) :
    val_main_v15 (F := Ideal) x0 (ix5 b n r g l) = promptAt x0 (rowOf b n r) (kCol (hd g u) l) := by
  have hu := u.isLt
  exact heads_at x0 5136 _ b n r g l _ (by unfold kCol hd; dsimp only; omega)

theorem v16_apply (x0 : FVec Ideal S4x4096x7440 .f32) (b : Fin 4) (n : Fin 32) (r : Fin 128) (g : Fin 2) (u : Fin 8) (l : Fin 64) :
    val_main_v16 (F := Ideal) x0 (ix5 b n r g l) = promptAt x0 (rowOf b n r) (vCol (hd g u) l) := by
  have hu := u.isLt
  exact heads_at x0 5264 _ b n r g l _ (by unfold vCol hd; dsimp only; omega)

/-- The window of keys: the block before, zeros before the first block, then the block itself. -/
theorem window_apply (z : FVec Ideal S4x1x128x2x64 .f32) (y : FVec Ideal S4x32x128x2x64 .f32) (b : Fin 4) (n : Fin 32) (j : Fin 256) (g : Fin 2) (l : Fin 64)
    (P : EReal)
    (h0 : n.val = 0 → j.val < 128 → z (ix5 b (0 : Fin 1) (⟨j.val % 128, by omega⟩ : Fin 128) g l) = P)
    (h1 : n.val ≠ 0 → j.val < 128 → y (ix5 b (⟨n.val - 1, by omega⟩ : Fin 32) (⟨j.val % 128, by omega⟩ : Fin 128) g l) = P)
    (h2 : 128 ≤ j.val → y (ix5 b n (⟨j.val % 128, by omega⟩ : Fin 128) g l) = P) :
    concatenate S4x32x256x2x64 2 [⟨S4x32x128x2x64, concatenate S4x32x128x2x64 1 [⟨S4x1x128x2x64, z⟩, ⟨S4x31x128x2x64, extractStridedSlice S4x31x128x2x64 ![0, 0, 0, 0, 0] y slices_S4x32x128x2x64_S4x31x128x2x64_0_0_0_0_0⟩]
      concatenates_S4x1x128x2x64_S4x31x128x2x64_S4x32x128x2x64_d1⟩, ⟨S4x32x128x2x64, y⟩] concatenates_S4x32x128x2x64_S4x32x128x2x64_S4x32x256x2x64_d2
      (ix5 b n j g l) = P := by
  have hn := n.isLt; have hj := j.isLt
  rcases Nat.lt_or_ge j.val 128 with hj1 | hj1
  · refine (concatenate_pair_apply_left (t := S4x32x256x2x64) (s₁ := S4x32x128x2x64) (2 : Fin 5) _ y _ (ix5 b n j g l) rfl
      (ix5 b n (⟨j.val % 128, by omega⟩ : Fin 128) g l) fun d => ?_).trans ?_
    · match d with
      | ⟨0, _⟩ => rfl
      | ⟨1, _⟩ => rfl
      | ⟨2, _⟩ => show j.val % 128 = j.val; omega
      | ⟨3, _⟩ => rfl
      | ⟨4, _⟩ => rfl
    · by_cases hn0 : n.val = 0
      · refine (concatenate_pair_apply_left (t := S4x32x128x2x64) (s₁ := S4x1x128x2x64) (1 : Fin 5) z _ _ (ix5 b n (⟨j.val % 128, by omega⟩ : Fin 128) g l) rfl
          (ix5 b (0 : Fin 1) (⟨j.val % 128, by omega⟩ : Fin 128) g l) fun d => ?_).trans (h0 hn0 hj1)
        match d with
        | ⟨0, _⟩ => rfl
        | ⟨1, _⟩ => show 0 = n.val; omega
        | ⟨2, _⟩ => rfl
        | ⟨3, _⟩ => rfl
        | ⟨4, _⟩ => rfl
      · refine (concatenate_pair_apply_right (t := S4x32x128x2x64) (s₁ := S4x1x128x2x64) (s₂ := S4x31x128x2x64) (1 : Fin 5) z _ _ (ix5 b n (⟨j.val % 128, by omega⟩ : Fin 128) g l) rfl rfl
          (ix5 b (⟨n.val - 1, by omega⟩ : Fin 31) (⟨j.val % 128, by omega⟩ : Fin 128) g l) (fun d hd => ?_) ?_).trans ?_
        · match d with
          | ⟨0, _⟩ => rfl
          | ⟨1, _⟩ => exact absurd rfl hd
          | ⟨2, _⟩ => rfl
          | ⟨3, _⟩ => rfl
          | ⟨4, _⟩ => rfl
        · show n.val - 1 + 1 = n.val; omega
        · refine (extractStridedSlice_apply ![0, 0, 0, 0, 0] y slices_S4x32x128x2x64_S4x31x128x2x64_0_0_0_0_0 _
            (ix5 b (⟨n.val - 1, by omega⟩ : Fin 32) (⟨j.val % 128, by omega⟩ : Fin 128) g l) fun d => ?_).trans (h1 hn0 hj1)
          match d with
          | ⟨0, _⟩ => show b.val = 0 + b.val; omega
          | ⟨1, _⟩ => show n.val - 1 = 0 + (n.val - 1); omega
          | ⟨2, _⟩ => show j.val % 128 = 0 + j.val % 128; omega
          | ⟨3, _⟩ => show g.val = 0 + g.val; omega
          | ⟨4, _⟩ => show l.val = 0 + l.val; omega
  · refine (concatenate_pair_apply_right (t := S4x32x256x2x64) (s₁ := S4x32x128x2x64) (s₂ := S4x32x128x2x64) (2 : Fin 5) _ y _ (ix5 b n j g l) rfl rfl
      (ix5 b n (⟨j.val % 128, by omega⟩ : Fin 128) g l) (fun d hd => ?_) ?_).trans (h2 hj1)
    · match d with
      | ⟨0, _⟩ => rfl
      | ⟨1, _⟩ => rfl
      | ⟨2, _⟩ => exact absurd rfl hd
      | ⟨3, _⟩ => rfl
      | ⟨4, _⟩ => rfl
    · show j.val % 128 + 128 = j.val; omega

/-- What the reference's window holds at a column: the input's row, or 0 before the first row. -/
def windowAt (x0 : FVec Ideal S4x4096x7440 .f32) (b : Fin 4) (n : Fin 32) (j : Fin 256) (C : Fin 7440) : EReal :=
  if n.val = 0 ∧ j.val < 128 then 0 else promptAt x0 (keyRow b n j) C

theorem ofBits_zero : Ideal.ofBits .f32 0x00000000#32 = 0 := by
  simp [Ideal.ofBits, Ideal.ieee]

theorem prev_row (b : Fin 4) (n : Fin 32) (j : Fin 256) (hn : n.val ≠ 0) (hj : j.val < 128) :
    rowOf b (⟨n.val - 1, by omega⟩ : Fin 32) (⟨j.val % 128, by omega⟩ : Fin 128) = keyRow b n j := by
  apply Fin.ext
  show 4096 * b.val + 128 * (n.val - 1) + j.val % 128 = 4096 * b.val + (if n.val = 0 then j.val % 128 else 128 * (n.val - 1) + j.val)
  rw [if_neg hn]; omega
theorem same_row (b : Fin 4) (n : Fin 32) (j : Fin 256) (hj : 128 ≤ j.val) :
    rowOf b n (⟨j.val % 128, by omega⟩ : Fin 128) = keyRow b n j := by
  have := j.isLt
  apply Fin.ext
  show 4096 * b.val + 128 * n.val + j.val % 128 = 4096 * b.val + (if n.val = 0 then j.val % 128 else 128 * (n.val - 1) + j.val)
  split <;> omega

theorem v21_apply (x0 : FVec Ideal S4x4096x7440 .f32) (b : Fin 4) (n : Fin 32) (j : Fin 256) (g : Fin 2) (u : Fin 8) (l : Fin 64) :
    val_main_v21 (F := Ideal) x0 (ix5 b n j g l) = windowAt x0 b n j (kCol (hd g u) l) := by
  unfold val_main_v21 val_main_v20 val_main_v19 windowAt
  refine window_apply _ _ b n j g l _ (fun h1 h2 => ?_) (fun h1 h2 => ?_) (fun h1 => ?_)
  · rw [if_pos ⟨h1, h2⟩, val_main_v18_apply]; exact ofBits_zero
  · rw [if_neg (by omega), v15_apply x0 _ _ _ g u l, prev_row b n j h1 h2]
  · rw [if_neg (by omega), v15_apply x0 _ _ _ g u l, same_row b n j h1]

theorem v26_apply (x0 : FVec Ideal S4x4096x7440 .f32) (b : Fin 4) (n : Fin 32) (j : Fin 256) (g : Fin 2) (u : Fin 8) (l : Fin 64) :
    val_main_v26 (F := Ideal) x0 (ix5 b n j g l) = windowAt x0 b n j (vCol (hd g u) l) := by
  unfold val_main_v26 val_main_v25 val_main_v24 windowAt
  refine window_apply _ _ b n j g l _ (fun h1 h2 => ?_) (fun h1 h2 => ?_) (fun h1 => ?_)
  · rw [if_pos ⟨h1, h2⟩, val_main_v23_apply]; exact ofBits_zero
  · rw [if_neg (by omega), v16_apply x0 _ _ _ g u l, prev_row b n j h1 h2]
  · rw [if_neg (by omega), v16_apply x0 _ _ _ g u l, same_row b n j h1]

end Cert.ReferenceIdeal.Attn
end
-- ==== Proof.RefScore.lean ====
module
/- The reference's masked scores, read at an index. -/
public import proofs.«01_k».proof.Proof.RefParts
@[expose] public section
set_option maxRecDepth 65536
noncomputable section
namespace Cert.ReferenceIdeal.Attn
open Cert.ReferenceIdeal Cert.ReferenceIdeal.Gen Cert.ReferenceIdeal.Read
open Cert.KernelIdeal.Attn (promptAt rowOf keyRow qCol kCol vCol gCol readable distWord window_word word_in biasAt headCol)
open Idealize Idealize.ShloMosaic Idealize.ShloMosaic.ValueIdx Idealize.ShloMosaic.TcCoe

theorem v35_at (r : Fin 128) (j : Fin 256) : val_main_v35 (F := Ideal) (ix2 r j) = distWord r j := by
  rw [val_main_v35_apply, val_main_v33_apply, val_main_v31_apply, val_main_v30_apply, val_main_v34_apply, val_main_v32_apply, val_main_v29_apply,
    val_main_v27_apply, val_main_v28_apply]
  rfl

theorem v43_at (r : Fin 128) (j : Fin 256) : val_main_v43 (F := Ideal) (ix2 r j) = if r.val < j.val ∧ j.val ≤ r.val + 128 then 1#1 else 0#1 := by
  rw [val_main_v43_apply, val_main_v40_apply, val_main_v42_apply, v35_at, val_main_v39_apply, val_main_v41_apply]
  exact window_word r j

theorem start_word : ∀ e : Fin 4224, IntOp.cmpi .sge (IntOp.subi (BitVec.ofNat 32 e.val) 128#32) 0#32 = if 128 ≤ e.val then 1#1 else 0#1 := by decide +kernel

theorem v51_at (n : Fin 32) (j : Fin 256) : val_main_v51 (F := Ideal) (ix3 n (0 : Fin 1) j) = if 128 ≤ 128 * n.val + j.val then 1#1 else 0#1 := by
  have hn := n.isLt; have hj := j.isLt
  rw [val_main_v51_apply, val_main_v49_apply, val_main_v47_apply, val_main_v45_apply, val_main_v38_apply, val_main_v36_apply, val_main_v37_apply,
    val_main_v48_apply, val_main_v46_apply, val_main_v29_apply, val_main_v27_apply, val_main_v28_apply, val_main_v50_apply]
  refine Eq.trans ?_ (start_word ⟨128 * n.val + j.val, by omega⟩)
  refine congrArg (fun z => IntOp.cmpi .sge z 0#32) ?_
  show BitVec.ofNat 32 n.val * 128#32 + (BitVec.ofNat 32 j.val - 128#32) = BitVec.ofNat 32 (128 * n.val + j.val) - 128#32
  apply BitVec.eq_of_toNat_eq
  simp only [BitVec.toNat_add, BitVec.toNat_sub, BitVec.toNat_mul, BitVec.toNat_ofNat]
  norm_num
  omega

theorem v54_at (n : Fin 32) (r : Fin 128) (j : Fin 256) :
    val_main_v54 (F := Ideal) (ix3 n r j) = if readable (decide (n.val = 0)) r j then 1#1 else 0#1 := by
  rw [val_main_v54_apply, val_main_v52_apply, val_main_v44_apply, val_main_v53_apply,
    show idx_main_v44 (idx_main_v52 (ix3 n r j)) = ix2 r j from eq_ix2 _, show idx_main_v53 (ix3 n r j) = ix3 n (0 : Fin 1) j from eq_ix3 _, v43_at, v51_at]
  have hr : readable (decide (n.val = 0)) r j ↔ (r.val < j.val ∧ j.val ≤ r.val + 128) ∧ 128 ≤ 128 * n.val + j.val := by
    unfold readable
    simp only [decide_eq_true_eq]
    constructor
    · rintro ⟨h1, h2, h3⟩
      refine ⟨⟨h1, h2⟩, ?_⟩
      by_cases h0 : n.val = 0
      · have := h3 h0; omega
      · omega
    · rintro ⟨⟨h1, h2⟩, h3⟩
      exact ⟨h1, h2, fun h0 => by omega⟩
  by_cases h1 : r.val < j.val ∧ j.val ≤ r.val + 128
  · by_cases h2 : 128 ≤ 128 * n.val + j.val
    · rw [if_pos h1, if_pos h2, if_pos (hr.2 ⟨h1, h2⟩)]; rfl
    · rw [if_pos h1, if_neg h2, if_neg (fun h => h2 (hr.1 h).2)]; rfl
  · rw [if_neg h1, if_neg (fun h => h1 (hr.1 h).1)]
    split <;> rfl

/-- The gather of a table's rows by start indices, read at an index: the row is the start index, clamped. -/
theorem rows_apply {R C N H : ℕ} (K : ℕ) (hN : K + 1 = N)
    (wf : GatherDims.WF ⟨2, ![N, H]⟩ ⟨3, ![R, C, 1]⟩ ⟨3, ![R, C, H]⟩ [2] [0] [] [0] [] 2 ![1, H])
    (x : (⟨2, ![N, H]⟩ : Shape).Idx → EReal) (idx : IVec ⟨3, ![R, C, 1]⟩ 32) (r : Fin R) (j : Fin C) (h : Fin H) (d : GatherDims ⟨2, ![N, H]⟩ ⟨3, ![R, C, 1]⟩ ⟨3, ![R, C, H]⟩)
    (hd : d = { offsetDims := [2], collapsedSliceDims := [0], operandBatchingDims := [], startIndicesBatchingDims := [], startIndexMap := [0], indexVectorDim := 2, sliceSizes := ![1, H], wf := wf }) :
    Host.gather d x idx (ix3 r j h) = x (ix2 (⟨min (idx (ix3 r j (0 : Fin 1))).toInt.toNat K, by omega⟩ : Fin N) h) := by
  unfold Host.gather
  congr 1
  funext a
  refine Fin.ext ?_
  show d.start (ix3 r j h) idx a + d.batchCoord (ix3 r j h) a + d.offCoord (ix3 r j h) a = _
  subst hd
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    dsimp only
    rw [dif_pos (show (⟨0, by decide⟩ : Fin 2) ∈ [(0 : Fin 2)] from List.mem_singleton.mpr rfl)]
    have hK : N - 1 = K := by omega
    show min (idx _).toInt.toNat (N - 1) + 0 + 0 = min _ K
    rw [hK]
    refine congrArg (fun z : ℤ => min z.toNat K) (congrArg (fun q => (idx q).toInt) ?_)
    funext b; refine Fin.ext ?_
    match b with
    | ⟨0, _⟩ => rfl
    | ⟨1, _⟩ => rfl
    | ⟨2, _⟩ => rfl
  | ⟨1, _⟩ =>
    unfold GatherDims.start GatherDims.offCoord
    rw [dif_neg (fun h => absurd (congrArg Fin.val (List.mem_singleton.1 h)) Nat.one_ne_zero),
      dif_pos ((GatherDims.mem_sKept _ _).2 ⟨fun h => absurd (congrArg Fin.val (List.mem_singleton.1 h)) Nat.one_ne_zero, List.not_mem_nil⟩)]
    show 0 + 0 + h.val = h.val
    omega

/-- The row of the bias table a start index selects. -/
theorem v85_at (x4 : FVec Ideal S32x16 .f32) (r : Fin 128) (j : Fin 256) (h : Fin 16) :
    val_main_v85 (F := Ideal) x4 (ix3 r j h)
      = x4 (ix2 (⟨min (val_main_v84 (F := Ideal) (ix3 r j (0 : Fin 1))).toInt.toNat 31, by omega⟩ : Fin 32) h) := by
  unfold val_main_v85
  exact rows_apply (R := 128) (C := 256) (N := 32) (H := 16) 31 rfl gather_S32x16_S128x256x1_S128x256x16_2_0_n_n_0_2_116_wf x4 (val_main_v84 (F := Ideal)) r j h gather_S32x16_S128x256x1_S128x256x16_2_0_n_n_0_2_116 rfl

theorem small_word : ∀ k : Fin 32, IntOp.cmpi .slt (BitVec.ofNat 32 k.val) 0#32 = 0#1 ∧ (BitVec.ofNat 32 k.val).toInt.toNat = k.val := by decide +kernel

theorem v84_at (r : Fin 128) (j : Fin 256) (h1 : r.val < j.val) (h2 : j.val ≤ r.val + 128) :
    (val_main_v84 (F := Ideal) (ix3 r j (0 : Fin 1))).toInt.toNat = (Cert.Bucket.word (distWord r j)).toNat := by
  have e78 : val_main_v78 (F := Ideal) (ix2 r j) = Cert.Bucket.word (distWord r j) := by
    rw [← v35_at]; rfl
  have hw := word_in r j h1 h2
  obtain ⟨k, hk⟩ : ∃ k : Fin 32, Cert.Bucket.word (distWord r j) = BitVec.ofNat 32 k.val :=
    ⟨⟨_, hw⟩, by apply BitVec.eq_of_toNat_eq; rw [BitVec.toNat_ofNat]; show _ = (Cert.Bucket.word (distWord r j)).toNat % 2 ^ 32; omega⟩
  have e79 : val_main_v79 (F := Ideal) (ix2 r j) = 0#32 := by rw [val_main_v79_apply]; rfl
  rw [val_main_v84_apply, show idx_main_v84 (ix3 r j (0 : Fin 1)) = ix2 r j from eq_ix2 _]
  have e83 : val_main_v83 (F := Ideal) (ix2 r j) = Scalar.select (IntOp.cmpi .slt (val_main_v78 (F := Ideal) (ix2 r j)) (val_main_v79 (F := Ideal) (ix2 r j)))
    (val_main_v82 (F := Ideal) (ix2 r j)) (val_main_v78 (F := Ideal) (ix2 r j)) := rfl
  rw [e83, e79, e78, hk, (small_word k).1]
  show (BitVec.ofNat 32 k.val).toInt.toNat = _
  rw [(small_word k).2, BitVec.toNat_ofNat]
  omega

theorem v90_at (x4 : FVec Ideal S32x16 .f32) (b : Fin 4) (n : Fin 32) (g : Fin 2) (u : Fin 8) (r : Fin 128) (j : Fin 256)
    (h1 : r.val < j.val) (h2 : j.val ≤ r.val + 128) :
    val_main_v90 (F := Ideal) x4 (ix6 b n g u r j) = biasAt x4 (hd g u) r j := by
  have hg := g.isLt; have hu := u.isLt; have hr := r.isLt; have hj := j.isLt
  rw [val_main_v90_apply, val_main_v89_apply, show idx_main_v89 (idx_main_v90 (ix6 b n g u r j)) = ix4 g u r j from eq_ix4 _, val_main_v87_apply]
  have e : idx_main_v87 (ix4 g u r j) = ix3 (hd g u) r j := by
    funext a; apply Fin.ext
    match a with
    | ⟨0, _⟩ => show (((g.val * 8 + u.val) * 128 + r.val) * 256 + j.val) / 32768 = 8 * g.val + u.val; omega
    | ⟨1, _⟩ => show (((g.val * 8 + u.val) * 128 + r.val) * 256 + j.val) / 256 % 128 = r.val; omega
    | ⟨2, _⟩ => show (((g.val * 8 + u.val) * 128 + r.val) * 256 + j.val) % 256 = j.val; omega
  rw [e, val_main_v86_apply, show idx_main_v86 (ix3 (hd g u) r j) = ix3 r j (hd g u) from eq_ix3 _, v85_at]
  unfold biasAt
  refine congrArg (fun k : Fin 32 => x4 (ix2 k (hd g u))) (Fin.ext ?_)
  show min _ 31 = _ % 32
  rw [v84_at r j h1 h2]
  have := word_in r j h1 h2
  omega

/-- The reference's score of a key. -/
def refScore (a0 : FVec Ideal S4x4096x7440 .f32) (a4 : FVec Ideal S32x16 .f32) (b : Fin 4) (n : Fin 32) (r : Fin 128) (h : Fin 16) (j : Fin 256) : EReal :=
  if readable (decide (n.val = 0)) r j then
    (∑ l : Fin 64, windowAt a0 b n j (kCol h l) * promptAt a0 (rowOf b n r) (qCol h l)) * ((1 / 8 : ℝ) : EReal) + biasAt a4 h r j
  else ⊥

theorem eighth : Ideal.ofBits .f32 0x3E000000#32 = ((1 / 8 : ℝ) : EReal) := by
  simp [Ideal.ofBits, Ideal.ieee]; rw [← EReal.coe_mul]; norm_num
theorem neg_inf : Ideal.ofBits .f32 0xFF800000#32 = ⊥ := by
  simp [Ideal.ofBits, Ideal.ieee]

theorem v92_at (x0 : FVec Ideal S4x4096x7440 .f32) (x4 : FVec Ideal S32x16 .f32) (b : Fin 4) (n : Fin 32) (g : Fin 2) (u : Fin 8) (r : Fin 128) (j : Fin 256) :
    val_main_v92 (F := Ideal) x0 x4 (ix6 b n g u r j) = refScore x0 x4 b n r (hd g u) j := by
  rw [val_main_v92_apply, val_main_call1_v1_apply, val_main_v88_apply,
    show idx_main_v88 (idx_main_call1_v1 (ix6 b n g u r j)) = ix3 n r j from eq_ix3 _, v54_at]
  unfold refScore
  by_cases h : readable (decide (n.val = 0)) r j
  · rw [if_pos h, if_pos h]
    show val_main_v91 (F := Ideal) x0 x4 (ix6 b n g u r j) = _
    rw [val_main_v91_apply, v90_at x4 b n g u r j h.1 h.2.1, val_main_v58_apply, val_main_v56_apply,
      show idx_main_v56 (ix6 b n g u r j) = ix6 b n g j r u from eq_ix6 _, val_main_v55_apply, val_main_v57_apply]
    refine congrArg (fun z : EReal => z + biasAt x4 (hd g u) r j) (congrArg₂ (fun p q : EReal => p * q) (Finset.sum_congr rfl fun l _ => ?_) eighth)
    rw [show lidx_main_v55 (ix6 b n g j r u) l = ix5 b n j g l from eq_ix5 _, show ridx_main_v55 (ix6 b n g j r u) l = ix6 b n r g u l from eq_ix6 _,
      v21_apply x0 b n j g u l, v14_apply]
  · rw [if_neg h, if_neg h]
    show val_main_call1_v2 (F := Ideal) (ix6 b n g u r j) = _
    rw [val_main_call1_v2_apply, val_main_call1_v0_apply]
    exact neg_inf

end Cert.ReferenceIdeal.Attn
end
-- ==== Proof.RefValue.lean ====
module
/- The reference's attended result, read at an index. -/
public import proofs.«01_k».proof.Proof.RefScore
public import proofs.«01_k».proof.Proof.Softmax
@[expose] public section
set_option maxRecDepth 65536
noncomputable section
namespace Cert.ReferenceIdeal.Attn
open Cert.ReferenceIdeal Cert.ReferenceIdeal.Gen Cert.ReferenceIdeal.Read Cert.Softmax
open Cert.KernelIdeal.Attn (promptAt rowOf keyRow qCol kCol vCol gCol headCol)
open Idealize Idealize.ShloMosaic Idealize.ShloMosaic.ValueIdx Idealize.ShloMosaic.TcCoe

variable (x0 : FVec Ideal S4x4096x7440 .f32) (x2 : FVec Ideal S16384x1024 .f32) (x3 : FVec Ideal S16 .f32) (x4 : FVec Ideal S32x16 .f32)
  (b : Fin 4) (n : Fin 32) (g : Fin 2) (u : Fin 8) (r : Fin 128)

theorem v93_at : val_main_v93 (F := Ideal) x3 (ix6 (0 : Fin 1) (0 : Fin 1) g u (0 : Fin 1) (0 : Fin 1)) = x3 (ix1 (hd g u)) := by
  unfold val_main_v93
  refine shapeCast_apply _ shapeCasts_S16_S1x1x2x8x1x1 _ (ix1 (hd g u)) ?_
  rw [Shape.rowMajor_val_one, Shape.rowMajor_val_six]
  show 8 * g.val + u.val = ((((0 * 1 + 0) * 2 + g.val) * 8 + u.val) * 1 + 0) * 1 + 0
  omega

theorem reduces_keys : S4x32x2x8x128x256.Reduces [(5 : Fin 6)] S4x32x2x8x128 := by decide

theorem v94_at : val_main_v94 (F := Ideal) x0 x4 (ix5 b n g u r) = Finset.univ.fold max ⊥ (refScore x0 x4 b n r (hd g u)) := by
  unfold val_main_v94
  have e := Host.reduce_eq_fold_single (max : EReal → EReal → EReal) (val_main_v92 (F := Ideal) x0 x4) (val_main_cst_17 (F := Ideal))
    reducesTo_S4x32x2x8x128x256_S4x32x2x8x128_d5 reduces_keys h_S_ (ix5 b n g u r)
  have hi : val_main_cst_17 (F := Ideal) (Shape.Idx.first h_S_) = ⊥ := neg_inf
  have hx : (val_main_v92 (F := Ideal) x0 x4 ∘ reduces_keys.lift (ix5 b n g u r)) = (refScore x0 x4 b n r (hd g u) : Fin 256 → EReal) := by
    refine funext fun (j : Fin 256) => Eq.trans ?_ (v92_at x0 x4 b n g u r j)
    refine congrArg (val_main_v92 (F := Ideal) x0 x4) ?_
    funext a; match a with
    | ⟨0, _⟩ => rfl
    | ⟨1, _⟩ => rfl
    | ⟨2, _⟩ => rfl
    | ⟨3, _⟩ => rfl
    | ⟨4, _⟩ => rfl
    | ⟨5, _⟩ => rfl
  rw [hi, hx] at e
  exact e

theorem v97_at : val_main_v97 (F := Ideal) x0 x3 x4 (ix6 b n g u r (0 : Fin 1)) = top (refScore x0 x4 b n r (hd g u)) (x3 (ix1 (hd g u))) := by
  rw [val_main_v97_apply, val_main_v95_apply, val_main_v96_apply,
    show idx_main_v95 (ix6 b n g u r (0 : Fin 1)) = ix5 b n g u r from eq_ix5 _,
    show idx_main_v96 (ix6 b n g u r (0 : Fin 1)) = ix6 (0 : Fin 1) (0 : Fin 1) g u (0 : Fin 1) (0 : Fin 1) from eq_ix6 _, v93_at, v94_at]
  rfl

theorem v100_at (j : Fin 256) : val_main_v100 (F := Ideal) x0 x3 x4 (ix6 b n g u r j) = wt (refScore x0 x4 b n r (hd g u)) (x3 (ix1 (hd g u))) j := by
  rw [val_main_v100_apply, val_main_v99_apply, v92_at, val_main_v98_apply,
    show idx_main_v98 (ix6 b n g u r j) = ix6 b n g u r (0 : Fin 1) from eq_ix6 _, v97_at]
  rfl

theorem v106_at : val_main_v106 (F := Ideal) x0 x3 x4 (ix6 b n g u r (0 : Fin 1)) = den (refScore x0 x4 b n r (hd g u)) (x3 (ix1 (hd g u))) := by
  rw [val_main_v106_apply, val_main_v102_apply, val_main_v105_apply, val_main_v104_apply, val_main_v103_apply, v97_at,
    show idx_main_v102 (ix6 b n g u r (0 : Fin 1)) = ix5 b n g u r from eq_ix5 _,
    show idx_main_v103 (ix6 b n g u r (0 : Fin 1)) = ix6 (0 : Fin 1) (0 : Fin 1) g u (0 : Fin 1) (0 : Fin 1) from eq_ix6 _, v93_at, val_main_v101_apply]
  have h0 : ∀ i, val_main_cst_18 (F := Ideal) i = 0 := fun _ => ofBits_zero
  rw [h0, zero_add]
  unfold den
  refine congrArg (fun z : EReal => z + _) (Finset.sum_congr rfl fun j _ => ?_)
  rw [show idx_main_v101 (ix5 b n g u r) j = ix6 b n g u r j from eq_ix6 _, v100_at]

theorem v109_at (d : Fin 64) : val_main_v109 (F := Ideal) x0 x3 x4 (ix6 b n g d u r)
    = divThenSum (refScore x0 x4 b n r (hd g u)) (fun j => windowAt x0 b n j (vCol (hd g u) d)) (x3 (ix1 (hd g u))) := by
  rw [val_main_v109_apply]
  unfold divThenSum
  refine Finset.sum_congr rfl fun j _ => ?_
  rw [show lidx_main_v109 (ix6 b n g d u r) j = ix5 b n j g d from eq_ix5 _, show ridx_main_v109 (ix6 b n g d u r) j = ix6 b n g u r j from eq_ix6 _,
    v26_apply x0 b n j g u d, val_main_v108_apply, v100_at, val_main_v107_apply,
    show idx_main_v107 (ix6 b n g u r j) = ix6 b n g u r (0 : Fin 1) from eq_ix6 _, v106_at]
  exact mul_comm _ _

theorem v111_at (L : Fin 4096) (C : Fin 1024) (d : Fin 64) (hL : L.val = 128 * n.val + r.val) (hC : C.val = 64 * (8 * g.val + u.val) + d.val) :
    val_main_v111 (F := Ideal) x0 x3 x4 (ix3 b L C)
      = divThenSum (refScore x0 x4 b n r (hd g u)) (fun j => windowAt x0 b n j (vCol (hd g u) d)) (x3 (ix1 (hd g u))) := by
  unfold val_main_v111
  refine (shapeCast_apply _ shapeCasts_S4x32x128x2x8x64_S4x4096x1024 (ix3 b L C) (ix6 b n r g u d) ?_).trans ?_
  · rw [Shape.rowMajor_val_six, Shape.rowMajor_val_three]
    show ((((b.val * 32 + n.val) * 128 + r.val) * 2 + g.val) * 8 + u.val) * 64 + d.val = (b.val * 4096 + L.val) * 1024 + C.val
    omega
  · rw [val_main_v110_apply, show idx_main_v110 (ix6 b n r g u d) = ix6 b n g d u r from eq_ix6 _, v109_at]

/-- The reference's result at a position, a head and a lane. -/
def refAttended (a0 : FVec Ideal S4x4096x7440 .f32) (a2 : FVec Ideal S16384x1024 .f32) (a3 : FVec Ideal S16 .f32) (a4 : FVec Ideal S32x16 .f32)
    (b : Fin 4) (n : Fin 32) (r : Fin 128) (h : Fin 16) (d : Fin 64) : EReal :=
  a2 (ix2 (rowOf b n r) (headCol h d)) + Ideal.logistic (promptAt a0 (rowOf b n r) (gCol h d))
    * divThenSum (refScore a0 a4 b n r h) (fun j => windowAt a0 b n j (vCol h d)) (a3 (ix1 h))

theorem one_bits : Ideal.ofBits .f32 0x3F800000#32 = 1 := by
  simp [Ideal.ofBits, Ideal.ieee]; rw [← EReal.coe_mul]; norm_num

theorem v10_at (L : Fin 4096) (C : Fin 1024) (D : Fin 7440) (hD : D.val = 6416 + C.val) : val_main_v10 (F := Ideal) x0 (ix3 b L C) = x0 (ix3 b L D) := by
  unfold val_main_v10
  refine extractStridedSlice_apply _ _ slices_S4x4096x7440_S4x4096x1024_0_0_6416 _ (ix3 b L D) fun a => ?_
  match a with
  | ⟨0, _⟩ => show b.val = 0 + b.val; omega
  | ⟨1, _⟩ => show L.val = 0 + L.val; omega
  | ⟨2, _⟩ => exact hD

theorem v121_at (d : Fin 64) (R : Fin 16384) (C : Fin 1024) (hR : R.val = 4096 * b.val + 128 * n.val + r.val) (hC : C.val = 64 * (8 * g.val + u.val) + d.val) :
    val_main_v121 (F := Ideal) x0 x2 x3 x4 (ix2 R C) = refAttended x0 x2 x3 x4 b n r (hd g u) d := by
  have hb := b.isLt; have hn := n.isLt; have hr := r.isLt; have hg := g.isLt; have hu := u.isLt; have hd := d.isLt
  have e : idx_main_v121 (ix2 R C) = ix3 b (⟨128 * n.val + r.val, by omega⟩ : Fin 4096) C := by
    have hC' := C.isLt
    funext a; apply Fin.ext
    match a with
    | ⟨0, _⟩ => show (R.val * 1024 + C.val) / 4194304 = b.val; omega
    | ⟨1, _⟩ => show (R.val * 1024 + C.val) / 1024 % 4096 = 128 * n.val + r.val; omega
    | ⟨2, _⟩ => show (R.val * 1024 + C.val) % 1024 = C.val; omega
  rw [val_main_v121_apply, e, val_main_v120_apply, val_main_v119_apply, v111_at x0 x3 x4 b n g u r _ C d rfl hC, val_main_v118_apply,
    val_main_v117_apply, val_main_v116_apply, val_main_v115_apply, val_main_v114_apply, val_main_v113_apply,
    v10_at x0 b _ C (gCol (Attn.hd g u) d) (by unfold gCol Attn.hd; dsimp only; omega), val_main_v112_apply]
  have e2 : idx_main_v112 (ix3 b (⟨128 * n.val + r.val, by omega⟩ : Fin 4096) C) = ix2 (rowOf b n r) (headCol (Attn.hd g u) d) := by
    have hC' := C.isLt
    funext a; apply Fin.ext
    match a with
    | ⟨0, _⟩ => show ((b.val * 4096 + (128 * n.val + r.val)) * 1024 + C.val) / 1024 = 4096 * b.val + 128 * n.val + r.val; omega
    | ⟨1, _⟩ => show ((b.val * 4096 + (128 * n.val + r.val)) * 1024 + C.val) % 1024 = 64 * (8 * g.val + u.val) + d.val; omega
  have c1 : ∀ i, val_main_cst_19 (F := Ideal) i = 1 := fun _ => one_bits
  have c2 : ∀ i, val_main_cst_20 (F := Ideal) i = 1 := fun _ => one_bits
  rw [e2, c1, c2, ← promptAt_row x0 b n r (gCol (Attn.hd g u) d)]
  rfl

end Cert.ReferenceIdeal.Attn
end
-- ==== Proof.ProjRef.lean ====
module
/- The reference's projections, read at an index. -/
public import proofs.«01_k».proof.Proof.ProjArrays
public import proofs.«01_k».proof.Proof.RefValue
public import proofs.«01_k».proof.Proof.Gen.Reference2Ideal.Read
@[expose] public section
set_option maxRecDepth 65536
noncomputable section
namespace Cert.Reference2Ideal.Proj
open Cert.Reference2Ideal Cert.Reference2Ideal.Gen Cert.Reference2Ideal.Read
open Cert.Kernel2Ideal.Body (rowP rowS colOf projP projS projRow normRow back convP packP packArr smallArr tailArr silu)
open Idealize Idealize.ShloMosaic Idealize.ShloMosaic.ValueIdx Idealize.ShloMosaic.TcCoe

/-- A band of the last axis. -/
theorem slice3 {A B N n : ℕ} (o : ℕ) (x : Shape.Idx ⟨3, ![A, B, N]⟩ → EReal) (hs : Shape.Slices ⟨3, ![A, B, N]⟩ ![0, 0, o] ⟨3, ![A, B, n]⟩)
    (a : Fin A) (b : Fin B) (j : Fin n) (C : Fin N) (hC : C.val = o + j.val) :
    extractStridedSlice ⟨3, ![A, B, n]⟩ ![0, 0, o] x hs (ix3 a b j) = x (ix3 a b C) := by
  refine extractStridedSlice_apply _ _ hs _ (ix3 a b C) fun d => ?_
  match d with
  | ⟨0, _⟩ => show a.val = 0 + a.val; omega
  | ⟨1, _⟩ => show b.val = 0 + b.val; omega
  | ⟨2, _⟩ => exact hC

/-- A piece of arrays put together along the last axis. -/
theorem piece3 {A B N n : ℕ} (xs : List ((s : Shape) × (s.Idx → EReal))) (h : Shape.Concatenates (xs.map (·.1)) ⟨3, ![A, B, N]⟩ 2)
    (a : Fin A) (b : Fin B) (c : Fin N) (k : ℕ) (hk : k < xs.length) (x : Shape.Idx ⟨3, ![A, B, n]⟩ → EReal) (hx : xs[k] = ⟨_, x⟩) (o : ℕ)
    (ho : (((xs.take k).map (·.1)).map fun s => if h : s.rank = 3 then s.size ((2 : Fin 3).cast h.symm) else 0).sum = o)
    (j : Fin n) (hj : o + j.val = c.val) :
    concatenate ⟨3, ![A, B, N]⟩ 2 xs h (ix3 a b c) = x (ix3 a b j) := by
  refine concatenate_apply_piece (t := ⟨3, ![A, B, N]⟩) (2 : Fin 3) xs h (ix3 a b c) k hk ⟨3, ![A, B, n]⟩ x hx rfl o ho (ix3 a b j) (fun d hd => ?_) hj
  match d with
  | ⟨0, _⟩ => rfl
  | ⟨1, _⟩ => rfl
  | ⟨2, _⟩ => exact absurd rfl hd

/-- A prompt position among all the prompts' rows. -/
def rowAt (b : Fin 4) (L : Fin 4096) : Fin 16384 := ⟨4096 * b.val + L.val, by omega⟩
/-- A sample position among all the samples' rows. -/
def rowSAt (b : Fin 128) (L : Fin 4) : Fin 512 := ⟨4 * b.val + L.val, by omega⟩

section
variable (x0 : FVec Ideal S4x4096x1024 .f32) (x1 : FVec Ideal S128x4x1024 .f32) (x2 : FVec Ideal S1024x7440 .f32) (x3 : FVec Ideal S4x3072 .f32) (x4 : FVec Ideal S1024 .f32)

theorem rowP_at (b : Fin 4) (L : Fin 4096) (l : Fin 1024) : rowP x0 (rowAt b L) l = x0 (ix3 b L l) := by
  unfold rowP
  refine congrArg₂ (fun p q => x0 (ix3 p q l)) (Fin.ext ?_) (Fin.ext ?_)
  · show (4096 * b.val + L.val) / 4096 = b.val; omega
  · show (4096 * b.val + L.val) % 4096 = L.val; omega
theorem rowS_at (b : Fin 128) (L : Fin 4) (l : Fin 1024) : rowS x1 (rowSAt b L) l = x1 (ix3 b L l) := by
  unfold rowS
  refine congrArg₂ (fun p q => x1 (ix3 p q l)) (Fin.ext ?_) (Fin.ext ?_)
  · show (4 * b.val + L.val) / 4 = b.val; omega
  · show (4 * b.val + L.val) % 4 = L.val; omega

theorem squares_x0 (b : Fin 4) (L : Fin 4096) : val_main_v1 (F := Ideal) x0 (ix2 b L) = ∑ l : Fin 1024, x0 (ix3 b L l) * x0 (ix3 b L l) := by
  rw [val_main_v1_apply]
  have h0 : val_main_cst (F := Ideal) (Shape.Idx.first h_S_) = 0 := Ideal.ofBits_zero_f32
  rw [h0, zero_add]
  refine Finset.sum_congr rfl fun l _ => ?_
  have e : idx_main_v1 (ix2 b L) l = ix3 b L l := funext fun a => match a with | ⟨0, _⟩ => rfl | ⟨1, _⟩ => rfl | ⟨2, _⟩ => rfl
  rw [e]; rfl
theorem scale_x0 (b : Fin 4) (L : Fin 4096) (k : Fin 1024) : val_main_v8 (F := Ideal) x0 (ix3 b L k)
    = Ideal.rsqrt (Ideal.div (∑ l : Fin 1024, x0 (ix3 b L l) * x0 (ix3 b L l)) (Ideal.ofBits .f32 0x44800000#32) + Ideal.ofBits .f32 0x358637BD#32) := by
  rw [val_main_v8_apply, val_main_v7_apply, val_main_v6_apply, val_main_v4_apply, val_main_v2_apply, val_main_v3_apply, val_main_v5_apply]
  have e : idx_main_v2 (idx_main_v8 (ix3 b L k)) = ix2 b L := funext fun a => match a with | ⟨0, _⟩ => rfl | ⟨1, _⟩ => rfl
  rw [e, squares_x0]; rfl
theorem weight_x0 (b : Fin 4) (L : Fin 4096) (k : Fin 1024) : val_main_v11 (F := Ideal) x4 (ix3 b L k) = x4 (ix1 k) := by
  rw [val_main_v11_apply, val_main_v10_apply]
  exact congrArg x4 (funext fun a => match a with | ⟨0, _⟩ => rfl)
theorem normed_x0 (b : Fin 4) (L : Fin 4096) (k : Fin 1024) :
    val_main_v12 (F := Ideal) x0 x4 (ix3 b L k) = normRow (fun l => x0 (ix3 b L l)) (fun l => x4 (ix1 l)) k := by
  rw [val_main_v12_apply, val_main_v9_apply, scale_x0, weight_x0]; rfl
theorem dot_x0 (b : Fin 4) (L : Fin 4096) (C : Fin 7440) : val_main_v13 (F := Ideal) x0 x2 x4 (ix3 b L C) = projP x0 x2 x4 (rowAt b L) C := by
  have er : rowP x0 (rowAt b L) = fun l => x0 (ix3 b L l) := funext fun l => rowP_at x0 b L l
  rw [val_main_v13_apply]
  unfold projP projRow
  rw [er]
  refine Finset.sum_congr rfl fun k _ => ?_
  have e1 : lidx_main_v13 (ix3 b L C) k = ix3 b L k := funext fun a => match a with | ⟨0, _⟩ => rfl | ⟨1, _⟩ => rfl | ⟨2, _⟩ => rfl
  have e2 : ridx_main_v13 (ix3 b L C) k = ix2 k C := funext fun a => match a with | ⟨0, _⟩ => rfl | ⟨1, _⟩ => rfl
  rw [e1, e2, normed_x0]

theorem squares_x1 (b : Fin 128) (L : Fin 4) : val_main_v61 (F := Ideal) x1 (ix2 b L) = ∑ l : Fin 1024, x1 (ix3 b L l) * x1 (ix3 b L l) := by
  rw [val_main_v61_apply]
  have h0 : val_main_cst_3 (F := Ideal) (Shape.Idx.first h_S_) = 0 := Ideal.ofBits_zero_f32
  rw [h0, zero_add]
  refine Finset.sum_congr rfl fun l _ => ?_
  have e : idx_main_v61 (ix2 b L) l = ix3 b L l := funext fun a => match a with | ⟨0, _⟩ => rfl | ⟨1, _⟩ => rfl | ⟨2, _⟩ => rfl
  rw [e]; rfl
theorem scale_x1 (b : Fin 128) (L : Fin 4) (k : Fin 1024) : val_main_v68 (F := Ideal) x1 (ix3 b L k)
    = Ideal.rsqrt (Ideal.div (∑ l : Fin 1024, x1 (ix3 b L l) * x1 (ix3 b L l)) (Ideal.ofBits .f32 0x44800000#32) + Ideal.ofBits .f32 0x358637BD#32) := by
  rw [val_main_v68_apply, val_main_v67_apply, val_main_v66_apply, val_main_v64_apply, val_main_v62_apply, val_main_v63_apply, val_main_v65_apply]
  have e : idx_main_v62 (idx_main_v68 (ix3 b L k)) = ix2 b L := funext fun a => match a with | ⟨0, _⟩ => rfl | ⟨1, _⟩ => rfl
  rw [e, squares_x1]; rfl
theorem weight_x1 (b : Fin 128) (L : Fin 4) (k : Fin 1024) : val_main_v71 (F := Ideal) x4 (ix3 b L k) = x4 (ix1 k) := by
  rw [val_main_v71_apply, val_main_v70_apply]
  exact congrArg x4 (funext fun a => match a with | ⟨0, _⟩ => rfl)
theorem normed_x1 (b : Fin 128) (L : Fin 4) (k : Fin 1024) :
    val_main_v72 (F := Ideal) x1 x4 (ix3 b L k) = normRow (fun l => x1 (ix3 b L l)) (fun l => x4 (ix1 l)) k := by
  rw [val_main_v72_apply, val_main_v69_apply, scale_x1, weight_x1]; rfl
theorem dot_x1 (b : Fin 128) (L : Fin 4) (C : Fin 7440) : val_main_v73 (F := Ideal) x1 x2 x4 (ix3 b L C) = projS x1 x2 x4 (rowSAt b L) C := by
  have er : rowS x1 (rowSAt b L) = fun l => x1 (ix3 b L l) := funext fun l => rowS_at x1 b L l
  rw [val_main_v73_apply]
  unfold projS projRow
  rw [er]
  refine Finset.sum_congr rfl fun k _ => ?_
  have e1 : lidx_main_v73 (ix3 b L C) k = ix3 b L k := funext fun a => match a with | ⟨0, _⟩ => rfl | ⟨1, _⟩ => rfl | ⟨2, _⟩ => rfl
  have e2 : ridx_main_v73 (ix3 b L C) k = ix2 k C := funext fun a => match a with | ⟨0, _⟩ => rfl | ⟨1, _⟩ => rfl
  rw [e1, e2, normed_x1]
theorem v14_at (b : Fin 4) (L : Fin 4096) (j : Fin 1024) (C : Fin 7440) (hC : C.val = 0 + j.val) :
    val_main_v14 (F := Ideal) x0 x2 x4 (ix3 b L j) = projP x0 x2 x4 (rowAt b L) C := by
  unfold val_main_v14
  exact (slice3 0 _ slices_S4x4096x7440_S4x4096x1024_0_0_0 b L j C hC).trans (dot_x0 x0 x2 x4 b L C)
theorem v15_at (b : Fin 4) (L : Fin 4096) (j : Fin 1024) (C : Fin 7440) (hC : C.val = 1024 + j.val) :
    val_main_v15 (F := Ideal) x0 x2 x4 (ix3 b L j) = projP x0 x2 x4 (rowAt b L) C := by
  unfold val_main_v15
  exact (slice3 1024 _ slices_S4x4096x7440_S4x4096x1024_0_0_1024 b L j C hC).trans (dot_x0 x0 x2 x4 b L C)
theorem v16_at (b : Fin 4) (L : Fin 4096) (j : Fin 1024) (C : Fin 7440) (hC : C.val = 2048 + j.val) :
    val_main_v16 (F := Ideal) x0 x2 x4 (ix3 b L j) = projP x0 x2 x4 (rowAt b L) C := by
  unfold val_main_v16
  exact (slice3 2048 _ slices_S4x4096x7440_S4x4096x1024_0_0_2048 b L j C hC).trans (dot_x0 x0 x2 x4 b L C)
theorem v17_at (b : Fin 4) (L : Fin 4096) (j : Fin 1024) (C : Fin 7440) (hC : C.val = 3072 + j.val) :
    val_main_v17 (F := Ideal) x0 x2 x4 (ix3 b L j) = projP x0 x2 x4 (rowAt b L) C := by
  unfold val_main_v17
  exact (slice3 3072 _ slices_S4x4096x7440_S4x4096x1024_0_0_3072 b L j C hC).trans (dot_x0 x0 x2 x4 b L C)
theorem v18_at (b : Fin 4) (L : Fin 4096) (j : Fin 8) (C : Fin 7440) (hC : C.val = 4096 + j.val) :
    val_main_v18 (F := Ideal) x0 x2 x4 (ix3 b L j) = projP x0 x2 x4 (rowAt b L) C := by
  unfold val_main_v18
  exact (slice3 4096 _ slices_S4x4096x7440_S4x4096x8_0_0_4096 b L j C hC).trans (dot_x0 x0 x2 x4 b L C)
theorem v19_at (b : Fin 4) (L : Fin 4096) (j : Fin 8) (C : Fin 7440) (hC : C.val = 4104 + j.val) :
    val_main_v19 (F := Ideal) x0 x2 x4 (ix3 b L j) = projP x0 x2 x4 (rowAt b L) C := by
  unfold val_main_v19
  exact (slice3 4104 _ slices_S4x4096x7440_S4x4096x8_0_0_4104 b L j C hC).trans (dot_x0 x0 x2 x4 b L C)
theorem v20_at (b : Fin 4) (L : Fin 4096) (j : Fin 1024) (C : Fin 7440) (hC : C.val = 4112 + j.val) :
    val_main_v20 (F := Ideal) x0 x2 x4 (ix3 b L j) = projP x0 x2 x4 (rowAt b L) C := by
  unfold val_main_v20
  exact (slice3 4112 _ slices_S4x4096x7440_S4x4096x1024_0_0_4112 b L j C hC).trans (dot_x0 x0 x2 x4 b L C)
theorem v21_at (b : Fin 4) (L : Fin 4096) (j : Fin 128) (C : Fin 7440) (hC : C.val = 5136 + j.val) :
    val_main_v21 (F := Ideal) x0 x2 x4 (ix3 b L j) = projP x0 x2 x4 (rowAt b L) C := by
  unfold val_main_v21
  exact (slice3 5136 _ slices_S4x4096x7440_S4x4096x128_0_0_5136 b L j C hC).trans (dot_x0 x0 x2 x4 b L C)
theorem v22_at (b : Fin 4) (L : Fin 4096) (j : Fin 128) (C : Fin 7440) (hC : C.val = 5264 + j.val) :
    val_main_v22 (F := Ideal) x0 x2 x4 (ix3 b L j) = projP x0 x2 x4 (rowAt b L) C := by
  unfold val_main_v22
  exact (slice3 5264 _ slices_S4x4096x7440_S4x4096x128_0_0_5264 b L j C hC).trans (dot_x0 x0 x2 x4 b L C)
theorem v23_at (b : Fin 4) (L : Fin 4096) (j : Fin 1024) (C : Fin 7440) (hC : C.val = 5392 + j.val) :
    val_main_v23 (F := Ideal) x0 x2 x4 (ix3 b L j) = projP x0 x2 x4 (rowAt b L) C := by
  unfold val_main_v23
  exact (slice3 5392 _ slices_S4x4096x7440_S4x4096x1024_0_0_5392 b L j C hC).trans (dot_x0 x0 x2 x4 b L C)
theorem v24_at (b : Fin 4) (L : Fin 4096) (j : Fin 1024) (C : Fin 7440) (hC : C.val = 6416 + j.val) :
    val_main_v24 (F := Ideal) x0 x2 x4 (ix3 b L j) = projP x0 x2 x4 (rowAt b L) C := by
  unfold val_main_v24
  exact (slice3 6416 _ slices_S4x4096x7440_S4x4096x1024_0_0_6416 b L j C hC).trans (dot_x0 x0 x2 x4 b L C)
theorem v74_at (b : Fin 128) (L : Fin 4) (j : Fin 1024) (C : Fin 7440) (hC : C.val = 0 + j.val) :
    val_main_v74 (F := Ideal) x1 x2 x4 (ix3 b L j) = projS x1 x2 x4 (rowSAt b L) C := by
  unfold val_main_v74
  exact (slice3 0 _ slices_S128x4x7440_S128x4x1024_0_0_0 b L j C hC).trans (dot_x1 x1 x2 x4 b L C)
theorem v75_at (b : Fin 128) (L : Fin 4) (j : Fin 1024) (C : Fin 7440) (hC : C.val = 1024 + j.val) :
    val_main_v75 (F := Ideal) x1 x2 x4 (ix3 b L j) = projS x1 x2 x4 (rowSAt b L) C := by
  unfold val_main_v75
  exact (slice3 1024 _ slices_S128x4x7440_S128x4x1024_0_0_1024 b L j C hC).trans (dot_x1 x1 x2 x4 b L C)
theorem v76_at (b : Fin 128) (L : Fin 4) (j : Fin 1024) (C : Fin 7440) (hC : C.val = 2048 + j.val) :
    val_main_v76 (F := Ideal) x1 x2 x4 (ix3 b L j) = projS x1 x2 x4 (rowSAt b L) C := by
  unfold val_main_v76
  exact (slice3 2048 _ slices_S128x4x7440_S128x4x1024_0_0_2048 b L j C hC).trans (dot_x1 x1 x2 x4 b L C)
theorem v77_at (b : Fin 128) (L : Fin 4) (j : Fin 1024) (C : Fin 7440) (hC : C.val = 3072 + j.val) :
    val_main_v77 (F := Ideal) x1 x2 x4 (ix3 b L j) = projS x1 x2 x4 (rowSAt b L) C := by
  unfold val_main_v77
  exact (slice3 3072 _ slices_S128x4x7440_S128x4x1024_0_0_3072 b L j C hC).trans (dot_x1 x1 x2 x4 b L C)
theorem v78_at (b : Fin 128) (L : Fin 4) (j : Fin 8) (C : Fin 7440) (hC : C.val = 4096 + j.val) :
    val_main_v78 (F := Ideal) x1 x2 x4 (ix3 b L j) = projS x1 x2 x4 (rowSAt b L) C := by
  unfold val_main_v78
  exact (slice3 4096 _ slices_S128x4x7440_S128x4x8_0_0_4096 b L j C hC).trans (dot_x1 x1 x2 x4 b L C)
theorem v79_at (b : Fin 128) (L : Fin 4) (j : Fin 8) (C : Fin 7440) (hC : C.val = 4104 + j.val) :
    val_main_v79 (F := Ideal) x1 x2 x4 (ix3 b L j) = projS x1 x2 x4 (rowSAt b L) C := by
  unfold val_main_v79
  exact (slice3 4104 _ slices_S128x4x7440_S128x4x8_0_0_4104 b L j C hC).trans (dot_x1 x1 x2 x4 b L C)
theorem v80_at (b : Fin 128) (L : Fin 4) (j : Fin 1024) (C : Fin 7440) (hC : C.val = 4112 + j.val) :
    val_main_v80 (F := Ideal) x1 x2 x4 (ix3 b L j) = projS x1 x2 x4 (rowSAt b L) C := by
  unfold val_main_v80
  exact (slice3 4112 _ slices_S128x4x7440_S128x4x1024_0_0_4112 b L j C hC).trans (dot_x1 x1 x2 x4 b L C)
theorem v81_at (b : Fin 128) (L : Fin 4) (j : Fin 128) (C : Fin 7440) (hC : C.val = 5136 + j.val) :
    val_main_v81 (F := Ideal) x1 x2 x4 (ix3 b L j) = projS x1 x2 x4 (rowSAt b L) C := by
  unfold val_main_v81
  exact (slice3 5136 _ slices_S128x4x7440_S128x4x128_0_0_5136 b L j C hC).trans (dot_x1 x1 x2 x4 b L C)
theorem v82_at (b : Fin 128) (L : Fin 4) (j : Fin 128) (C : Fin 7440) (hC : C.val = 5264 + j.val) :
    val_main_v82 (F := Ideal) x1 x2 x4 (ix3 b L j) = projS x1 x2 x4 (rowSAt b L) C := by
  unfold val_main_v82
  exact (slice3 5264 _ slices_S128x4x7440_S128x4x128_0_0_5264 b L j C hC).trans (dot_x1 x1 x2 x4 b L C)
theorem v83_at (b : Fin 128) (L : Fin 4) (j : Fin 1024) (C : Fin 7440) (hC : C.val = 5392 + j.val) :
    val_main_v83 (F := Ideal) x1 x2 x4 (ix3 b L j) = projS x1 x2 x4 (rowSAt b L) C := by
  unfold val_main_v83
  exact (slice3 5392 _ slices_S128x4x7440_S128x4x1024_0_0_5392 b L j C hC).trans (dot_x1 x1 x2 x4 b L C)
theorem v84_at (b : Fin 128) (L : Fin 4) (j : Fin 1024) (C : Fin 7440) (hC : C.val = 6416 + j.val) :
    val_main_v84 (F := Ideal) x1 x2 x4 (ix3 b L j) = projS x1 x2 x4 (rowSAt b L) C := by
  unfold val_main_v84
  exact (slice3 6416 _ slices_S128x4x7440_S128x4x1024_0_0_6416 b L j C hC).trans (dot_x1 x1 x2 x4 b L C)

/-- The pieces of one row. -/
def pieces25 : List ((s : Shape) × (s.Idx → EReal)) :=
  [⟨S4x4096x1024, val_main_v14 (F := Ideal) x0 x2 x4⟩, ⟨S4x4096x1024, val_main_v15 (F := Ideal) x0 x2 x4⟩, ⟨S4x4096x1024, val_main_v16 (F := Ideal) x0 x2 x4⟩]
theorem pieces25_ok : Shape.Concatenates ((pieces25 x0 x2 x4).map (·.1)) S4x4096x3072 2 := concatenates_S4x4096x1024_S4x4096x1024_S4x4096x1024_S4x4096x3072_d2
theorem v25_eq : val_main_v25 (F := Ideal) x0 x2 x4 = concatenate S4x4096x3072 2 (pieces25 x0 x2 x4) (pieces25_ok x0 x2 x4) := rfl
theorem v25_at (b : Fin 4) (L : Fin 4096) (c : Fin 3072) :
    val_main_v25 (F := Ideal) x0 x2 x4 (ix3 b L c) = projP x0 x2 x4 (rowAt b L) ⟨c.val, by omega⟩ := by
  rw [v25_eq]
  by_cases h0 : c.val < 1024
  · have hlo : 0 ≤ c.val := by omega
    refine (piece3 (A := 4) (B := 4096) (N := 3072) (n := 1024) (pieces25 x0 x2 x4) (pieces25_ok x0 x2 x4) b L c 0 (show 0 < 3 by omega) _ rfl 0 rfl (⟨c.val - 0, by omega⟩ : Fin 1024) (show 0 + (c.val - 0) = c.val by omega)).trans ?_
    exact v14_at x0 x2 x4 b L _ _ (show c.val = 0 + (c.val - 0) by omega)
  by_cases h1 : c.val < 2048
  · have hlo : 1024 ≤ c.val := by omega
    refine (piece3 (A := 4) (B := 4096) (N := 3072) (n := 1024) (pieces25 x0 x2 x4) (pieces25_ok x0 x2 x4) b L c 1 (show 1 < 3 by omega) _ rfl 1024 rfl (⟨c.val - 1024, by omega⟩ : Fin 1024) (show 1024 + (c.val - 1024) = c.val by omega)).trans ?_
    exact v15_at x0 x2 x4 b L _ _ (show c.val = 1024 + (c.val - 1024) by omega)
  · have hlo : 2048 ≤ c.val := by omega
    refine (piece3 (A := 4) (B := 4096) (N := 3072) (n := 1024) (pieces25 x0 x2 x4) (pieces25_ok x0 x2 x4) b L c 2 (show 2 < 3 by omega) _ rfl 2048 rfl (⟨c.val - 2048, by omega⟩ : Fin 1024) (show 2048 + (c.val - 2048) = c.val by omega)).trans ?_
    exact v16_at x0 x2 x4 b L _ _ (show c.val = 2048 + (c.val - 2048) by omega)

/-- The pieces of one row. -/
def pieces58 : List ((s : Shape) × (s.Idx → EReal)) :=
  [⟨S4x4096x8, val_main_v18 (F := Ideal) x0 x2 x4⟩, ⟨S4x4096x8, val_main_v19 (F := Ideal) x0 x2 x4⟩]
theorem pieces58_ok : Shape.Concatenates ((pieces58 x0 x2 x4).map (·.1)) S4x4096x16 2 := concatenates_S4x4096x8_S4x4096x8_S4x4096x16_d2
theorem v58_eq : val_main_v58 (F := Ideal) x0 x2 x4 = concatenate S4x4096x16 2 (pieces58 x0 x2 x4) (pieces58_ok x0 x2 x4) := rfl
theorem v58_at (b : Fin 4) (L : Fin 4096) (c : Fin 16) :
    val_main_v58 (F := Ideal) x0 x2 x4 (ix3 b L c) = projP x0 x2 x4 (rowAt b L) ⟨4096 + c.val, by omega⟩ := by
  rw [v58_eq]
  by_cases h0 : c.val < 8
  · have hlo : 0 ≤ c.val := by omega
    refine (piece3 (A := 4) (B := 4096) (N := 16) (n := 8) (pieces58 x0 x2 x4) (pieces58_ok x0 x2 x4) b L c 0 (show 0 < 2 by omega) _ rfl 0 rfl (⟨c.val - 0, by omega⟩ : Fin 8) (show 0 + (c.val - 0) = c.val by omega)).trans ?_
    exact v18_at x0 x2 x4 b L _ _ (show 4096 + c.val = 4096 + (c.val - 0) by omega)
  · have hlo : 8 ≤ c.val := by omega
    refine (piece3 (A := 4) (B := 4096) (N := 16) (n := 8) (pieces58 x0 x2 x4) (pieces58_ok x0 x2 x4) b L c 1 (show 1 < 2 by omega) _ rfl 8 rfl (⟨c.val - 8, by omega⟩ : Fin 8) (show 8 + (c.val - 8) = c.val by omega)).trans ?_
    exact v19_at x0 x2 x4 b L _ _ (show 4096 + c.val = 4104 + (c.val - 8) by omega)

/-- The pieces of one row. -/
def pieces87 : List ((s : Shape) × (s.Idx → EReal)) :=
  [⟨S128x4x8, val_main_v78 (F := Ideal) x1 x2 x4⟩, ⟨S128x4x8, val_main_v79 (F := Ideal) x1 x2 x4⟩]
theorem pieces87_ok : Shape.Concatenates ((pieces87 x1 x2 x4).map (·.1)) S128x4x16 2 := concatenates_S128x4x8_S128x4x8_S128x4x16_d2
theorem v87_eq : val_main_v87 (F := Ideal) x1 x2 x4 = concatenate S128x4x16 2 (pieces87 x1 x2 x4) (pieces87_ok x1 x2 x4) := rfl
theorem v87_at (b : Fin 128) (L : Fin 4) (c : Fin 16) :
    val_main_v87 (F := Ideal) x1 x2 x4 (ix3 b L c) = projS x1 x2 x4 (rowSAt b L) ⟨4096 + c.val, by omega⟩ := by
  rw [v87_eq]
  by_cases h0 : c.val < 8
  · have hlo : 0 ≤ c.val := by omega
    refine (piece3 (A := 128) (B := 4) (N := 16) (n := 8) (pieces87 x1 x2 x4) (pieces87_ok x1 x2 x4) b L c 0 (show 0 < 2 by omega) _ rfl 0 rfl (⟨c.val - 0, by omega⟩ : Fin 8) (show 0 + (c.val - 0) = c.val by omega)).trans ?_
    exact v78_at x1 x2 x4 b L _ _ (show 4096 + c.val = 4096 + (c.val - 0) by omega)
  · have hlo : 8 ≤ c.val := by omega
    refine (piece3 (A := 128) (B := 4) (N := 16) (n := 8) (pieces87 x1 x2 x4) (pieces87_ok x1 x2 x4) b L c 1 (show 1 < 2 by omega) _ rfl 8 rfl (⟨c.val - 8, by omega⟩ : Fin 8) (show 8 + (c.val - 8) = c.val by omega)).trans ?_
    exact v79_at x1 x2 x4 b L _ _ (show 4096 + c.val = 4104 + (c.val - 8) by omega)

/-- The padded history: three zero rows and the sequence. -/
theorem v27_at (b : Fin 4) (M : Fin 4099) (c : Fin 3072) :
    val_main_v27 (F := Ideal) x0 x2 x4 (ix3 b M c)
      = if h : M.val < 3 then 0 else projP x0 x2 x4 (rowAt b ⟨M.val - 3, by omega⟩) ⟨c.val, by omega⟩ := by
  unfold val_main_v27
  by_cases h : M.val < 3
  · rw [dif_pos h]
    refine (concatenate_pair_apply_left (t := S4x4099x3072) (s₁ := S4x3x3072) (1 : Fin 3) _ _ _ (ix3 b M c) rfl (ix3 b (⟨M.val, h⟩ : Fin 3) c) fun d => ?_).trans ?_
    · match d with
      | ⟨0, _⟩ => rfl
      | ⟨1, _⟩ => rfl
      | ⟨2, _⟩ => rfl
    · rw [val_main_v26_apply]
      exact Ideal.ofBits_zero_f32
  · rw [dif_neg h]
    refine (concatenate_pair_apply_right (t := S4x4099x3072) (s₁ := S4x3x3072) (s₂ := S4x4096x3072) (1 : Fin 3) _ _ _ (ix3 b M c) rfl rfl (ix3 b (⟨M.val - 3, by omega⟩ : Fin 4096) c) (fun d hd => ?_) ?_).trans ?_
    · match d with
      | ⟨0, _⟩ => rfl
      | ⟨1, _⟩ => exact absurd rfl hd
      | ⟨2, _⟩ => rfl
    · show M.val - 3 + 3 = M.val; omega
    · exact v25_at x0 x2 x4 b _ c

theorem past_at (n k : ℕ) (hk : n + k = 3) (b : Fin 4) (L : Fin 4096) (c : Fin 3072) :
    val_main_v27 (F := Ideal) x0 x2 x4 (ix3 b (⟨k + L.val, by omega⟩ : Fin 4099) c) = back x0 x2 x4 n (rowAt b L) ⟨c.val, by omega⟩ := by
  rw [v27_at]
  unfold back
  have e : (rowAt b L).val = 4096 * b.val + L.val := rfl
  by_cases h : k + L.val < 3
  · rw [dif_pos h]
    exact (if_pos (by omega)).symm
  · rw [dif_neg h]
    refine Eq.trans ?_ (if_neg (by omega)).symm
    refine congrArg (fun R => projP x0 x2 x4 R _) (Fin.ext ?_)
    show 4096 * b.val + (k + L.val - 3) = (rowAt b L).val - n
    omega
theorem back_zero (R : Fin 16384) (C : Fin 7440) : back x0 x2 x4 0 R C = projP x0 x2 x4 R C := by
  unfold back
  exact if_neg (by omega)

theorem tap0_at (b : Fin 4) (L : Fin 4096) (c : Fin 3072) :
    val_main_v33 (F := Ideal) x0 x2 x3 x4 (ix3 b L c) = back x0 x2 x4 3 (rowAt b L) ⟨c.val, by omega⟩ * x3 (ix2 (0 : Fin 4) c) := by
  have ew : val_main_v32 (F := Ideal) x3 (ix3 b L c) = x3 (ix2 (0 : Fin 4) c) := by
    rw [val_main_v32_apply, val_main_v31_apply, val_main_v30_apply, val_main_v29_apply]
    refine congrArg x3 (funext fun a => Fin.ext ?_)
    match a with
    | ⟨0, _⟩ => rfl
    | ⟨1, _⟩ => show c.val % 3072 = c.val; omega
  have es : val_main_v28 (F := Ideal) x0 x2 x4 (ix3 b L c) = back x0 x2 x4 3 (rowAt b L) ⟨c.val, by omega⟩ := by
    rw [val_main_v28_apply]
    refine Eq.trans (congrArg (val_main_v27 (F := Ideal) x0 x2 x4) (funext fun a => Fin.ext ?_)) (past_at x0 x2 x4 3 0 rfl b L c)
    match a with
    | ⟨0, _⟩ => rfl
    | ⟨1, _⟩ => show L.val = 0 + L.val; omega
    | ⟨2, _⟩ => rfl
  rw [val_main_v33_apply, ew, es]; rfl

theorem tap1_at (b : Fin 4) (L : Fin 4096) (c : Fin 3072) :
    val_main_v39 (F := Ideal) x0 x2 x3 x4 (ix3 b L c) = back x0 x2 x4 2 (rowAt b L) ⟨c.val, by omega⟩ * x3 (ix2 (1 : Fin 4) c) := by
  have ew : val_main_v38 (F := Ideal) x3 (ix3 b L c) = x3 (ix2 (1 : Fin 4) c) := by
    rw [val_main_v38_apply, val_main_v37_apply, val_main_v36_apply, val_main_v35_apply]
    refine congrArg x3 (funext fun a => Fin.ext ?_)
    match a with
    | ⟨0, _⟩ => rfl
    | ⟨1, _⟩ => show c.val % 3072 = c.val; omega
  have es : val_main_v34 (F := Ideal) x0 x2 x4 (ix3 b L c) = back x0 x2 x4 2 (rowAt b L) ⟨c.val, by omega⟩ := by
    rw [val_main_v34_apply]
    refine Eq.trans (congrArg (val_main_v27 (F := Ideal) x0 x2 x4) (funext fun a => Fin.ext ?_)) (past_at x0 x2 x4 2 1 rfl b L c)
    match a with
    | ⟨0, _⟩ => rfl
    | ⟨1, _⟩ => rfl
    | ⟨2, _⟩ => rfl
  rw [val_main_v39_apply, ew, es]; rfl

theorem tap2_at (b : Fin 4) (L : Fin 4096) (c : Fin 3072) :
    val_main_v46 (F := Ideal) x0 x2 x3 x4 (ix3 b L c) = back x0 x2 x4 1 (rowAt b L) ⟨c.val, by omega⟩ * x3 (ix2 (2 : Fin 4) c) := by
  have ew : val_main_v45 (F := Ideal) x3 (ix3 b L c) = x3 (ix2 (2 : Fin 4) c) := by
    rw [val_main_v45_apply, val_main_v44_apply, val_main_v43_apply, val_main_v42_apply]
    refine congrArg x3 (funext fun a => Fin.ext ?_)
    match a with
    | ⟨0, _⟩ => rfl
    | ⟨1, _⟩ => show c.val % 3072 = c.val; omega
  have es : val_main_v41 (F := Ideal) x0 x2 x4 (ix3 b L c) = back x0 x2 x4 1 (rowAt b L) ⟨c.val, by omega⟩ := by
    rw [val_main_v41_apply]
    refine Eq.trans (congrArg (val_main_v27 (F := Ideal) x0 x2 x4) (funext fun a => Fin.ext ?_)) (past_at x0 x2 x4 1 2 rfl b L c)
    match a with
    | ⟨0, _⟩ => rfl
    | ⟨1, _⟩ => rfl
    | ⟨2, _⟩ => rfl
  rw [val_main_v46_apply, ew, es]; rfl

theorem tap3_at (b : Fin 4) (L : Fin 4096) (c : Fin 3072) :
    val_main_v53 (F := Ideal) x0 x2 x3 x4 (ix3 b L c) = back x0 x2 x4 0 (rowAt b L) ⟨c.val, by omega⟩ * x3 (ix2 (3 : Fin 4) c) := by
  have ew : val_main_v52 (F := Ideal) x3 (ix3 b L c) = x3 (ix2 (3 : Fin 4) c) := by
    rw [val_main_v52_apply, val_main_v51_apply, val_main_v50_apply, val_main_v49_apply]
    refine congrArg x3 (funext fun a => Fin.ext ?_)
    match a with
    | ⟨0, _⟩ => rfl
    | ⟨1, _⟩ => show c.val % 3072 = c.val; omega
  have es : val_main_v48 (F := Ideal) x0 x2 x4 (ix3 b L c) = back x0 x2 x4 0 (rowAt b L) ⟨c.val, by omega⟩ := by
    rw [val_main_v48_apply]
    refine Eq.trans (congrArg (val_main_v27 (F := Ideal) x0 x2 x4) (funext fun a => Fin.ext ?_)) (past_at x0 x2 x4 0 3 rfl b L c)
    match a with
    | ⟨0, _⟩ => rfl
    | ⟨1, _⟩ => rfl
    | ⟨2, _⟩ => rfl
  rw [val_main_v53_apply, ew, es]; rfl

/-- The convolution: the four products in the other order. -/
theorem v54_at (b : Fin 4) (L : Fin 4096) (c : Fin 3072) :
    val_main_v54 (F := Ideal) x0 x2 x3 x4 (ix3 b L c) = convP x0 x2 x3 x4 (rowAt b L) c := by
  rw [val_main_v54_apply, val_main_v47_apply, val_main_v40_apply, tap0_at, tap1_at, tap2_at, tap3_at]
  unfold convP
  rw [back_zero]
  generalize back x0 x2 x4 1 (rowAt b L) ⟨c.val, by omega⟩ * x3 (ix2 (2 : Fin 4) c) = p1
  generalize back x0 x2 x4 2 (rowAt b L) ⟨c.val, by omega⟩ * x3 (ix2 (1 : Fin 4) c) = p2
  generalize back x0 x2 x4 3 (rowAt b L) ⟨c.val, by omega⟩ * x3 (ix2 (0 : Fin 4) c) = p3
  generalize projP x0 x2 x4 (rowAt b L) ⟨c.val, by omega⟩ * x3 (ix2 (3 : Fin 4) c) = p0
  show p3 + p2 + p1 + p0 = p0 + p1 + p2 + p3
  rw [add_comm (p3 + p2 + p1) p0, add_comm (p3 + p2) p1, add_comm p3 p2, ← add_assoc, ← add_assoc]

theorem v55_at (b : Fin 4) (L : Fin 4096) (c : Fin 3072) :
    val_main_v55 (F := Ideal) x0 x2 x3 x4 (ix3 b L c) = silu (convP x0 x2 x3 x4 (rowAt b L) c) := by
  rw [val_main_v55_apply, val_main_call0_v5_apply, val_main_call0_v3_apply, val_main_call0_v1_apply, val_main_call0_v0_apply,
    val_main_call0_v4_apply, val_main_call0_v2_apply, v54_at]
  generalize convP x0 x2 x3 x4 (rowAt b L) c = a
  have h1 : ∀ i, val_main_call0_cst (F := Ideal) i = (1 : EReal) := fun _ => Cert.ReferenceIdeal.Attn.one_bits
  have h2 : ∀ i, val_main_call0_cst_0 (F := Ideal) i = (1 : EReal) := fun _ => Cert.ReferenceIdeal.Attn.one_bits
  rw [h1, h2]
  rfl

/-- The pieces of one row. -/
def pieces56 : List ((s : Shape) × (s.Idx → EReal)) :=
  [⟨S4x4096x3072, val_main_v55 (F := Ideal) x0 x2 x3 x4⟩, ⟨S4x4096x1024, val_main_v17 (F := Ideal) x0 x2 x4⟩, ⟨S4x4096x1024, val_main_v20 (F := Ideal) x0 x2 x4⟩, ⟨S4x4096x1024, val_main_v23 (F := Ideal) x0 x2 x4⟩, ⟨S4x4096x1024, val_main_v24 (F := Ideal) x0 x2 x4⟩, ⟨S4x4096x128, val_main_v21 (F := Ideal) x0 x2 x4⟩, ⟨S4x4096x128, val_main_v22 (F := Ideal) x0 x2 x4⟩]
theorem pieces56_ok : Shape.Concatenates ((pieces56 x0 x2 x3 x4).map (·.1)) S4x4096x7424 2 := concatenates_S4x4096x3072_S4x4096x1024_S4x4096x1024_S4x4096x1024_S4x4096x1024_S4x4096x128_S4x4096x128_S4x4096x7424_d2
theorem v56_eq : val_main_v56 (F := Ideal) x0 x2 x3 x4 = concatenate S4x4096x7424 2 (pieces56 x0 x2 x3 x4) (pieces56_ok x0 x2 x3 x4) := rfl
set_option maxHeartbeats 8000000 in
theorem v56_at (b : Fin 4) (L : Fin 4096) (c : Fin 7424) :
    val_main_v56 (F := Ideal) x0 x2 x3 x4 (ix3 b L c) = packP x0 x2 x3 x4 (rowAt b L) c := by
  rw [v56_eq]
  unfold packP
  have hc : (colOf c).val = if c.val < 4096 then c.val else if c.val < 5120 then c.val + 16 else if c.val < 7168 then c.val + 272 else c.val - 2032 := rfl
  by_cases h0 : c.val < 3072
  · have hlo : 0 ≤ c.val := by omega
    refine (piece3 (A := 4) (B := 4096) (N := 7424) (n := 3072) (pieces56 x0 x2 x3 x4) (pieces56_ok x0 x2 x3 x4) b L c 0 (show 0 < 7 by omega) _ rfl 0 rfl (⟨c.val - 0, by omega⟩ : Fin 3072) (show 0 + (c.val - 0) = c.val by omega)).trans ?_
    refine Eq.trans ?_ (dif_pos h0).symm
    exact v55_at x0 x2 x3 x4 b L _
  by_cases h1 : c.val < 4096
  · have hlo : 3072 ≤ c.val := by omega
    refine (piece3 (A := 4) (B := 4096) (N := 7424) (n := 1024) (pieces56 x0 x2 x3 x4) (pieces56_ok x0 x2 x3 x4) b L c 1 (show 1 < 7 by omega) _ rfl 3072 rfl (⟨c.val - 3072, by omega⟩ : Fin 1024) (show 3072 + (c.val - 3072) = c.val by omega)).trans ?_
    refine Eq.trans ?_ (dif_neg h0).symm
    exact v17_at x0 x2 x4 b L _ _ (show (colOf c).val = 3072 + (c.val - 3072) by rw [hc]; split_ifs <;> omega)
  by_cases h2 : c.val < 5120
  · have hlo : 4096 ≤ c.val := by omega
    refine (piece3 (A := 4) (B := 4096) (N := 7424) (n := 1024) (pieces56 x0 x2 x3 x4) (pieces56_ok x0 x2 x3 x4) b L c 2 (show 2 < 7 by omega) _ rfl 4096 rfl (⟨c.val - 4096, by omega⟩ : Fin 1024) (show 4096 + (c.val - 4096) = c.val by omega)).trans ?_
    refine Eq.trans ?_ (dif_neg h0).symm
    exact v20_at x0 x2 x4 b L _ _ (show (colOf c).val = 4112 + (c.val - 4096) by rw [hc]; split_ifs <;> omega)
  by_cases h3 : c.val < 6144
  · have hlo : 5120 ≤ c.val := by omega
    refine (piece3 (A := 4) (B := 4096) (N := 7424) (n := 1024) (pieces56 x0 x2 x3 x4) (pieces56_ok x0 x2 x3 x4) b L c 3 (show 3 < 7 by omega) _ rfl 5120 rfl (⟨c.val - 5120, by omega⟩ : Fin 1024) (show 5120 + (c.val - 5120) = c.val by omega)).trans ?_
    refine Eq.trans ?_ (dif_neg h0).symm
    exact v23_at x0 x2 x4 b L _ _ (show (colOf c).val = 5392 + (c.val - 5120) by rw [hc]; split_ifs <;> omega)
  by_cases h4 : c.val < 7168
  · have hlo : 6144 ≤ c.val := by omega
    refine (piece3 (A := 4) (B := 4096) (N := 7424) (n := 1024) (pieces56 x0 x2 x3 x4) (pieces56_ok x0 x2 x3 x4) b L c 4 (show 4 < 7 by omega) _ rfl 6144 rfl (⟨c.val - 6144, by omega⟩ : Fin 1024) (show 6144 + (c.val - 6144) = c.val by omega)).trans ?_
    refine Eq.trans ?_ (dif_neg h0).symm
    exact v24_at x0 x2 x4 b L _ _ (show (colOf c).val = 6416 + (c.val - 6144) by rw [hc]; split_ifs <;> omega)
  by_cases h5 : c.val < 7296
  · have hlo : 7168 ≤ c.val := by omega
    refine (piece3 (A := 4) (B := 4096) (N := 7424) (n := 128) (pieces56 x0 x2 x3 x4) (pieces56_ok x0 x2 x3 x4) b L c 5 (show 5 < 7 by omega) _ rfl 7168 rfl (⟨c.val - 7168, by omega⟩ : Fin 128) (show 7168 + (c.val - 7168) = c.val by omega)).trans ?_
    refine Eq.trans ?_ (dif_neg h0).symm
    exact v21_at x0 x2 x4 b L _ _ (show (colOf c).val = 5136 + (c.val - 7168) by rw [hc]; split_ifs <;> omega)
  · have hlo : 7296 ≤ c.val := by omega
    refine (piece3 (A := 4) (B := 4096) (N := 7424) (n := 128) (pieces56 x0 x2 x3 x4) (pieces56_ok x0 x2 x3 x4) b L c 6 (show 6 < 7 by omega) _ rfl 7296 rfl (⟨c.val - 7296, by omega⟩ : Fin 128) (show 7296 + (c.val - 7296) = c.val by omega)).trans ?_
    refine Eq.trans ?_ (dif_neg h0).symm
    exact v22_at x0 x2 x4 b L _ _ (show (colOf c).val = 5264 + (c.val - 7296) by rw [hc]; split_ifs <;> omega)

/-- The pieces of one row. -/
def pieces85 : List ((s : Shape) × (s.Idx → EReal)) :=
  [⟨S128x4x1024, val_main_v74 (F := Ideal) x1 x2 x4⟩, ⟨S128x4x1024, val_main_v75 (F := Ideal) x1 x2 x4⟩, ⟨S128x4x1024, val_main_v76 (F := Ideal) x1 x2 x4⟩, ⟨S128x4x1024, val_main_v77 (F := Ideal) x1 x2 x4⟩, ⟨S128x4x1024, val_main_v80 (F := Ideal) x1 x2 x4⟩, ⟨S128x4x1024, val_main_v83 (F := Ideal) x1 x2 x4⟩, ⟨S128x4x1024, val_main_v84 (F := Ideal) x1 x2 x4⟩, ⟨S128x4x128, val_main_v81 (F := Ideal) x1 x2 x4⟩, ⟨S128x4x128, val_main_v82 (F := Ideal) x1 x2 x4⟩]
theorem pieces85_ok : Shape.Concatenates ((pieces85 x1 x2 x4).map (·.1)) S128x4x7424 2 := concatenates_S128x4x1024_S128x4x1024_S128x4x1024_S128x4x1024_S128x4x1024_S128x4x1024_S128x4x1024_S128x4x128_S128x4x128_S128x4x7424_d2
theorem v85_eq : val_main_v85 (F := Ideal) x1 x2 x4 = concatenate S128x4x7424 2 (pieces85 x1 x2 x4) (pieces85_ok x1 x2 x4) := rfl
set_option maxHeartbeats 8000000 in
theorem v85_at (b : Fin 128) (L : Fin 4) (c : Fin 7424) :
    val_main_v85 (F := Ideal) x1 x2 x4 (ix3 b L c) = projS x1 x2 x4 (rowSAt b L) (colOf c) := by
  rw [v85_eq]
  have hc : (colOf c).val = if c.val < 4096 then c.val else if c.val < 5120 then c.val + 16 else if c.val < 7168 then c.val + 272 else c.val - 2032 := rfl
  by_cases h0 : c.val < 1024
  · have hlo : 0 ≤ c.val := by omega
    refine (piece3 (A := 128) (B := 4) (N := 7424) (n := 1024) (pieces85 x1 x2 x4) (pieces85_ok x1 x2 x4) b L c 0 (show 0 < 9 by omega) _ rfl 0 rfl (⟨c.val - 0, by omega⟩ : Fin 1024) (show 0 + (c.val - 0) = c.val by omega)).trans ?_
    exact v74_at x1 x2 x4 b L _ _ (show (colOf c).val = 0 + (c.val - 0) by rw [hc]; split_ifs <;> omega)
  by_cases h1 : c.val < 2048
  · have hlo : 1024 ≤ c.val := by omega
    refine (piece3 (A := 128) (B := 4) (N := 7424) (n := 1024) (pieces85 x1 x2 x4) (pieces85_ok x1 x2 x4) b L c 1 (show 1 < 9 by omega) _ rfl 1024 rfl (⟨c.val - 1024, by omega⟩ : Fin 1024) (show 1024 + (c.val - 1024) = c.val by omega)).trans ?_
    exact v75_at x1 x2 x4 b L _ _ (show (colOf c).val = 1024 + (c.val - 1024) by rw [hc]; split_ifs <;> omega)
  by_cases h2 : c.val < 3072
  · have hlo : 2048 ≤ c.val := by omega
    refine (piece3 (A := 128) (B := 4) (N := 7424) (n := 1024) (pieces85 x1 x2 x4) (pieces85_ok x1 x2 x4) b L c 2 (show 2 < 9 by omega) _ rfl 2048 rfl (⟨c.val - 2048, by omega⟩ : Fin 1024) (show 2048 + (c.val - 2048) = c.val by omega)).trans ?_
    exact v76_at x1 x2 x4 b L _ _ (show (colOf c).val = 2048 + (c.val - 2048) by rw [hc]; split_ifs <;> omega)
  by_cases h3 : c.val < 4096
  · have hlo : 3072 ≤ c.val := by omega
    refine (piece3 (A := 128) (B := 4) (N := 7424) (n := 1024) (pieces85 x1 x2 x4) (pieces85_ok x1 x2 x4) b L c 3 (show 3 < 9 by omega) _ rfl 3072 rfl (⟨c.val - 3072, by omega⟩ : Fin 1024) (show 3072 + (c.val - 3072) = c.val by omega)).trans ?_
    exact v77_at x1 x2 x4 b L _ _ (show (colOf c).val = 3072 + (c.val - 3072) by rw [hc]; split_ifs <;> omega)
  by_cases h4 : c.val < 5120
  · have hlo : 4096 ≤ c.val := by omega
    refine (piece3 (A := 128) (B := 4) (N := 7424) (n := 1024) (pieces85 x1 x2 x4) (pieces85_ok x1 x2 x4) b L c 4 (show 4 < 9 by omega) _ rfl 4096 rfl (⟨c.val - 4096, by omega⟩ : Fin 1024) (show 4096 + (c.val - 4096) = c.val by omega)).trans ?_
    exact v80_at x1 x2 x4 b L _ _ (show (colOf c).val = 4112 + (c.val - 4096) by rw [hc]; split_ifs <;> omega)
  by_cases h5 : c.val < 6144
  · have hlo : 5120 ≤ c.val := by omega
    refine (piece3 (A := 128) (B := 4) (N := 7424) (n := 1024) (pieces85 x1 x2 x4) (pieces85_ok x1 x2 x4) b L c 5 (show 5 < 9 by omega) _ rfl 5120 rfl (⟨c.val - 5120, by omega⟩ : Fin 1024) (show 5120 + (c.val - 5120) = c.val by omega)).trans ?_
    exact v83_at x1 x2 x4 b L _ _ (show (colOf c).val = 5392 + (c.val - 5120) by rw [hc]; split_ifs <;> omega)
  by_cases h6 : c.val < 7168
  · have hlo : 6144 ≤ c.val := by omega
    refine (piece3 (A := 128) (B := 4) (N := 7424) (n := 1024) (pieces85 x1 x2 x4) (pieces85_ok x1 x2 x4) b L c 6 (show 6 < 9 by omega) _ rfl 6144 rfl (⟨c.val - 6144, by omega⟩ : Fin 1024) (show 6144 + (c.val - 6144) = c.val by omega)).trans ?_
    exact v84_at x1 x2 x4 b L _ _ (show (colOf c).val = 6416 + (c.val - 6144) by rw [hc]; split_ifs <;> omega)
  by_cases h7 : c.val < 7296
  · have hlo : 7168 ≤ c.val := by omega
    refine (piece3 (A := 128) (B := 4) (N := 7424) (n := 128) (pieces85 x1 x2 x4) (pieces85_ok x1 x2 x4) b L c 7 (show 7 < 9 by omega) _ rfl 7168 rfl (⟨c.val - 7168, by omega⟩ : Fin 128) (show 7168 + (c.val - 7168) = c.val by omega)).trans ?_
    exact v81_at x1 x2 x4 b L _ _ (show (colOf c).val = 5136 + (c.val - 7168) by rw [hc]; split_ifs <;> omega)
  · have hlo : 7296 ≤ c.val := by omega
    refine (piece3 (A := 128) (B := 4) (N := 7424) (n := 128) (pieces85 x1 x2 x4) (pieces85_ok x1 x2 x4) b L c 8 (show 8 < 9 by omega) _ rfl 7296 rfl (⟨c.val - 7296, by omega⟩ : Fin 128) (show 7296 + (c.val - 7296) = c.val by omega)).trans ?_
    exact v82_at x1 x2 x4 b L _ _ (show (colOf c).val = 5264 + (c.val - 7296) by rw [hc]; split_ifs <;> omega)

theorem v57_at (R : Fin 16384) (c : Fin 7424) : val_main_v57 (F := Ideal) x0 x2 x3 x4 (ix2 R c) = packP x0 x2 x3 x4 R c := by
  have e : idx_main_v57 (ix2 R c) = ix3 (⟨R.val / 4096, by omega⟩ : Fin 4) (⟨R.val % 4096, by omega⟩ : Fin 4096) c := by
    funext a; apply Fin.ext
    match a with
    | ⟨0, _⟩ => show (R.val * 7424 + c.val) / 30408704 = R.val / 4096; omega
    | ⟨1, _⟩ => show (R.val * 7424 + c.val) / 7424 % 4096 = R.val % 4096; omega
    | ⟨2, _⟩ => show (R.val * 7424 + c.val) % 7424 = c.val; omega
  have er : rowAt (⟨R.val / 4096, by omega⟩ : Fin 4) (⟨R.val % 4096, by omega⟩ : Fin 4096) = R := Fin.ext (by
    show 4096 * (R.val / 4096) + R.val % 4096 = R.val
    omega)
  rw [val_main_v57_apply, e, v56_at, er]

theorem v59_at (R : Fin 16384) (c : Fin 16) : val_main_v59 (F := Ideal) x0 x2 x4 (ix2 R c) = projP x0 x2 x4 R ⟨4096 + c.val, by omega⟩ := by
  have e : idx_main_v59 (ix2 R c) = ix3 (⟨R.val / 4096, by omega⟩ : Fin 4) (⟨R.val % 4096, by omega⟩ : Fin 4096) c := by
    funext a; apply Fin.ext
    match a with
    | ⟨0, _⟩ => show (R.val * 16 + c.val) / 65536 = R.val / 4096; omega
    | ⟨1, _⟩ => show (R.val * 16 + c.val) / 16 % 4096 = R.val % 4096; omega
    | ⟨2, _⟩ => show (R.val * 16 + c.val) % 16 = c.val; omega
  have er : rowAt (⟨R.val / 4096, by omega⟩ : Fin 4) (⟨R.val % 4096, by omega⟩ : Fin 4096) = R := Fin.ext (by
    show 4096 * (R.val / 4096) + R.val % 4096 = R.val
    omega)
  rw [val_main_v59_apply, e, v58_at, er]

theorem v86_at (R : Fin 512) (c : Fin 7424) : val_main_v86 (F := Ideal) x1 x2 x4 (ix2 R c) = projS x1 x2 x4 R (colOf c) := by
  have e : idx_main_v86 (ix2 R c) = ix3 (⟨R.val / 4, by omega⟩ : Fin 128) (⟨R.val % 4, by omega⟩ : Fin 4) c := by
    funext a; apply Fin.ext
    match a with
    | ⟨0, _⟩ => show (R.val * 7424 + c.val) / 29696 = R.val / 4; omega
    | ⟨1, _⟩ => show (R.val * 7424 + c.val) / 7424 % 4 = R.val % 4; omega
    | ⟨2, _⟩ => show (R.val * 7424 + c.val) % 7424 = c.val; omega
  have er : rowSAt (⟨R.val / 4, by omega⟩ : Fin 128) (⟨R.val % 4, by omega⟩ : Fin 4) = R := Fin.ext (by
    show 4 * (R.val / 4) + R.val % 4 = R.val
    omega)
  rw [val_main_v86_apply, e, v85_at, er]

theorem v88_at (R : Fin 512) (c : Fin 16) : val_main_v88 (F := Ideal) x1 x2 x4 (ix2 R c) = projS x1 x2 x4 R ⟨4096 + c.val, by omega⟩ := by
  have e : idx_main_v88 (ix2 R c) = ix3 (⟨R.val / 4, by omega⟩ : Fin 128) (⟨R.val % 4, by omega⟩ : Fin 4) c := by
    funext a; apply Fin.ext
    match a with
    | ⟨0, _⟩ => show (R.val * 16 + c.val) / 64 = R.val / 4; omega
    | ⟨1, _⟩ => show (R.val * 16 + c.val) / 16 % 4 = R.val % 4; omega
    | ⟨2, _⟩ => show (R.val * 16 + c.val) % 16 = c.val; omega
  have er : rowSAt (⟨R.val / 4, by omega⟩ : Fin 128) (⟨R.val % 4, by omega⟩ : Fin 4) = R := Fin.ext (by
    show 4 * (R.val / 4) + R.val % 4 = R.val
    omega)
  rw [val_main_v88_apply, e, v87_at, er]

/-- Rows over rows. -/
theorem stacked {a b t n : ℕ} (hn : a + b = t) (p : Shape.Idx ⟨2, ![a, n]⟩ → EReal) (q : Shape.Idx ⟨2, ![b, n]⟩ → EReal)
    (h : Shape.Concatenates [⟨2, ![a, n]⟩, ⟨2, ![b, n]⟩] ⟨2, ![t, n]⟩ 0) (R : Fin t) (c : Fin n) :
    concatenate ⟨2, ![t, n]⟩ 0 [⟨⟨2, ![a, n]⟩, p⟩, ⟨⟨2, ![b, n]⟩, q⟩] h (ix2 R c)
      = if hR : R.val < a then p (ix2 (⟨R.val, hR⟩ : Fin a) c) else q (ix2 (⟨R.val - a, by omega⟩ : Fin b) c) := by
  by_cases hR : R.val < a
  · rw [dif_pos hR]
    refine concatenate_pair_apply_left (0 : Fin 2) p q h (ix2 R c) rfl (ix2 (⟨R.val, hR⟩ : Fin a) c) fun d => ?_
    match d with
    | ⟨0, _⟩ => rfl
    | ⟨1, _⟩ => rfl
  · rw [dif_neg hR]
    refine concatenate_pair_apply_right (0 : Fin 2) p q h (ix2 R c) rfl rfl (ix2 (⟨R.val - a, by omega⟩ : Fin b) c) (fun d hd => ?_) ?_
    · match d with
      | ⟨0, _⟩ => exact absurd rfl hd
      | ⟨1, _⟩ => rfl
    · show R.val - a + a = R.val; omega

theorem at_pair {A B : ℕ} (y : Shape.Idx ⟨2, ![A, B]⟩) : y = ix2 (⟨(y 0).val, (y 0).isLt⟩ : Fin A) (⟨(y 1).val, (y 1).isLt⟩ : Fin B) := by
  funext d
  match d with
  | ⟨0, _⟩ => rfl
  | ⟨1, _⟩ => rfl

/-- The reference's packed projections are the specification's. -/
theorem v91_value : val_main_v91 (F := Ideal) x0 x1 x2 x3 x4 = packArr x0 x1 x2 x3 x4 := by
  funext y
  obtain ⟨R, c, rfl⟩ : ∃ (R : Fin 16896) (c : Fin 7424), y = ix2 R c := ⟨_, _, at_pair y⟩
  unfold val_main_v91
  refine (stacked (a := 16384) (b := 512) (t := 16896) (n := 7424) rfl _ _ _ R c).trans ?_
  unfold packArr
  by_cases h : R.val < 16384
  · rw [dif_pos h]
    refine Eq.trans ?_ (dif_pos h).symm
    exact v57_at x0 x2 x3 x4 _ c
  · rw [dif_neg h]
    refine Eq.trans ?_ (dif_neg h).symm
    exact v86_at x1 x2 x4 _ c

theorem v89_at (R : Fin 16896) (c : Fin 16) : val_main_v89 (F := Ideal) x0 x1 x2 x4 (ix2 R c)
    = if h : R.val < 16384 then projP x0 x2 x4 ⟨R.val, h⟩ ⟨4096 + c.val, by omega⟩ else projS x1 x2 x4 ⟨R.val - 16384, by omega⟩ ⟨4096 + c.val, by omega⟩ := by
  unfold val_main_v89
  refine (stacked (a := 16384) (b := 512) (t := 16896) (n := 16) rfl _ _ _ R c).trans ?_
  by_cases h : R.val < 16384
  · rw [dif_pos h, dif_pos h]
    exact v59_at x0 x2 x4 _ c
  · rw [dif_neg h, dif_neg h]
    exact v88_at x1 x2 x4 _ c

/-- The reference's small projection is the specification's. -/
theorem v90_value : val_main_v90 (F := Ideal) x0 x1 x2 x4 = smallArr x0 x1 x2 x4 := by
  funext y
  obtain ⟨R, c, rfl⟩ : ∃ (R : Fin 16896) (c : Fin 128), y = ix2 R c := ⟨_, _, at_pair y⟩
  unfold val_main_v90 smallArr
  by_cases h : c.val < 16
  · refine Eq.trans ?_ (dif_pos h).symm
    refine (pad_apply_of_inside ![0, 0] ![0, 112] ![0, 0] _ _ _ _ (ix2 R c) (ix2 R (⟨c.val, h⟩ : Fin 16)) fun a => ?_).trans (v89_at x0 x1 x2 x4 R ⟨c.val, h⟩)
    match a with
    | ⟨0, _⟩ => show R.val = 0 + R.val * (0 + 1); omega
    | ⟨1, _⟩ => show c.val = 0 + c.val * (0 + 1); omega
  · refine Eq.trans ?_ (dif_neg h).symm
    refine (pad_apply_of_not_inside (s := S16896x16) (t := S16896x128) ![0, 0] ![0, 112] ![0, 0] _ _ pads_S16896x16_S16896x128_000_01120 _ (ix2 R c) (1 : Fin 2) (fun hh => h ?_)).trans ?_
    · have e : (c.val - 0) / (0 + 1) < 16 := hh.2.2
      omega
    · show (((0#32 : BitVec 32).toInt : ℝ) : EReal) = 0
      simp

/-- The reference's last eight rows are the specification's. -/
theorem v92_value : val_main_v92 (F := Ideal) x0 x2 x4 = tailArr x0 x2 x4 := by
  funext y
  have y0 : (y 0).val < 4 := (y 0).isLt
  have y1 : (y 1).val < 8 := (y 1).isLt
  have y2 : (y 2).val < 3072 := (y 2).isLt
  have e : idx_main_v92 y = ix3 (⟨(y 0).val, y0⟩ : Fin 4) (⟨4088 + (y 1).val, by omega⟩ : Fin 4096) (⟨(y 2).val, y2⟩ : Fin 3072) := by
    funext a
    match a with
    | ⟨0, _⟩ => rfl
    | ⟨1, _⟩ => rfl
    | ⟨2, _⟩ => rfl
  rw [val_main_v92_apply, e, v25_at]
  unfold tailArr
  refine congrArg (fun R => projP x0 x2 x4 R _) (Fin.ext ?_)
  show 4096 * (y 0).val + (4088 + (y 1).val) = 4096 * (y 0).val + 4088 + (y 1).val
  omega
end
end Cert.Reference2Ideal.Proj
-- ==== Proof.Equation.lean ====
module
/- The two ways of weighting the values agree where the scores are finite. -/
public import proofs.«01_k».proof.Proof.RefValue
public import proofs.«01_k».proof.Pre_finite_scores
public import Idealize.ShloMosaic.Lib.ReduceAll
@[expose] public section
set_option maxRecDepth 65536
noncomputable section
namespace Cert.Equation
open Cert.ReferenceIdeal Cert.ReferenceIdeal.Attn Cert.Softmax
open Cert.KernelIdeal.Attn (promptAt rowOf keyRow qCol kCol vCol gCol readable biasAt headCol keyScore attended attendedArr)
open Idealize Idealize.ShloMosaic Idealize.ShloMosaic.ValueIdx Idealize.ShloMosaic.TcCoe

/-- The shape facts the precondition states. -/
instance pre_facts : Cert.Pre_finite_scores.Facts where
  slices_S4x4096x7440_S4x4096x1152_0_0_4112 := by decide
  bcast_S_S4x4096x1152 := by decide
  reducesTo_S4x4096x1152_S_d0_1_2 := by decide
  h_S_ := by decide
  bcast_S_S16 := by decide
  reducesTo_S16_S_d0 := by decide
  bcast_S_S32x16 := by decide
  reducesTo_S32x16_S_d0_1 := by decide

theorem pos_inf : Ideal.ofBits .f32 0x7F800000#32 = ⊤ := by
  simp [Ideal.ofBits, Ideal.ieee]

/-- A value whose magnitude is below infinity is a real number. -/
theorem real_of (x : EReal) (h : FloatOps.cmpf (F := Ideal) (φ := .f32) .olt (FloatOps.hostAbsf (F := Ideal) (φ := .f32) x) (Ideal.ofBits .f32 0x7F800000#32) = 1#1) :
    ∃ v : ℝ, x = v := by
  rw [pos_inf] at h
  have h' : BitVec.ofBool (decide (max x (-x) < (⊤ : EReal))) = 1#1 := h
  have h2 : max x (-x) < (⊤ : EReal) := by
    by_contra hc
    rw [decide_eq_false hc] at h'
    exact absurd h' (by decide)
  induction x with
  | bot => exact absurd ((le_max_right (⊥ : EReal) (-⊥)).trans_lt h2) (by simp)
  | coe a => exact ⟨a, rfl⟩
  | top => exact absurd ((le_max_left (⊤ : EReal) (-⊤)).trans_lt h2) (by simp)

theorem and_one (a b : BitVec 1) (h : IntOp.andi a b = 1#1) : a = 1#1 ∧ b = 1#1 := by
  revert a b; decide

variable (a0 : FVec Ideal S4x4096x7440 .f32) (a1 : FVec Ideal S128x4x7440 .f32) (a2 : FVec Ideal S16384x1024 .f32) (a3 : FVec Ideal S16 .f32) (a4 : FVec Ideal S32x16 .f32)

/-- What the precondition says: the queries and keys, the sinks and the bias table are real numbers. -/
theorem pre_real (h : Cert.Pre_finite_scores.fn (F := Ideal) a0 a1 a2 a3 a4 = fun _ => 1#1) :
    (∀ (R : Fin 16384) (C : Fin 7440), 4112 ≤ C.val → C.val < 5264 → ∃ v : ℝ, promptAt a0 R C = v)
      ∧ (∀ k : Fin 16, ∃ v : ℝ, a3 (ix1 k) = v) ∧ ∀ (k : Fin 32) (l : Fin 16), ∃ v : ℝ, a4 (ix2 k l) = v := by
  have h0 := congrFun h ix0
  unfold Cert.Pre_finite_scores.fn at h0
  dsimp only at h0
  obtain ⟨h1, h4⟩ := and_one _ _ h0
  obtain ⟨h2, h3⟩ := and_one _ _ h1
  haveI : Subsingleton S_.Idx := ⟨fun x y => funext fun a => a.elim0⟩
  refine ⟨fun R C hC1 hC2 => ?_, fun k => ?_, fun k l => ?_⟩
  · have e := Host.reduce_andi_all _ _ _ _ _ h2 (ix3 (⟨R.val / 4096, by have := R.isLt; omega⟩ : Fin 4) (⟨R.val % 4096, by omega⟩ : Fin 4096) (⟨C.val - 4112, by omega⟩ : Fin 1152))
    obtain ⟨v, hv⟩ := real_of _ e
    refine ⟨v, Eq.trans ?_ hv⟩
    unfold promptAt
    refine (extractStridedSlice_apply _ _ _ _ _ fun a => ?_).symm
    match a with
    | ⟨0, _⟩ => show R.val / 4096 = 0 + R.val / 4096; omega
    | ⟨1, _⟩ => show R.val % 4096 = 0 + R.val % 4096; omega
    | ⟨2, _⟩ => show C.val = 4112 + (C.val - 4112); omega
  · exact real_of _ (Host.reduce_andi_all _ _ _ _ _ h3 (ix1 k))
  · exact real_of _ (Host.reduce_andi_all _ _ _ _ _ h4 (ix2 k l))

/-- The masked and scaled scores are the same numbers. -/
theorem score_eq (b : Fin 4) (n : Fin 32) (r : Fin 128) (h : Fin 16) (j : Fin 256) : keyScore a0 a4 b n r h j = refScore a0 a4 b n r h j := by
  unfold keyScore refScore
  by_cases hr : readable (decide (n.val = 0)) r j
  · rw [if_pos hr, if_pos hr, sum_mul_real _ _ (by norm_num)]
    refine congrArg (fun z : EReal => z + biasAt a4 h r j) (Finset.sum_congr rfl fun l _ => ?_)
    unfold windowAt
    rw [if_neg (fun hc => by have := hr.2.2 (by simpa using hc.1); omega), mul_comm (promptAt a0 (keyRow b n j) (kCol h l)), mul_assoc, mul_assoc,
      mul_comm (promptAt a0 (keyRow b n j) (kCol h l))]
  · rw [if_neg hr, if_neg hr, EReal.add_bot]

/-- Each score is below infinity. -/
theorem score_lt (H : (∀ (R : Fin 16384) (C : Fin 7440), 4112 ≤ C.val → C.val < 5264 → ∃ v : ℝ, promptAt a0 R C = v)
      ∧ (∀ k : Fin 16, ∃ v : ℝ, a3 (ix1 k) = v) ∧ ∀ (k : Fin 32) (l : Fin 16), ∃ v : ℝ, a4 (ix2 k l) = v)
    (b : Fin 4) (n : Fin 32) (r : Fin 128) (h : Fin 16) (j : Fin 256) : keyScore a0 a4 b n r h j < ⊤ := by
  have hh := h.isLt
  choose q hq using fun l : Fin 64 => H.1 (rowOf b n r) (qCol h l) (by unfold qCol; dsimp only; omega) (by have := l.isLt; unfold qCol; dsimp only; omega)
  choose k hk using fun l : Fin 64 => H.1 (keyRow b n j) (kCol h l) (by unfold kCol; dsimp only; omega) (by have := l.isLt; unfold kCol; dsimp only; omega)
  unfold keyScore
  have e : ∑ l : Fin 64, promptAt a0 (rowOf b n r) (qCol h l) * ((1 / 8 : ℝ) : EReal) * promptAt a0 (keyRow b n j) (kCol h l)
      = ((∑ l : Fin 64, q l * (1 / 8) * k l : ℝ) : EReal) := by
    rw [coe_sum]
    exact Finset.sum_congr rfl fun l _ => by rw [hq, hk, EReal.coe_mul, EReal.coe_mul]
  rw [e]
  by_cases hr : readable (decide (n.val = 0)) r j
  · rw [if_pos hr]
    obtain ⟨v, hv⟩ : ∃ v : ℝ, biasAt a4 h r j = v := H.2.2 _ _
    rw [hv, ← EReal.coe_add]
    exact EReal.coe_lt_top _
  · rw [if_neg hr, EReal.add_bot]; exact bot_lt_top

/-- The kernel's value of an element is the reference's. -/
theorem attended_eq (H : (∀ (R : Fin 16384) (C : Fin 7440), 4112 ≤ C.val → C.val < 5264 → ∃ v : ℝ, promptAt a0 R C = v)
      ∧ (∀ k : Fin 16, ∃ v : ℝ, a3 (ix1 k) = v) ∧ ∀ (k : Fin 32) (l : Fin 16), ∃ v : ℝ, a4 (ix2 k l) = v)
    (b : Fin 4) (n : Fin 32) (r : Fin 128) (h : Fin 16) (d : Fin 64) : attended a0 a2 a3 a4 b n r h d = refAttended a0 a2 a3 a4 b n r h d := by
  unfold attended refAttended
  obtain ⟨s, hs⟩ := H.2.1 h
  have hlt := score_lt a0 a3 a4 H b n r h
  have e : keyScore a0 a4 b n r h = refScore a0 a4 b n r h := funext fun j => score_eq a0 a4 b n r h j
  refine congrArg (fun z : EReal => a2 (ix2 (rowOf b n r) (headCol h d)) + Ideal.logistic (promptAt a0 (rowOf b n r) (gCol h d)) * z) ?_
  rw [hs, sumThenDiv_eq _ _ s hlt, ← e]
  refine divThenSum_congr _ _ _ s hlt fun j => ?_
  by_cases hw : n.val = 0 ∧ j.val < 128
  · left
    rw [score_eq]
    unfold refScore
    exact if_neg fun hr => by have := hr.2.2 (by simpa using hw.1); omega
  · right
    unfold windowAt
    rw [if_neg hw]

theorem result_eq (H : (∀ (R : Fin 16384) (C : Fin 7440), 4112 ≤ C.val → C.val < 5264 → ∃ v : ℝ, promptAt a0 R C = v)
      ∧ (∀ k : Fin 16, ∃ v : ℝ, a3 (ix1 k) = v) ∧ ∀ (k : Fin 32) (l : Fin 16), ∃ v : ℝ, a4 (ix2 k l) = v) :
    Cert.ReferenceIdeal.Read.val_main_v121 (F := Ideal) a0 a2 a3 a4 = attendedArr a0 a2 a3 a4 := by
  funext i
  have h0 : (i 0).val < 16384 := (i 0).isLt
  have h1 : (i 1).val < 1024 := (i 1).isLt
  unfold attendedArr
  rw [attended_eq a0 a2 a3 a4 H]
  refine Eq.trans (congrArg _ (eq_ix2 i)) ((v121_at a0 a2 a3 a4 ⟨(i 0).val / 4096, by omega⟩ ⟨(i 0).val / 128 % 32, Nat.mod_lt _ (by omega)⟩
    ⟨(i 1).val / 512, by omega⟩ ⟨(i 1).val / 64 % 8, Nat.mod_lt _ (by omega)⟩ ⟨(i 0).val % 128, Nat.mod_lt _ (by omega)⟩
    ⟨(i 1).val % 64, Nat.mod_lt _ (by omega)⟩ (i 0) (i 1) ?_ ?_).trans ?_)
  · show (i 0).val = 4096 * ((i 0).val / 4096) + 128 * ((i 0).val / 128 % 32) + (i 0).val % 128
    omega
  · show (i 1).val = 64 * (8 * ((i 1).val / 512) + (i 1).val / 64 % 8) + (i 1).val % 64
    omega
  · refine congrArg (fun h => refAttended a0 a2 a3 a4 _ _ _ h _) (Fin.ext ?_)
    show 8 * ((i 1).val / 512) + (i 1).val / 64 % 8 = (i 1).val / 64
    omega

end Cert.Equation
end
-- ==== Proof.lean ====
/- The certificate's claim: each program's frame, the common text of each kernel program and its idealization, and the
   equality of each kernel's and its reference's arrays over the extended reals (the attention's where every score is
   finite). -/
module

public import proofs.«01_k».proof.Defs
public import proofs.«01_k».proof.Proof.Gen.Kernel.Frame
public import proofs.«01_k».proof.Proof.KernelOut
public import proofs.«01_k».proof.Proof.Gen.Kernel2
public import proofs.«01_k».proof.Proof.Gen.Kernel2Ideal.Frame
public import proofs.«01_k».proof.Proof.Gen.Kernel2Ideal.Points
public import proofs.«01_k».proof.Proof.ProjText
public import proofs.«01_k».proof.Proof.ProjFinal
public import proofs.«01_k».proof.Proof.ProjRef
public import proofs.«01_k».proof.Proof.Gen.Reference2Ideal.Run
public import proofs.«01_k».proof.Proof.Gen.Reference2Ideal.Read
public import proofs.«01_k».proof.Proof.Equation

@[expose] public section

set_option maxRecDepth 65536

noncomputable section

namespace Cert.Proof

open Idealize Idealize.ShloMosaic Idealize.ShloMosaic.ValueIdx Idealize.ShloMosaic.TcCoe Idealize.SL.Sem
open Cert.KernelIdeal.Attn (lastRows attendedArr)
open Cert.Kernel2Ideal.Body (packArr smallArr tailArr in0 in1 in2 in3 in4)

/-- The last 128 positions' columns from `o` on, cut out of the projection in two steps, are `lastRows`. -/
theorem slices_eq (a0 : FVec Ideal Cert.ReferenceIdeal.S4x4096x7440 .f32) (o : ℕ) (ho : o + 128 ≤ 7440)
    (h1 : Cert.ReferenceIdeal.S4x4096x7440.Slices ![0, 0, o] Cert.ReferenceIdeal.S4x4096x128)
    (h2 : Cert.ReferenceIdeal.S4x4096x128.Slices ![0, 3968, 0] Cert.ReferenceIdeal.S4x128x128) :
    extractStridedSlice Cert.ReferenceIdeal.S4x128x128 ![0, 3968, 0]
      (extractStridedSlice Cert.ReferenceIdeal.S4x4096x128 ![0, 0, o] a0 h1) h2 = lastRows a0 o ho := by
  funext i
  have i1 : (i 1).val < 128 := (i 1).isLt
  have i2 : (i 2).val < 128 := (i 2).isLt
  refine (extractStridedSlice_apply _ _ h2 i (ix3 (⟨(i 0).val, (i 0).isLt⟩ : Fin 4) (⟨3968 + (i 1).val, by omega⟩ : Fin 4096) (⟨(i 2).val, i2⟩ : Fin 128)) fun a => ?_).trans ?_
  · match a with
    | ⟨0, _⟩ => show (i 0).val = 0 + (i 0).val; omega
    | ⟨1, _⟩ => rfl
    | ⟨2, _⟩ => show (i 2).val = 0 + (i 2).val; omega
  · unfold lastRows
    refine extractStridedSlice_apply _ _ h1 _ _ fun a => ?_
    match a with
    | ⟨0, _⟩ => show (i 0).val = 0 + (i 0).val; omega
    | ⟨1, _⟩ => show 3968 + (i 1).val = 0 + (3968 + (i 1).val); omega
    | ⟨2, _⟩ => rfl

/-- The reference leaves its arguments and, having no semaphores, every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run m g)

/-- Kernel and reference, started on equal arguments whose scores are finite, end with equal arrays. -/
theorem equal : Cert.algebraic_KernelIdeal_ReferenceIdeal_pre_finite_scores := by
  intro m g m' g' hpre hag
  refine ⟨fun c => attendedArr (Cert.KernelIdeal.Attn.in0 m c) (Cert.KernelIdeal.Attn.in2 m c) (Cert.KernelIdeal.Attn.in3 m c) (Cert.KernelIdeal.Attn.in4 m c),
    fun c => lastRows (Cert.KernelIdeal.Attn.in0 m c) 5136 (by omega), fun c => lastRows (Cert.KernelIdeal.Attn.in0 m c) 5264 (by omega), ?_, ?_⟩
  · exact (θ_run Cert.KernelIdeal.defs _ _).mono (fun _ h c => ⟨(h c).1.1, (h c).1.2.1, (h c).1.2.2, (h c).2⟩) (Cert.KernelIdeal.Attn.run m g)
  · refine (θ_run Cert.ReferenceIdeal.defs _ _).mono (fun _ h c => ⟨(h c).1.trans ?_, (h c).2.1.trans ?_, (h c).2.2.1.trans ?_, (h c).2.2.2⟩)
      (Cert.ReferenceIdeal.Value.run m' g')
    · rw [Cert.ReferenceIdeal.Read.val_main_v121_eq m' c, (hag c).1, (hag c).2.2.1, (hag c).2.2.2.1, (hag c).2.2.2.2]
      exact Cert.Equation.result_eq _ _ _ _ (Cert.Equation.pre_real _ _ _ _ _ (hpre c))
    · rw [(hag c).1]
      exact slices_eq _ 5136 (by omega) _ _
    · rw [(hag c).1]
      exact slices_eq _ 5264 (by omega) _ _

/-- The second kernel program as run: its text is the idealized one's, and the frame holds for any float values. -/
theorem projection_frame (m : (ℓ : Loc Cert.Kernel2.nD Cert.Kernel2.τ Cert.Kernel2.sig) → Buf (Elt Bits) ℓ) (g : Dev Cert.Kernel2.nD → PrngReg) :
    θ_run (Cert.Kernel2.defs (F := Bits)) (onTc (τ := Cert.Kernel2.τ) (Cert.Kernel2.main (F := Bits))) ⟨m, fun _ => 0, g⟩
      (fun r => (∀ c : Dev Cert.Kernel2.nD,
        r.2.mem ((c.tc : Thread Cert.Kernel2.nD Cert.Kernel2.τ).loc Cert.Kernel2.main_arg0) = m ((c.tc : Thread Cert.Kernel2.nD Cert.Kernel2.τ).loc Cert.Kernel2.main_arg0)
        ∧ r.2.mem ((c.tc : Thread Cert.Kernel2.nD Cert.Kernel2.τ).loc Cert.Kernel2.main_arg1) = m ((c.tc : Thread Cert.Kernel2.nD Cert.Kernel2.τ).loc Cert.Kernel2.main_arg1)
        ∧ r.2.mem ((c.tc : Thread Cert.Kernel2.nD Cert.Kernel2.τ).loc Cert.Kernel2.main_arg2) = m ((c.tc : Thread Cert.Kernel2.nD Cert.Kernel2.τ).loc Cert.Kernel2.main_arg2)
        ∧ r.2.mem ((c.tc : Thread Cert.Kernel2.nD Cert.Kernel2.τ).loc Cert.Kernel2.main_arg3) = m ((c.tc : Thread Cert.Kernel2.nD Cert.Kernel2.τ).loc Cert.Kernel2.main_arg3)
        ∧ r.2.mem ((c.tc : Thread Cert.Kernel2.nD Cert.Kernel2.τ).loc Cert.Kernel2.main_arg4) = m ((c.tc : Thread Cert.Kernel2.nD Cert.Kernel2.τ).loc Cert.Kernel2.main_arg4))
        ∧ r.2.sem = fun _ => 0) := by
  rw [tables_eq]
  exact Cert.Kernel2Ideal.Body.frame (F := Bits) m g

/-- The second reference leaves its arguments and, having no semaphores, every counter at zero. -/
theorem projection_reference_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
        ∧ r.2.sem = fun _ => 0) :=
  (θ_run Cert.Reference2Ideal.defs _ _).mono (fun r h => ⟨fun c => (h c).2.2.2, sem_eq_zero_of_no_sems (by decide) r.2⟩)
    (Cert.Reference2Ideal.Value.run m g)

/-- The second kernel and its reference, started on equal arguments, end with equal arrays. -/
theorem projection_equal : Cert.algebraic_Kernel2Ideal_Reference2Ideal := by
  intro m g m' g' _ hag
  refine ⟨fun c => packArr (in0 m c) (in1 m c) (in2 m c) (in3 m c) (in4 m c), fun c => smallArr (in0 m c) (in1 m c) (in2 m c) (in4 m c),
    fun c => tailArr (in0 m c) (in2 m c) (in4 m c), ?_, ?_⟩
  · exact (θ_run Cert.Kernel2Ideal.defs _ _).mono (fun _ h c => ⟨(h c).1.1, (h c).1.2.1, (h c).1.2.2, (h c).2⟩) (Cert.Kernel2Ideal.Body.run m g)
  · refine (θ_run Cert.Reference2Ideal.defs _ _).mono (fun _ h c => ⟨(h c).1.trans ?_, (h c).2.1.trans ?_, (h c).2.2.1.trans ?_, (h c).2.2.2⟩)
      (Cert.Reference2Ideal.Value.run m' g')
    · rw [Cert.Reference2Ideal.Read.val_main_v91_eq m' c, (hag c).1, (hag c).2.1, (hag c).2.2.1, (hag c).2.2.2.1, (hag c).2.2.2.2]
      exact Cert.Reference2Ideal.Proj.v91_value _ _ _ _ _
    · rw [Cert.Reference2Ideal.Read.val_main_v90_eq m' c, (hag c).1, (hag c).2.1, (hag c).2.2.1, (hag c).2.2.2.2]
      exact Cert.Reference2Ideal.Proj.v90_value _ _ _ _
    · refine (Cert.Reference2Ideal.Read.val_main_v92_eq _ _ _).trans ?_
      rw [(hag c).1, (hag c).2.2.1, (hag c).2.2.2.2]
      exact Cert.Reference2Ideal.Proj.v92_value _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Equation.pre_facts,
  fun m g _ => Cert.Kernel.Gen.frame m g, fun m g _ => Cert.KernelIdeal.Gen.frame m g, fun m g _ => Cert.KernelIdeal.Gen.frame m g,
  fun m g _ => reference_frame m g, fun m g _ => reference_frame m g,
  fun m g _ => projection_frame m g, fun m g _ => Cert.Kernel2Ideal.Body.frame m g, fun m g _ => projection_reference_frame m g,
  trivial, equal, trivial, projection_equal⟩

end Cert.Proof

end
